-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_scores_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S2x1024x128 : Shape := ⟨3, ![2, 1024, 128]⟩
abbrev S32x1024x128 : Shape := ⟨3, ![32, 1024, 128]⟩
abbrev S4x8x1024x128 : Shape := ⟨4, ![4, 8, 1024, 128]⟩
abbrev S4x256x1024 : Shape := ⟨3, ![4, 256, 1024]⟩
abbrev S3x4x256x1024 : Shape := ⟨4, ![3, 4, 256, 1024]⟩
abbrev S4x256x8 : Shape := ⟨3, ![4, 256, 8]⟩
abbrev S3 : Shape := ⟨1, ![3]⟩
abbrev S2 : Shape := ⟨1, ![2]⟩
abbrev S6 : Shape := ⟨1, ![6]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x1x1024x128 : Shape := ⟨4, ![1, 1, 1024, 128]⟩
abbrev S64x128 : Shape := ⟨2, ![64, 128]⟩
abbrev S256x128 : Shape := ⟨2, ![256, 128]⟩
abbrev S1x1x64x128 : Shape := ⟨4, ![1, 1, 64, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩
abbrev S256x256 : Shape := ⟨2, ![256, 256]⟩
abbrev S256x1024 : Shape := ⟨2, ![256, 1024]⟩
abbrev S1x256x1024 : Shape := ⟨3, ![1, 256, 1024]⟩
abbrev S1x1x256x1024 : Shape := ⟨4, ![1, 1, 256, 1024]⟩
abbrev S1x4x256x1024 : Shape := ⟨4, ![1, 4, 256, 1024]⟩
abbrev S1x64x1024 : Shape := ⟨3, ![1, 64, 1024]⟩
abbrev S64x1024 : Shape := ⟨2, ![64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S2x1024x128, .f32⟩
  | .local _ .vmem, ⟨5, _⟩ => ⟨S32x1024x128, .bf16⟩
  | .local _ .vmem, ⟨6, _⟩ => ⟨S32x1024x128, .bf16⟩
  | .local _ .vmem, ⟨7, _⟩ => ⟨S4x8x1024x128, .bf16⟩
  | .local _ .vmem, ⟨8, _⟩ => ⟨S4x8x1024x128, .bf16⟩
  | .local _ .vmem, ⟨9, _⟩ => ⟨S4x256x1024, .bf16⟩
  | .local _ .vmem, ⟨10, _⟩ => ⟨S3x4x256x1024, .bf16⟩
  | .local _ .vmem, ⟨11, _⟩ => ⟨S4x256x8, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v10 : BitVec 32 := Scalar.addi v2 c1_i32_2
  let c4_i32_3 : BitVec 32 := 4#32
  let v11 : BitVec 32 := Scalar.remsi v10 c4_i32_3
  let c1_i32_5 : BitVec 32 := 1#32
  let v12 : BitVec 32 := Scalar.muli v11 c1_i32_5
  let v13 : BitVec 32 := Scalar.addi c0_i32_6 v12
  v13.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_7 : BitVec 32 := 2#32
  let v14 : BitVec 32 := Scalar.addi v2 c2_i32_7
  let c4_i32_8 : BitVec 32 := 4#32
  let v15 : BitVec 32 := Scalar.remsi v14 c4_i32_8
  let c1_i32_10 : BitVec 32 := 1#32
  let v16 : BitVec 32 := Scalar.muli v15 c1_i32_10
  let v17 : BitVec 32 := Scalar.addi c0_i32_11 v16
  v17.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_12 : BitVec 32 := 3#32
  let v18 : BitVec 32 := Scalar.addi v2 c3_i32_12
  let c4_i32_13 : BitVec 32 := 4#32
  let v19 : BitVec 32 := Scalar.remsi v18 c4_i32_13
  let c1_i32_15 : BitVec 32 := 1#32
  let v20 : BitVec 32 := Scalar.muli v19 c1_i32_15
  let v21 : BitVec 32 := Scalar.addi c0_i32_16 v20
  v21.toNat
def k0_off1 (d0 : Dev nD) (c1_i32_679 : BitVec 32) (c0_i32_682 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v610 : BitVec 32 := Scalar.addi v2 c1_i32_679
  let c4_i32_680 : BitVec 32 := 4#32
  let v611 : BitVec 32 := Scalar.remsi v610 c4_i32_680
  let c8_i32_681 : BitVec 32 := 8#32
  let v612 : BitVec 32 := Scalar.muli v611 c8_i32_681
  let v613 : BitVec 32 := Scalar.addi v612 c0_i32_682
  let c0_i32_691 : BitVec 32 := 0#32
  let c0_i32_692 : BitVec 32 := 0#32
  ![v613.toNat, 0, 0]
def k0_dev4 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_687 : BitVec 32 := 1#32
  let v614 : BitVec 32 := Scalar.muli v611 c1_i32_687
  let v615 : BitVec 32 := Scalar.addi c0_i32_688 v614
  v615.toNat
def k0_dev5 (d0 : Dev nD) : Nat :=
  let c0_i32_700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_699 : BitVec 32 := 1#32
  let v626 : BitVec 32 := Scalar.muli v611 c1_i32_699
  let v627 : BitVec 32 := Scalar.addi c0_i32_700 v626
  v627.toNat
def k0_dev6 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_711 : BitVec 32 := 1#32
  let v638 : BitVec 32 := Scalar.muli v611 c1_i32_711
  let v639 : BitVec 32 := Scalar.addi c0_i32_712 v638
  v639.toNat
def k0_dev7 (d0 : Dev nD) : Nat :=
  let c0_i32_724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_723 : BitVec 32 := 1#32
  let v650 : BitVec 32 := Scalar.muli v611 c1_i32_723
  let v651 : BitVec 32 := Scalar.addi c0_i32_724 v650
  v651.toNat
def k0_dev8 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_735 : BitVec 32 := 1#32
  let v662 : BitVec 32 := Scalar.muli v611 c1_i32_735
  let v663 : BitVec 32 := Scalar.addi c0_i32_736 v662
  v663.toNat
def k0_dev9 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_747 : BitVec 32 := 1#32
  let v674 : BitVec 32 := Scalar.muli v611 c1_i32_747
  let v675 : BitVec 32 := Scalar.addi c0_i32_748 v674
  v675.toNat
def k0_dev10 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_759 : BitVec 32 := 1#32
  let v686 : BitVec 32 := Scalar.muli v611 c1_i32_759
  let v687 : BitVec 32 := Scalar.addi c0_i32_760 v686
  v687.toNat
def k0_dev11 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_679 : BitVec 32 := 1#32
  let v610 : BitVec 32 := Scalar.addi v2 c1_i32_679
  let c4_i32_680 : BitVec 32 := 4#32
  let v611 : BitVec 32 := Scalar.remsi v610 c4_i32_680
  let c1_i32_771 : BitVec 32 := 1#32
  let v698 : BitVec 32 := Scalar.muli v611 c1_i32_771
  let v699 : BitVec 32 := Scalar.addi c0_i32_772 v698
  v699.toNat
def k0_dev12 (d0 : Dev nD) : Nat :=
  let c0_i32_786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_785 : BitVec 32 := 1#32
  let v712 : BitVec 32 := Scalar.muli v709 c1_i32_785
  let v713 : BitVec 32 := Scalar.addi c0_i32_786 v712
  v713.toNat
def k0_dev13 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_797 : BitVec 32 := 1#32
  let v724 : BitVec 32 := Scalar.muli v709 c1_i32_797
  let v725 : BitVec 32 := Scalar.addi c0_i32_798 v724
  v725.toNat
def k0_dev14 (d0 : Dev nD) : Nat :=
  let c0_i32_810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_809 : BitVec 32 := 1#32
  let v736 : BitVec 32 := Scalar.muli v709 c1_i32_809
  let v737 : BitVec 32 := Scalar.addi c0_i32_810 v736
  v737.toNat
def k0_dev15 (d0 : Dev nD) : Nat :=
  let c0_i32_822 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_821 : BitVec 32 := 1#32
  let v748 : BitVec 32 := Scalar.muli v709 c1_i32_821
  let v749 : BitVec 32 := Scalar.addi c0_i32_822 v748
  v749.toNat
def k0_dev16 (d0 : Dev nD) : Nat :=
  let c0_i32_834 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_833 : BitVec 32 := 1#32
  let v760 : BitVec 32 := Scalar.muli v709 c1_i32_833
  let v761 : BitVec 32 := Scalar.addi c0_i32_834 v760
  v761.toNat
def k0_dev17 (d0 : Dev nD) : Nat :=
  let c0_i32_846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_845 : BitVec 32 := 1#32
  let v772 : BitVec 32 := Scalar.muli v709 c1_i32_845
  let v773 : BitVec 32 := Scalar.addi c0_i32_846 v772
  v773.toNat
def k0_dev18 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_857 : BitVec 32 := 1#32
  let v784 : BitVec 32 := Scalar.muli v709 c1_i32_857
  let v785 : BitVec 32 := Scalar.addi c0_i32_858 v784
  v785.toNat
def k0_dev19 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_777 : BitVec 32 := 3#32
  let v708 : BitVec 32 := Scalar.addi v2 c3_i32_777
  let c4_i32_778 : BitVec 32 := 4#32
  let v709 : BitVec 32 := Scalar.remsi v708 c4_i32_778
  let c1_i32_869 : BitVec 32 := 1#32
  let v796 : BitVec 32 := Scalar.muli v709 c1_i32_869
  let v797 : BitVec 32 := Scalar.addi c0_i32_870 v796
  v797.toNat
def k0_off2 (d0 : Dev nD) (c0_i32_876 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_875 : BitVec 32 := 8#32
  let v806 : BitVec 32 := Scalar.muli v2 c8_i32_875
  let v807 : BitVec 32 := Scalar.addi v806 c0_i32_876
  let c0_i32_882 : BitVec 32 := 0#32
  let c0_i32_883 : BitVec 32 := 0#32
  ![v807.toNat, 0, 0]
def k0_dev20 (d0 : Dev nD) : Nat :=
  let c0_i32_1644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1643 : BitVec 32 := 1#32
  let v1438 : BitVec 32 := Scalar.muli v1435 c1_i32_1643
  let v1439 : BitVec 32 := Scalar.addi c0_i32_1644 v1438
  v1439.toNat
def k0_dev21 (d0 : Dev nD) : Nat :=
  let c0_i32_1656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1655 : BitVec 32 := 1#32
  let v1450 : BitVec 32 := Scalar.muli v1435 c1_i32_1655
  let v1451 : BitVec 32 := Scalar.addi c0_i32_1656 v1450
  v1451.toNat
def k0_dev22 (d0 : Dev nD) : Nat :=
  let c0_i32_1668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1667 : BitVec 32 := 1#32
  let v1462 : BitVec 32 := Scalar.muli v1435 c1_i32_1667
  let v1463 : BitVec 32 := Scalar.addi c0_i32_1668 v1462
  v1463.toNat
def k0_dev23 (d0 : Dev nD) : Nat :=
  let c0_i32_1680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1679 : BitVec 32 := 1#32
  let v1474 : BitVec 32 := Scalar.muli v1435 c1_i32_1679
  let v1475 : BitVec 32 := Scalar.addi c0_i32_1680 v1474
  v1475.toNat
def k0_dev24 (d0 : Dev nD) : Nat :=
  let c0_i32_1692 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1691 : BitVec 32 := 1#32
  let v1486 : BitVec 32 := Scalar.muli v1435 c1_i32_1691
  let v1487 : BitVec 32 := Scalar.addi c0_i32_1692 v1486
  v1487.toNat
def k0_dev25 (d0 : Dev nD) : Nat :=
  let c0_i32_1704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1703 : BitVec 32 := 1#32
  let v1498 : BitVec 32 := Scalar.muli v1435 c1_i32_1703
  let v1499 : BitVec 32 := Scalar.addi c0_i32_1704 v1498
  v1499.toNat
def k0_dev26 (d0 : Dev nD) : Nat :=
  let c0_i32_1716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1715 : BitVec 32 := 1#32
  let v1510 : BitVec 32 := Scalar.muli v1435 c1_i32_1715
  let v1511 : BitVec 32 := Scalar.addi c0_i32_1716 v1510
  v1511.toNat
def k0_dev27 (d0 : Dev nD) : Nat :=
  let c0_i32_1728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1434 : BitVec 32 := Scalar.addi v2 c1_i32_1635
  let c4_i32_1636 : BitVec 32 := 4#32
  let v1435 : BitVec 32 := Scalar.remsi v1434 c4_i32_1636
  let c1_i32_1727 : BitVec 32 := 1#32
  let v1522 : BitVec 32 := Scalar.muli v1435 c1_i32_1727
  let v1523 : BitVec 32 := Scalar.addi c0_i32_1728 v1522
  v1523.toNat
def k0_dev28 (d0 : Dev nD) : Nat :=
  let c0_i32_1742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1741 : BitVec 32 := 1#32
  let v1536 : BitVec 32 := Scalar.muli v1533 c1_i32_1741
  let v1537 : BitVec 32 := Scalar.addi c0_i32_1742 v1536
  v1537.toNat
def k0_dev29 (d0 : Dev nD) : Nat :=
  let c0_i32_1754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1753 : BitVec 32 := 1#32
  let v1548 : BitVec 32 := Scalar.muli v1533 c1_i32_1753
  let v1549 : BitVec 32 := Scalar.addi c0_i32_1754 v1548
  v1549.toNat
def k0_dev30 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1765 : BitVec 32 := 1#32
  let v1560 : BitVec 32 := Scalar.muli v1533 c1_i32_1765
  let v1561 : BitVec 32 := Scalar.addi c0_i32_1766 v1560
  v1561.toNat
def k0_dev31 (d0 : Dev nD) : Nat :=
  let c0_i32_1778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1777 : BitVec 32 := 1#32
  let v1572 : BitVec 32 := Scalar.muli v1533 c1_i32_1777
  let v1573 : BitVec 32 := Scalar.addi c0_i32_1778 v1572
  v1573.toNat
def k0_dev32 (d0 : Dev nD) : Nat :=
  let c0_i32_1790 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1789 : BitVec 32 := 1#32
  let v1584 : BitVec 32 := Scalar.muli v1533 c1_i32_1789
  let v1585 : BitVec 32 := Scalar.addi c0_i32_1790 v1584
  v1585.toNat
def k0_dev33 (d0 : Dev nD) : Nat :=
  let c0_i32_1802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1801 : BitVec 32 := 1#32
  let v1596 : BitVec 32 := Scalar.muli v1533 c1_i32_1801
  let v1597 : BitVec 32 := Scalar.addi c0_i32_1802 v1596
  v1597.toNat
def k0_dev34 (d0 : Dev nD) : Nat :=
  let c0_i32_1814 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1813 : BitVec 32 := 1#32
  let v1608 : BitVec 32 := Scalar.muli v1533 c1_i32_1813
  let v1609 : BitVec 32 := Scalar.addi c0_i32_1814 v1608
  v1609.toNat
def k0_dev35 (d0 : Dev nD) : Nat :=
  let c0_i32_1826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1733 : BitVec 32 := 3#32
  let v1532 : BitVec 32 := Scalar.addi v2 c3_i32_1733
  let c4_i32_1734 : BitVec 32 := 4#32
  let v1533 : BitVec 32 := Scalar.remsi v1532 c4_i32_1734
  let c1_i32_1825 : BitVec 32 := 1#32
  let v1620 : BitVec 32 := Scalar.muli v1533 c1_i32_1825
  let v1621 : BitVec 32 := Scalar.addi c0_i32_1826 v1620
  v1621.toNat
def k0_dev36 (d0 : Dev nD) : Nat :=
  let c0_i32_2212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2211 : BitVec 32 := 1#32
  let v1905 : BitVec 32 := Scalar.muli v1902 c1_i32_2211
  let v1906 : BitVec 32 := Scalar.addi c0_i32_2212 v1905
  v1906.toNat
def k0_dev37 (d0 : Dev nD) : Nat :=
  let c0_i32_2224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2223 : BitVec 32 := 1#32
  let v1917 : BitVec 32 := Scalar.muli v1902 c1_i32_2223
  let v1918 : BitVec 32 := Scalar.addi c0_i32_2224 v1917
  v1918.toNat
def k0_dev38 (d0 : Dev nD) : Nat :=
  let c0_i32_2236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2235 : BitVec 32 := 1#32
  let v1929 : BitVec 32 := Scalar.muli v1902 c1_i32_2235
  let v1930 : BitVec 32 := Scalar.addi c0_i32_2236 v1929
  v1930.toNat
def k0_dev39 (d0 : Dev nD) : Nat :=
  let c0_i32_2248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2247 : BitVec 32 := 1#32
  let v1941 : BitVec 32 := Scalar.muli v1902 c1_i32_2247
  let v1942 : BitVec 32 := Scalar.addi c0_i32_2248 v1941
  v1942.toNat
def k0_dev40 (d0 : Dev nD) : Nat :=
  let c0_i32_2260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2259 : BitVec 32 := 1#32
  let v1953 : BitVec 32 := Scalar.muli v1902 c1_i32_2259
  let v1954 : BitVec 32 := Scalar.addi c0_i32_2260 v1953
  v1954.toNat
def k0_dev41 (d0 : Dev nD) : Nat :=
  let c0_i32_2272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2271 : BitVec 32 := 1#32
  let v1965 : BitVec 32 := Scalar.muli v1902 c1_i32_2271
  let v1966 : BitVec 32 := Scalar.addi c0_i32_2272 v1965
  v1966.toNat
def k0_dev42 (d0 : Dev nD) : Nat :=
  let c0_i32_2284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2283 : BitVec 32 := 1#32
  let v1977 : BitVec 32 := Scalar.muli v1902 c1_i32_2283
  let v1978 : BitVec 32 := Scalar.addi c0_i32_2284 v1977
  v1978.toNat
def k0_dev43 (d0 : Dev nD) : Nat :=
  let c0_i32_2296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2203 : BitVec 32 := 2#32
  let v1901 : BitVec 32 := Scalar.addi v2 c2_i32_2203
  let c4_i32_2204 : BitVec 32 := 4#32
  let v1902 : BitVec 32 := Scalar.remsi v1901 c4_i32_2204
  let c1_i32_2295 : BitVec 32 := 1#32
  let v1989 : BitVec 32 := Scalar.muli v1902 c1_i32_2295
  let v1990 : BitVec 32 := Scalar.addi c0_i32_2296 v1989
  v1990.toNat
def k0_dev44 (d0 : Dev nD) : Nat :=
  let c0_i32_2310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2309 : BitVec 32 := 1#32
  let v2003 : BitVec 32 := Scalar.muli v2000 c1_i32_2309
  let v2004 : BitVec 32 := Scalar.addi c0_i32_2310 v2003
  v2004.toNat
def k0_dev45 (d0 : Dev nD) : Nat :=
  let c0_i32_2322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2321 : BitVec 32 := 1#32
  let v2015 : BitVec 32 := Scalar.muli v2000 c1_i32_2321
  let v2016 : BitVec 32 := Scalar.addi c0_i32_2322 v2015
  v2016.toNat
def k0_dev46 (d0 : Dev nD) : Nat :=
  let c0_i32_2334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2333 : BitVec 32 := 1#32
  let v2027 : BitVec 32 := Scalar.muli v2000 c1_i32_2333
  let v2028 : BitVec 32 := Scalar.addi c0_i32_2334 v2027
  v2028.toNat
def k0_dev47 (d0 : Dev nD) : Nat :=
  let c0_i32_2346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2345 : BitVec 32 := 1#32
  let v2039 : BitVec 32 := Scalar.muli v2000 c1_i32_2345
  let v2040 : BitVec 32 := Scalar.addi c0_i32_2346 v2039
  v2040.toNat
def k0_dev48 (d0 : Dev nD) : Nat :=
  let c0_i32_2358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2357 : BitVec 32 := 1#32
  let v2051 : BitVec 32 := Scalar.muli v2000 c1_i32_2357
  let v2052 : BitVec 32 := Scalar.addi c0_i32_2358 v2051
  v2052.toNat
def k0_dev49 (d0 : Dev nD) : Nat :=
  let c0_i32_2370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2369 : BitVec 32 := 1#32
  let v2063 : BitVec 32 := Scalar.muli v2000 c1_i32_2369
  let v2064 : BitVec 32 := Scalar.addi c0_i32_2370 v2063
  v2064.toNat
def k0_dev50 (d0 : Dev nD) : Nat :=
  let c0_i32_2382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2381 : BitVec 32 := 1#32
  let v2075 : BitVec 32 := Scalar.muli v2000 c1_i32_2381
  let v2076 : BitVec 32 := Scalar.addi c0_i32_2382 v2075
  v2076.toNat
def k0_dev51 (d0 : Dev nD) : Nat :=
  let c0_i32_2394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2301 : BitVec 32 := 2#32
  let v1999 : BitVec 32 := Scalar.addi v2 c2_i32_2301
  let c4_i32_2302 : BitVec 32 := 4#32
  let v2000 : BitVec 32 := Scalar.remsi v1999 c4_i32_2302
  let c1_i32_2393 : BitVec 32 := 1#32
  let v2087 : BitVec 32 := Scalar.muli v2000 c1_i32_2393
  let v2088 : BitVec 32 := Scalar.addi c0_i32_2394 v2087
  v2088.toNat
def k0_dev52 (d0 : Dev nD) : Nat :=
  let c0_i32_8104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8096 : BitVec 32 := 1#32
  let v5931 : BitVec 32 := Scalar.addi v2 c1_i32_8096
  let c4_i32_8097 : BitVec 32 := 4#32
  let v5932 : BitVec 32 := Scalar.remsi v5931 c4_i32_8097
  let c1_i32_8103 : BitVec 32 := 1#32
  let v5933 : BitVec 32 := Scalar.muli v5932 c1_i32_8103
  let v5934 : BitVec 32 := Scalar.addi c0_i32_8104 v5933
  v5934.toNat
def k0_dev53 (d0 : Dev nD) : Nat :=
  let c0_i32_8117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8109 : BitVec 32 := 2#32
  let v5943 : BitVec 32 := Scalar.addi v2 c2_i32_8109
  let c4_i32_8110 : BitVec 32 := 4#32
  let v5944 : BitVec 32 := Scalar.remsi v5943 c4_i32_8110
  let c1_i32_8116 : BitVec 32 := 1#32
  let v5945 : BitVec 32 := Scalar.muli v5944 c1_i32_8116
  let v5946 : BitVec 32 := Scalar.addi c0_i32_8117 v5945
  v5946.toNat
def k0_dev54 (d0 : Dev nD) : Nat :=
  let c0_i32_8130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8122 : BitVec 32 := 3#32
  let v5955 : BitVec 32 := Scalar.addi v2 c3_i32_8122
  let c4_i32_8123 : BitVec 32 := 4#32
  let v5956 : BitVec 32 := Scalar.remsi v5955 c4_i32_8123
  let c1_i32_8129 : BitVec 32 := 1#32
  let v5957 : BitVec 32 := Scalar.muli v5956 c1_i32_8129
  let v5958 : BitVec 32 := Scalar.addi c0_i32_8130 v5957
  v5958.toNat
def k0_dev55 (d0 : Dev nD) : Nat :=
  let c0_i32_8170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8162 : BitVec 32 := 1#32
  let v6011 : BitVec 32 := Scalar.addi v2 c1_i32_8162
  let c4_i32_8163 : BitVec 32 := 4#32
  let v6012 : BitVec 32 := Scalar.remsi v6011 c4_i32_8163
  let c1_i32_8169 : BitVec 32 := 1#32
  let v6013 : BitVec 32 := Scalar.muli v6012 c1_i32_8169
  let v6014 : BitVec 32 := Scalar.addi c0_i32_8170 v6013
  v6014.toNat
def k0_dev56 (d0 : Dev nD) : Nat :=
  let c0_i32_8183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8175 : BitVec 32 := 2#32
  let v6023 : BitVec 32 := Scalar.addi v2 c2_i32_8175
  let c4_i32_8176 : BitVec 32 := 4#32
  let v6024 : BitVec 32 := Scalar.remsi v6023 c4_i32_8176
  let c1_i32_8182 : BitVec 32 := 1#32
  let v6025 : BitVec 32 := Scalar.muli v6024 c1_i32_8182
  let v6026 : BitVec 32 := Scalar.addi c0_i32_8183 v6025
  v6026.toNat
def k0_dev57 (d0 : Dev nD) : Nat :=
  let c0_i32_8196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8188 : BitVec 32 := 3#32
  let v6035 : BitVec 32 := Scalar.addi v2 c3_i32_8188
  let c4_i32_8189 : BitVec 32 := 4#32
  let v6036 : BitVec 32 := Scalar.remsi v6035 c4_i32_8189
  let c1_i32_8195 : BitVec 32 := 1#32
  let v6037 : BitVec 32 := Scalar.muli v6036 c1_i32_8195
  let v6038 : BitVec 32 := Scalar.addi c0_i32_8196 v6037
  v6038.toNat
def k0_dev58 (d0 : Dev nD) : Nat :=
  let c0_i32_8236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8228 : BitVec 32 := 1#32
  let v6091 : BitVec 32 := Scalar.addi v2 c1_i32_8228
  let c4_i32_8229 : BitVec 32 := 4#32
  let v6092 : BitVec 32 := Scalar.remsi v6091 c4_i32_8229
  let c1_i32_8235 : BitVec 32 := 1#32
  let v6093 : BitVec 32 := Scalar.muli v6092 c1_i32_8235
  let v6094 : BitVec 32 := Scalar.addi c0_i32_8236 v6093
  v6094.toNat
def k0_dev59 (d0 : Dev nD) : Nat :=
  let c0_i32_8249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8241 : BitVec 32 := 2#32
  let v6103 : BitVec 32 := Scalar.addi v2 c2_i32_8241
  let c4_i32_8242 : BitVec 32 := 4#32
  let v6104 : BitVec 32 := Scalar.remsi v6103 c4_i32_8242
  let c1_i32_8248 : BitVec 32 := 1#32
  let v6105 : BitVec 32 := Scalar.muli v6104 c1_i32_8248
  let v6106 : BitVec 32 := Scalar.addi c0_i32_8249 v6105
  v6106.toNat
def k0_dev60 (d0 : Dev nD) : Nat :=
  let c0_i32_8262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8254 : BitVec 32 := 3#32
  let v6115 : BitVec 32 := Scalar.addi v2 c3_i32_8254
  let c4_i32_8255 : BitVec 32 := 4#32
  let v6116 : BitVec 32 := Scalar.remsi v6115 c4_i32_8255
  let c1_i32_8261 : BitVec 32 := 1#32
  let v6117 : BitVec 32 := Scalar.muli v6116 c1_i32_8261
  let v6118 : BitVec 32 := Scalar.addi c0_i32_8262 v6117
  v6118.toNat
def k0_dev61 (d0 : Dev nD) : Nat :=
  let c0_i32_8302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8294 : BitVec 32 := 1#32
  let v6171 : BitVec 32 := Scalar.addi v2 c1_i32_8294
  let c4_i32_8295 : BitVec 32 := 4#32
  let v6172 : BitVec 32 := Scalar.remsi v6171 c4_i32_8295
  let c1_i32_8301 : BitVec 32 := 1#32
  let v6173 : BitVec 32 := Scalar.muli v6172 c1_i32_8301
  let v6174 : BitVec 32 := Scalar.addi c0_i32_8302 v6173
  v6174.toNat
def k0_dev62 (d0 : Dev nD) : Nat :=
  let c0_i32_8315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8307 : BitVec 32 := 2#32
  let v6183 : BitVec 32 := Scalar.addi v2 c2_i32_8307
  let c4_i32_8308 : BitVec 32 := 4#32
  let v6184 : BitVec 32 := Scalar.remsi v6183 c4_i32_8308
  let c1_i32_8314 : BitVec 32 := 1#32
  let v6185 : BitVec 32 := Scalar.muli v6184 c1_i32_8314
  let v6186 : BitVec 32 := Scalar.addi c0_i32_8315 v6185
  v6186.toNat
def k0_dev63 (d0 : Dev nD) : Nat :=
  let c0_i32_8328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8320 : BitVec 32 := 3#32
  let v6195 : BitVec 32 := Scalar.addi v2 c3_i32_8320
  let c4_i32_8321 : BitVec 32 := 4#32
  let v6196 : BitVec 32 := Scalar.remsi v6195 c4_i32_8321
  let c1_i32_8327 : BitVec 32 := 1#32
  let v6197 : BitVec 32 := Scalar.muli v6196 c1_i32_8327
  let v6198 : BitVec 32 := Scalar.addi c0_i32_8328 v6197
  v6198.toNat
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x4096, .f32⟩
  | 2 => ⟨S1x4096x32x128, .f32⟩
  | 3 => ⟨S1x4096x32x128, .f32⟩
  | 4 => ⟨S4096x1024, .f32⟩
  | 5 => ⟨S1x1024x4096, .f32⟩
  | 6 => ⟨S1x1024x32x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S1024x4096, .i32⟩
  | 48 => ⟨S1024x4096, .i32⟩
  | 49 => ⟨S1024x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x4096, .i32⟩
  | 95 => ⟨S1024x4096, .i32⟩
  | 96 => ⟨S1024x4096, .i1⟩
  | 97 => ⟨S1024x4096, .i1⟩
  | 98 => ⟨S1x32x1024x4096, .f32⟩
  | 99 => ⟨S_, .f32⟩
  | 100 => ⟨S1x32x1024x4096, .f32⟩
  | 101 => ⟨S1x32x1024x4096, .f32⟩
  | 102 => ⟨S1x1x1024x4096, .i1⟩
  | 103 => ⟨S_, .f32⟩
  | 104 => ⟨S_, .f32⟩
  | 105 => ⟨S1x32x1024x4096, .i1⟩
  | 106 => ⟨S1x32x1024x4096, .f32⟩
  | 107 => ⟨S1x32x1024x4096, .f32⟩
  | 108 => ⟨S_, .f32⟩
  | 109 => ⟨S1x32x1024, .f32⟩
  | 110 => ⟨S1x32x1024x1, .f32⟩
  | 111 => ⟨S1x32x1024x4096, .f32⟩
  | 112 => ⟨S1x32x1024x4096, .f32⟩
  | 113 => ⟨S1x32x1024x4096, .f32⟩
  | 114 => ⟨S_, .i1⟩
  | 115 => ⟨S1024, .i1⟩
  | 116 => ⟨S1x1x1024x1, .i1⟩
  | 117 => ⟨S_, .f32⟩
  | 118 => ⟨S1x32x1024, .f32⟩
  | 119 => ⟨S1x32x1024x1, .f32⟩
  | 120 => ⟨S_, .f32⟩
  | 121 => ⟨S_, .f32⟩
  | 122 => ⟨S1x32x1024x1, .i1⟩
  | 123 => ⟨S1x32x1024x1, .f32⟩
  | 124 => ⟨S1x32x1024x1, .f32⟩
  | 125 => ⟨S1x32x1024x4096, .f32⟩
  | 126 => ⟨S1x32x1024x4096, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x32x1024x4096, .i1⟩
  | 3 => ⟨S1x32x1024x4096, .f32⟩
  | 4 => ⟨S1x32x1024x4096, .f32⟩
  | 5 => ⟨S1x32x128x1024, .f32⟩
  | 6 => ⟨S1x1024x32x128, .f32⟩
  | 7 => ⟨S1x1024x4096, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Prog.lean ====
/- The kernel of `KernelIdeal` written once more, as loops over its blocks. Each block is a function of
   the program that runs after it; `Proof/ProgEq.lean` shows that the printed body is this program. -/
module

public import proofs.«01_k».proof.Proof.Gen.KernelIdeal
public import proofs.«01_k».proof.Proof.Gen.KernelIdeal.Launch

@[expose] public section

noncomputable section

namespace Cert.KProg

open Cert.KernelIdeal Cert.KernelIdeal.Gen
open Idealize.ShloMosaic Idealize.SL.Sem

variable {F : FTy → Type} [FloatOps F]

/-- A program of the kernel's region, returning nothing. -/
abbrev PR (F : FTy → Type) [FloatOps F] := Prog (TpuEff nD τ sig (Elt F) Λ₀ .tc) PUnit

/-! ## Bounds of the blocks -/

theorem inb_head : ∀ (h : Fin 32), ∀ a, (![0, 0, h.val, 0] : Fin 4 → Nat) a + S1x1024x1x128.size a ≤ S1x1024x32x128.size a := by decide +kernel
theorem inb_stage : ∀ (b : Fin 2), ∀ a, (![b.val, 0, 0] : Fin 3 → Nat) a + S1x1024x128.size a ≤ S2x1024x128.size a := by decide +kernel
theorem inb_own : ∀ (h : Fin 32), ∀ a, (![h.val, 0, 0] : Fin 3 → Nat) a + S1x1024x128.size a ≤ S32x1024x128.size a := by decide +kernel
theorem packed_own : ∀ (h : Fin 32), (Rect.unit (s := S32x1024x128) ![h.val, 0, 0] S1x1024x128.size (inb_own h)).PackedRows (EltTy.packing .bf16) := by decide +kernel
theorem inb_land : ∀ (s : Fin 4) (h : Fin 8), ∀ a, (![s.val, h.val, 0, 0] : Fin 4 → Nat) a + S1x1x1024x128.size a ≤ S4x8x1024x128.size a := by decide +kernel
theorem words_land : ∀ (s : Fin 4) (h : Fin 8), (Rect.unit (s := S4x8x1024x128) ![s.val, h.val, 0, 0] S1x1x1024x128.size (inb_land s h)).WholeWords (EltTy.packing .bf16) := by decide +kernel
theorem inb_psend : ∀ (r : Fin 4), ∀ a, (![r.val, 0, 0] : Fin 3 → Nat) a + S1x256x1024.size a ≤ S4x256x1024.size a := by decide +kernel
theorem packed_psend : ∀ (r : Fin 4), (Rect.unit (s := S4x256x1024) ![r.val, 0, 0] S1x256x1024.size (inb_psend r)).PackedRows (EltTy.packing .bf16) := by decide +kernel
theorem words_psend : ∀ (r : Fin 4), (Rect.unit (s := S4x256x1024) ![r.val, 0, 0] S1x256x1024.size (inb_psend r)).WholeWords (EltTy.packing .bf16) := by decide +kernel
theorem inb_precv : ∀ (d : Fin 3) (r : Fin 4), ∀ a, (![d.val, r.val, 0, 0] : Fin 4 → Nat) a + S1x1x256x1024.size a ≤ S3x4x256x1024.size a := by decide +kernel
theorem words_precv : ∀ (d : Fin 3) (r : Fin 4), (Rect.unit (s := S3x4x256x1024) ![d.val, r.val, 0, 0] S1x1x256x1024.size (inb_precv d r)).WholeWords (EltTy.packing .bf16) := by decide +kernel
theorem inb_sem2 : ∀ (b : Fin 2), ∀ a, (![b.val] : Fin 1 → Nat) a + S1.size a ≤ S2.size a := by decide +kernel
theorem inb_sem3 : ∀ (d : Fin 3), ∀ a, (![d.val] : Fin 1 → Nat) a + S1.size a ≤ S3.size a := by decide +kernel
theorem inb_sem6 : ∀ (j : Fin 6), ∀ a, (![j.val] : Fin 1 → Nat) a + S1.size a ≤ S6.size a := by decide +kernel
theorem inb_q : ∀ (r : Fin 4) (h : Fin 8) (m : Fin 4), ∀ a, (![64 * r.val + 256 * m.val, 128 * h.val] : Fin 2 → Nat) a + S64x128.size a ≤ S1024x1024.size a := by decide +kernel
theorem inb_kv : ∀ (s : Fin 4) (h : Fin 8) (r m : Fin 4), ∀ a, (![s.val, h.val, 64 * r.val + 256 * m.val, 0] : Fin 4 → Nat) a + S1x1x64x128.size a ≤ S4x8x1024x128.size a := by decide +kernel
theorem inb_ctx : ∀ (r : Fin 4) (h : Fin 8), ∀ a, (![256 * r.val, 128 * h.val] : Fin 2 → Nat) a + S256x128.size a ≤ S1024x1024.size a := by decide +kernel
theorem inb_rows : ∀ (r : Fin 4), ∀ a, (![256 * r.val, 0] : Fin 2 → Nat) a + S256x1024.size a ≤ S1024x1024.size a := by decide +kernel
theorem inb_lsum : ∀ (r : Fin 4), ∀ a, (![r.val, 0, 0] : Fin 3 → Nat) a + S1x256x8.size a ≤ S4x256x8.size a := by decide +kernel
theorem inb_pall : ∀ (d : Fin 3), ∀ a, (![d.val, 0, 0, 0] : Fin 4 → Nat) a + S1x4x256x1024.size a ≤ S3x4x256x1024.size a := by decide +kernel
theorem inb_res : ∀ (m : Fin 4) (r : Fin 4), ∀ a, (![0, 64 * r.val + 256 * m.val, 0] : Fin 3 → Nat) a + S1x64x1024.size a ≤ S1x1024x1024.size a := by decide +kernel
theorem inb_row64 : ∀ (r : Fin 4) (m : Fin 4), ∀ a, (![256 * r.val + 64 * m.val, 0] : Fin 2 → Nat) a + S64x1024.size a ≤ S1024x1024.size a := by decide +kernel
theorem slices_col : ∀ (h : Fin 8), S256x8.Slices ![0, h.val] S256x1 := by decide +kernel

/-! ## The arrays and their blocks -/

abbrev xM := Memref.whole (sig := sig) main_arg0
abbrev wqM := Memref.whole (sig := sig) main_arg1
abbrev woM := Memref.whole (sig := sig) main_arg4
abbrev outM := Memref.whole (sig := sig) main_v1
abbrev xvM := Memref.whole (sig := sig) cc0_scratch0
abbrev wvM := Memref.whole (sig := sig) cc0_scratch1
abbrev qM := Memref.whole (sig := sig) cc0_scratch2
abbrev ovM := Memref.whole (sig := sig) cc0_scratch3
abbrev stageM := Memref.whole (sig := sig) cc0_scratch4
abbrev psM := Memref.whole (sig := sig) cc0_scratch9
abbrev prM := Memref.whole (sig := sig) cc0_scratch10
abbrev lsM := Memref.whole (sig := sig) cc0_scratch11

/-- The keys (`false`) or the values (`true`) of the device, in HBM. -/
def kvM : Bool → Memref sig .tc .hbm S1x1024x32x128 .f32
  | false => Memref.whole main_arg2
  | true => Memref.whole main_arg3
/-- The keys or the values of the device rounded to bf16, by head. -/
def bfM : Bool → Memref sig .tc .vmem S32x1024x128 .bf16
  | false => Memref.whole cc0_scratch5
  | true => Memref.whole cc0_scratch6
/-- The gathered keys or values, by slot and head. -/
def allM : Bool → Memref sig .tc .vmem S4x8x1024x128 .bf16
  | false => Memref.whole cc0_scratch7
  | true => Memref.whole cc0_scratch8

theorem bfM_whole : ∀ t, (bfM t).IsWhole
  | false => Memref.isWhole_whole _
  | true => Memref.isWhole_whole _
theorem allM_whole : ∀ t, (allM t).IsWhole
  | false => Memref.isWhole_whole _
  | true => Memref.isWhole_whole _

/-- `x` as a matrix. -/
def xIn : Memref sig .tc .hbm S1024x1024 .f32 :=
  (xM.slice (Rect.unit (s := S1x1024x1024) ![0, 0, 0] S1x1024x1024.size inb_S1x1024x1024_S1x1024x1024_0_0_0) (fun _ => rfl)).squeeze
    S1024x1024 squeezes_S1x1024x1024_S1024x1024
/-- One head of the device's keys or values. -/
def headIn (t : Bool) (h : Fin 32) : Memref sig .tc .hbm S1024x128 .f32 :=
  ((kvM t).slice (Rect.unit (s := S1x1024x32x128) ![0, 0, h.val, 0] S1x1024x1x128.size (inb_head h)) (fun _ => rfl)).squeeze
    S1024x128 squeezes_S1x1024x1x128_S1024x128
/-- One of the two staging blocks. -/
def stg (b : Fin 2) : Memref sig .tc .vmem S1024x128 .f32 :=
  (stageM.slice (Rect.unit (s := S2x1024x128) ![b.val, 0, 0] S1x1024x128.size (inb_stage b)) (fun _ => rfl)).squeeze
    S1024x128 squeezes_S1x1024x128_S1024x128
/-- The head the device sends to the device `d + 1` further on, as its `h`th. -/
def ownTo (t : Bool) (c : Dev nD) (d : Fin 3) (h : Fin 8) : Memref sig .tc .vmem S1024x128 .bf16 :=
  ((bfM t).slice (Rect.unit (s := S32x1024x128) (k0_off1 c (BitVec.ofNat 32 (1 + d.val)) (BitVec.ofNat 32 h.val)) S1x1024x128.size
    (k0_off1_inb c d h)) (fun _ => rfl)).squeeze S1024x128 squeezes_S1x1024x128_S1024x128
/-- The head the device keeps, as its `h`th. -/
def ownKeep (t : Bool) (c : Dev nD) (h : Fin 8) : Memref sig .tc .vmem S1024x128 .bf16 :=
  ((bfM t).slice (Rect.unit (s := S32x1024x128) (k0_off2 c (BitVec.ofNat 32 h.val)) S1x1024x128.size
    (k0_off2_inb c h)) (fun _ => rfl)).squeeze S1024x128 squeezes_S1x1024x128_S1024x128
/-- The block of head `h` in slot `s`. -/
def land (t : Bool) (s : Fin 4) (h : Fin 8) : Memref sig .tc .vmem S1024x128 .bf16 :=
  ((allM t).slice (Rect.unit (s := S4x8x1024x128) ![s.val, h.val, 0, 0] S1x1x1024x128.size (inb_land s h)) (fun _ => rfl)).squeeze
    S1024x128 squeezes_S1x1x1024x128_S1024x128
/-- The partial result of row block `r` that goes out. -/
def pOut (r : Fin 4) : Memref sig .tc .vmem S256x1024 .bf16 :=
  (psM.slice (Rect.unit (s := S4x256x1024) ![r.val, 0, 0] S1x256x1024.size (inb_psend r)) (fun _ => rfl)).squeeze
    S256x1024 squeezes_S1x256x1024_S256x1024
/-- Where the partial result of row block `r` of the device `d + 1` back lands. -/
def pLand (d : Fin 3) (r : Fin 4) : Memref sig .tc .vmem S256x1024 .bf16 :=
  (prM.slice (Rect.unit (s := S3x4x256x1024) ![d.val, r.val, 0, 0] S1x1x256x1024.size (inb_precv d r)) (fun _ => rfl)).squeeze
    S256x1024 squeezes_S1x1x256x1024_S256x1024
/-- 64 rows of the accumulated result. -/
def accRows (r m : Fin 4) : Memref sig .tc .vmem S64x1024 .f32 :=
  ovM.slice (Rect.unit (s := S1024x1024) ![256 * r.val + 64 * m.val, 0] S64x1024.size (inb_row64 r m)) (fun _ => rfl)
/-- The rows of the result they belong to. -/
def resRows (r m : Fin 4) : Memref sig .tc .hbm S64x1024 .f32 :=
  (outM.slice (Rect.unit (s := S1x1024x1024) ![0, 64 * r.val + 256 * m.val, 0] S1x64x1024.size (inb_res m r)) (fun _ => rfl)).squeeze
    S64x1024 squeezes_S1x64x1024_S64x1024

theorem xIn_exact : xIn.view.WordExact := (View.wordExact_bits rfl).reshape _ _
theorem headIn_exact (t : Bool) (h : Fin 32) : (headIn t h).view.WordExact := (View.wordExact_bits rfl).reshape _ _
theorem stg_exact (b : Fin 2) : (stg b).view.WordExact := (View.wordExact_bits rfl).reshape _ _
theorem ownTo_exact (t : Bool) (c : Dev nD) (d : Fin 3) (h : Fin 8) : (ownTo t c d h).view.WordExact :=
  ((bfM_whole t).wordExact_slice rfl _ (k0_off1_wordsbf16 c d h)).reshape _ _
theorem ownKeep_exact (t : Bool) (c : Dev nD) (h : Fin 8) : (ownKeep t c h).view.WordExact :=
  ((bfM_whole t).wordExact_slice rfl _ (k0_off2_wordsbf16 c h)).reshape _ _
theorem land_exact (t : Bool) (s : Fin 4) (h : Fin 8) : (land t s h).view.WordExact :=
  ((allM_whole t).wordExact_slice rfl _ (words_land s h)).reshape _ _
theorem pOut_exact (r : Fin 4) : (pOut r).view.WordExact :=
  ((Memref.isWhole_whole cc0_scratch9).wordExact_slice rfl _ (words_psend r)).reshape _ _
theorem pLand_exact (d : Fin 3) (r : Fin 4) : (pLand d r).view.WordExact :=
  ((Memref.isWhole_whole cc0_scratch10).wordExact_slice rfl _ (words_precv d r)).reshape _ _
theorem accRows_exact (r m : Fin 4) : (accRows r m).view.WordExact := View.wordExact_bits rfl
theorem resRows_exact (r m : Fin 4) : (resRows r m).view.WordExact := (View.wordExact_bits rfl).reshape _ _

/-! ## The semaphores -/

def semSend (t : Bool) (d : Fin 3) : DmaSems sig S_ :=
  match t with
  | false => (cc0_scratch12.slice (Rect.unit (s := S3) ![d.val] S1.size (inb_sem3 d))).squeeze S_ squeezes_S1_S_
  | true => (cc0_scratch14.slice (Rect.unit (s := S3) ![d.val] S1.size (inb_sem3 d))).squeeze S_ squeezes_S1_S_
def semRecv (t : Bool) (d : Fin 3) : DmaSems sig S_ :=
  match t with
  | false => (cc0_scratch13.slice (Rect.unit (s := S3) ![d.val] S1.size (inb_sem3 d))).squeeze S_ squeezes_S1_S_
  | true => (cc0_scratch15.slice (Rect.unit (s := S3) ![d.val] S1.size (inb_sem3 d))).squeeze S_ squeezes_S1_S_
def semPSend (d : Fin 3) : DmaSems sig S_ :=
  (cc0_scratch16.slice (Rect.unit (s := S3) ![d.val] S1.size (inb_sem3 d))).squeeze S_ squeezes_S1_S_
def semPRecv (d : Fin 3) : DmaSems sig S_ :=
  (cc0_scratch17.slice (Rect.unit (s := S3) ![d.val] S1.size (inb_sem3 d))).squeeze S_ squeezes_S1_S_
def semConv (b : Fin 2) : DmaSems sig S_ :=
  (cc0_scratch18.slice (Rect.unit (s := S2) ![b.val] S1.size (inb_sem2 b))).squeeze S_ squeezes_S1_S_
def semLoc (j : Fin 6) : DmaSems sig S_ :=
  (cc0_scratch19.slice (Rect.unit (s := S6) ![j.val] S1.size (inb_sem6 j))).squeeze S_ squeezes_S1_S_
def semBar : Sems sig S_ := SemArray.scalar (sig.barrier 0 rfl)

/-- The device `w` further on, as the kernel computes it. -/
def toDev (c : Dev nD) (w : BitVec 32) : Nat :=
  (Scalar.addi 0#32 (Scalar.muli (Scalar.remsi (Scalar.addi (Scalar.remsi (Scalar.divsi (Dev.word c) 1#32) 4#32) w) 4#32) 1#32)).toNat
theorem toDev_lt : ∀ (c : Dev nD) (d : Fin 3), toDev c (BitVec.ofNat 32 (1 + d.val)) < nD := by decide +kernel
/-- The device `d + 1` further on. -/
def dstDev (c : Dev nD) (d : Fin 3) : Dev nD := ⟨toDev c (BitVec.ofNat 32 (1 + d.val)), toDev_lt c d⟩

/-! ## Indices in the order the loops run over them -/

def all4 : List (Fin 4) := [⟨0, by decide⟩, ⟨1, by decide⟩, ⟨2, by decide⟩, ⟨3, by decide⟩]
def all8 : List (Fin 8) := [⟨0, by decide⟩, ⟨1, by decide⟩, ⟨2, by decide⟩, ⟨3, by decide⟩, ⟨4, by decide⟩, ⟨5, by decide⟩, ⟨6, by decide⟩, ⟨7, by decide⟩]
def all3 : List (Fin 3) := [⟨0, by decide⟩, ⟨1, by decide⟩, ⟨2, by decide⟩]

/-- `f` at each element in turn, then `k`. -/
def each {α : Type} (l : List α) (f : α → PR F → PR F) (k : PR F) : PR F := l.foldr f k

/-! ## The steps -/

def ld {sp : CoreSpace} {s : Shape} {e : EltTy} (m : Memref sig .tc sp s e) (r : Rect s) (h : m.view.LoadsAt r.toLoadRect)
    (K : (r.toLoadRect.shape.Idx → Elt F e) → PR F) : PR F := .op (.load m r.toLoadRect h) K

def startX (k : PR F) : PR F :=
  .op (.enqueueDma xIn (.here xvM) (.dma (semLoc 2).sem) xIn_exact (Memref.isWhole_whole cc0_scratch0).wordExact ⟨Or.inl rfl, trivial⟩) fun _ => k
def startWq (k : PR F) : PR F :=
  .op (.enqueueDma wqM (.here wvM) (.dma (semLoc 3).sem) (Memref.isWhole_whole main_arg1).wordExact (Memref.isWhole_whole cc0_scratch1).wordExact ⟨Or.inl rfl, trivial⟩) fun _ => k
def startWo (k : PR F) : PR F :=
  .op (.enqueueDma woM (.here wvM) (.dma (semLoc 4).sem) (Memref.isWhole_whole main_arg4).wordExact (Memref.isWhole_whole cc0_scratch1).wordExact ⟨Or.inl rfl, trivial⟩) fun _ => k
def waitX (k : PR F) : PR F :=
  .op (.waitDma2 (semLoc 2).sem xIn xvM xIn_exact (Memref.isWhole_whole cc0_scratch0).wordExact) fun _ => k
def waitWq (k : PR F) : PR F :=
  .op (.waitDma2 (semLoc 3).sem wqM wvM (Memref.isWhole_whole main_arg1).wordExact (Memref.isWhole_whole cc0_scratch1).wordExact) fun _ => k
def waitWo (k : PR F) : PR F :=
  .op (.waitDma2 (semLoc 4).sem woM wvM (Memref.isWhole_whole main_arg4).wordExact (Memref.isWhole_whole cc0_scratch1).wordExact) fun _ => k

def signal (c : Dev nD) (d : Fin 3) (k : PR F) : PR F := .op (.semSignal (dstDev c d, .tc) semBar.sem (1#32 : BitVec 32).toInt) fun _ => k
def waitBar (k : PR F) : PR F := .op (.semWait semBar.sem (3#32 : BitVec 32).toInt) fun _ => k

/-- Start the copy of head `h` of the keys or values into staging block `b`. -/
def fetch (t : Bool) (h : Fin 32) (b : Fin 2) (k : PR F) : PR F :=
  .op (.enqueueDma (headIn t h) (.here (stg b)) (.dma (semConv b).sem) (headIn_exact t h) (stg_exact b) ⟨Or.inl rfl, trivial⟩) fun _ => k
/-- One head rounded to bf16. -/
def cvt (v : Vec F S1x1024x128 .f32) : FVec F S1x1024x128 .bf16 :=
  shapeCast S1x1024x128 (truncf .bf16 (shapeCast S1024x128 v shapeCasts_S1x1024x128_S1024x128) bitsLt_bf16_f32 : FVec F S1024x128 .bf16)
    shapeCasts_S1024x128_S1x1024x128
/-- Await it, and store it rounded. -/
def convert (t : Bool) (h : Fin 32) (b : Fin 2) (k : PR F) : PR F :=
  .op (.waitDma2 (semConv b).sem (headIn t h) (stg b) (headIn_exact t h) (stg_exact b)) fun _ =>
  ld stageM (Rect.unit (s := S2x1024x128) ![b.val, 0, 0] S1x1024x128.size (inb_stage b)) (View.loadsAt_vmem h_S1x1024x128) fun v =>
  ld (bfM t) (Rect.unit (s := S32x1024x128) ![h.val, 0, 0] S1x1024x128.size (inb_own h)) (View.loadsAt_vmem h_S1x1024x128) fun _ =>
  .op (.store (bfM t) (Rect.unit (s := S32x1024x128) ![h.val, 0, 0] S1x1024x128.size (inb_own h)) (cvt v) Finset.univ
    (View.stores_vmem h_S1x1024x128 ((bfM_whole t).storeExact_slice rfl _ (packed_own h)) (fun _ => rfl)) (.inl rfl)) fun _ => k

/-- Send head `h` of the device `d + 1` further on to it. -/
def send (t : Bool) (c : Dev nD) (d : Fin 3) (h : Fin 8) (k : PR F) : PR F :=
  .op (.enqueueDma (ownTo t c d h) (.remote (Dev.tc (dstDev c d)) (land t ⟨d.val, by omega⟩ h) (.dma (semSend t d).sem)) (.dma (semRecv t d).sem)
    (ownTo_exact t c d h) (land_exact t ⟨d.val, by omega⟩ h) ⟨⟨rfl, Or.inl rfl⟩, trivial⟩) fun _ => k
/-- Copy the head the device keeps. -/
def keep (t : Bool) (c : Dev nD) (h : Fin 8) (k : PR F) : PR F :=
  .op (.enqueueDma (ownKeep t c h) (.here (land t 3 h)) (.dma (semLoc (cond t 1 0)).sem) (ownKeep_exact t c h) (land_exact t 3 h) ⟨Or.inl rfl, trivial⟩) fun _ => k
def waitSend (t : Bool) (c : Dev nD) (d : Fin 3) (h : Fin 8) (k : PR F) : PR F :=
  .op (.waitDma2 (semSend t d).sem (land t ⟨d.val, by omega⟩ h) (ownTo t c d h) (land_exact t ⟨d.val, by omega⟩ h) (ownTo_exact t c d h)) fun _ => k
def waitKeep (t : Bool) (c : Dev nD) (h : Fin 8) (k : PR F) : PR F :=
  .op (.waitDma2 (semLoc (cond t 1 0)).sem (ownKeep t c h) (land t 3 h) (ownKeep_exact t c h) (land_exact t 3 h)) fun _ => k
def waitRecv (t : Bool) (c : Dev nD) (d : Fin 3) (h : Fin 8) (k : PR F) : PR F :=
  .op (.waitDma2 (semRecv t d).sem (ownTo t c d h) (land t ⟨d.val, by omega⟩ h) (ownTo_exact t c d h) (land_exact t ⟨d.val, by omega⟩ h)) fun _ => k

/-! ## The projection of the queries -/

def qProj (x w : Vec F S1024x1024 .f32) : FVec F S1024x1024 .bf16 :=
  shapeCast S1024x1024 (truncf .bf16 (matmul dot_S1024x1024_S1024x1024_S1024x1024_1_0_0_1_n_n none x w (constant S1024x1024 .f32 0x00000000#32)) bitsLt_bf16_f32 : FVec F S1024x1024 .bf16)
    shapeCasts_S1024x1024_S1024x1024

abbrev fullR : Rect S1024x1024 := Rect.unit (s := S1024x1024) ![0, 0] S1024x1024.size inb_S1024x1024_S1024x1024_0_0

def project (k : PR F) : PR F :=
  ld xvM fullR (View.loadsAt_vmem h_S1024x1024) fun x =>
  ld wvM fullR (View.loadsAt_vmem h_S1024x1024) fun w =>
  ld qM fullR (View.loadsAt_vmem h_S1024x1024) fun _ =>
  .op (.store qM fullR (qProj x w) Finset.univ
    (View.stores_vmem h_S1024x1024 ((Memref.isWhole_whole cc0_scratch2).storeExact_slice rfl _ packedbf16_S1024x1024_S1024x1024_0_0) (fun _ => rfl)) (.inl rfl)) fun _ => k

/-! ## Attention -/

abbrev qR (r : Fin 4) (h : Fin 8) (m : Fin 4) : Rect S1024x1024 :=
  Rect.unit (s := S1024x1024) ![64 * r.val + 256 * m.val, 128 * h.val] S64x128.size (inb_q r h m)
abbrev kvR (s : Fin 4) (h : Fin 8) (r m : Fin 4) : Rect S4x8x1024x128 :=
  Rect.unit (s := S4x8x1024x128) ![s.val, h.val, 64 * r.val + 256 * m.val, 0] S1x1x64x128.size (inb_kv s h r m)
abbrev ctxR (r : Fin 4) (h : Fin 8) : Rect S1024x1024 :=
  Rect.unit (s := S1024x1024) ![256 * r.val, 128 * h.val] S256x128.size (inb_ctx r h)
abbrev lsR (r : Fin 4) : Rect S4x256x8 := Rect.unit (s := S4x256x8) ![r.val, 0, 0] S1x256x8.size (inb_lsum r)

/-- The query rows of row block `r` for head `h`. -/
def ldQ (r : Fin 4) (h : Fin 8) (K : FVec F S256x128 .bf16 → PR F) : PR F :=
  ld qM (qR r h 0) (View.loadsAt_vmem h_S64x128) fun a =>
  ld qM (qR r h 1) (View.loadsAt_vmem h_S64x128) fun b =>
  ld qM (qR r h 2) (View.loadsAt_vmem h_S64x128) fun c =>
  ld qM (qR r h 3) (View.loadsAt_vmem h_S64x128) fun d =>
  K (concatenate S256x128 0 [⟨S64x128, a⟩, ⟨S64x128, b⟩, ⟨S64x128, c⟩, ⟨S64x128, d⟩] concatenates_S64x128_S64x128_S64x128_S64x128_S256x128_d0)

/-- 64 rows of slot `s`. -/
def ldS (t : Bool) (s : Fin 4) (h : Fin 8) (r m : Fin 4) (K : FVec F S64x128 .bf16 → PR F) : PR F :=
  ld (allM t) (kvR s h r m) (View.loadsAt_vmem h_S1x1x64x128) fun a => K (shapeCast S64x128 a shapeCasts_S1x1x64x128_S64x128)

/-- The rows of row block `r` of slot 1. -/
def ld4 (t : Bool) (h : Fin 8) (r : Fin 4) (K : FVec F S256x128 .bf16 → PR F) : PR F :=
  ldS t 1 h r 0 fun a => ldS t 1 h r 1 fun b => ldS t 1 h r 2 fun c => ldS t 1 h r 3 fun d =>
  K (concatenate S256x128 0 [⟨S64x128, a⟩, ⟨S64x128, b⟩, ⟨S64x128, c⟩, ⟨S64x128, d⟩] concatenates_S64x128_S64x128_S64x128_S64x128_S256x128_d0)

/-- The rows of row block `r` of slots 3, 0 and 2. -/
def ld12 (t : Bool) (h : Fin 8) (r : Fin 4) (K : FVec F S768x128 .bf16 → PR F) : PR F :=
  ldS t 3 h r 0 fun a0 => ldS t 3 h r 1 fun a1 => ldS t 3 h r 2 fun a2 => ldS t 3 h r 3 fun a3 =>
  ldS t 0 h r 0 fun b0 => ldS t 0 h r 1 fun b1 => ldS t 0 h r 2 fun b2 => ldS t 0 h r 3 fun b3 =>
  ldS t 2 h r 0 fun c0 => ldS t 2 h r 1 fun c1 => ldS t 2 h r 2 fun c2 => ldS t 2 h r 3 fun c3 =>
  K (concatenate S768x128 0 [⟨S64x128, a0⟩, ⟨S64x128, a1⟩, ⟨S64x128, a2⟩, ⟨S64x128, a3⟩, ⟨S64x128, b0⟩, ⟨S64x128, b1⟩, ⟨S64x128, b2⟩, ⟨S64x128, b3⟩,
    ⟨S64x128, c0⟩, ⟨S64x128, c1⟩, ⟨S64x128, c2⟩, ⟨S64x128, c3⟩]
    concatenates_S64x128_S64x128_S64x128_S64x128_S64x128_S64x128_S64x128_S64x128_S64x128_S64x128_S64x128_S64x128_S768x128_d0)

def ew12 (q : FVec F S256x128 .bf16) (k : FVec F S768x128 .bf16) : FVec F S256x768 .f32 :=
  exp (mulf (matmul dot_S256x128_S768x128_S256x768_1_1_0_0_n_n none q k (constant S256x768 .f32 0x00000000#32))
    (broadcast S256x768 (Scalar.ofBits .f32 0x3DB504F3#32)))
def pv12 (e : FVec F S256x768 .f32) (v : FVec F S768x128 .bf16) : FVec F S256x128 .f32 :=
  matmul dot_S256x768_S768x128_S256x128_1_0_0_1_n_n none (truncf .bf16 e bitsLt_bf16_f32) v (constant S256x128 .f32 0x00000000#32)
def sum12 (e : FVec F S256x768 .f32) : FVec F S256x1 .f32 :=
  shapeCast S256x1 (multiReduction .add [1] S256 e 0x00000000#32 reduces_S256x768_S256 (.inl rfl) rfl : FVec F S256 .f32) shapeCasts_S256_S256x1
def ew4 (q : FVec F S256x128 .bf16) (k : FVec F S256x128 .bf16) : FVec F S256x256 .f32 :=
  exp (mulf (matmul dot_S256x128_S256x128_S256x256_1_1_0_0_n_n none q k (constant S256x256 .f32 0x00000000#32))
    (broadcast S256x256 (Scalar.ofBits .f32 0x3DB504F3#32)))
def pv4 (e : FVec F S256x256 .f32) (v : FVec F S256x128 .bf16) : FVec F S256x128 .f32 :=
  matmul dot_S256x256_S256x128_S256x128_1_0_0_1_n_n none (truncf .bf16 e bitsLt_bf16_f32) v (constant S256x128 .f32 0x00000000#32)
def sum4 (e : FVec F S256x256 .f32) : FVec F S256x1 .f32 :=
  shapeCast S256x1 (multiReduction .add [1] S256 e 0x00000000#32 reduces_S256x256_S256 (.inl rfl) rfl : FVec F S256 .f32) shapeCasts_S256_S256x1

def stCtx (r : Fin 4) (h : Fin 8) (v : FVec F S256x128 .f32) (k : PR F) : PR F :=
  .op (.store xvM (ctxR r h) (shapeCast S256x128 v shapeCasts_S256x128_S256x128) Finset.univ (View.stores_vmem_bits_univ h_S256x128 rfl) (.inl rfl)) fun _ => k

/-- One head of the first pass: store the weighted values, return the row sums of the weights. -/
def headA (r : Fin 4) (h : Fin 8) (K : FVec F S256x1 .f32 → PR F) : PR F :=
  ldQ r h fun q => ld12 false h r fun k => ld12 true h r fun v =>
  ld xvM (ctxR r h) (View.loadsAt_vmem h_S256x128) fun _ =>
  stCtx r h (pv12 (ew12 q k) v) (K (sum12 (ew12 q k)))

/-- One head of the second pass: add the weighted values. -/
def headB (r : Fin 4) (h : Fin 8) (K : FVec F S256x1 .f32 → PR F) : PR F :=
  ldQ r h fun q => ld4 false h r fun k => ld4 true h r fun v =>
  ld xvM (ctxR r h) (View.loadsAt_vmem h_S256x128) fun a =>
  ld xvM (ctxR r h) (View.loadsAt_vmem h_S256x128) fun _ =>
  stCtx r h (addf a (pv4 (ew4 q k) v)) (K (sum4 (ew4 q k)))

def cols (c0 c1 c2 c3 c4 c5 c6 c7 : FVec F S256x1 .f32) : FVec F S256x8 .f32 :=
  concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩]
    concatenates_S256x1_S256x1_S256x1_S256x1_S256x1_S256x1_S256x1_S256x1_S256x8_d1

def stLs (r : Fin 4) (v : FVec F S256x8 .f32) (k : PR F) : PR F :=
  .op (.store lsM (lsR r) (shapeCast S1x256x8 v shapeCasts_S256x8_S1x256x8) Finset.univ (View.stores_vmem_bits_univ h_S1x256x8 rfl) (.inl rfl)) fun _ => k

/-- The eight heads in turn; the row sums side by side. -/
def heads (f : Fin 8 → (FVec F S256x1 .f32 → PR F) → PR F) (K : FVec F S256x8 .f32 → PR F) : PR F :=
  f 0 fun c0 => f 1 fun c1 => f 2 fun c2 => f 3 fun c3 => f 4 fun c4 => f 5 fun c5 => f 6 fun c6 => f 7 fun c7 => K (cols c0 c1 c2 c3 c4 c5 c6 c7)

def passA (r : Fin 4) (k : PR F) : PR F :=
  heads (headA r) fun v => ld lsM (lsR r) (View.loadsAt_vmem h_S1x256x8) fun _ => stLs r v k
def passB (r : Fin 4) (k : PR F) : PR F :=
  heads (headB r) fun v => ld lsM (lsR r) (View.loadsAt_vmem h_S1x256x8) fun a =>
  ld lsM (lsR r) (View.loadsAt_vmem h_S1x256x8) fun _ => stLs r (addf (shapeCast S256x8 a shapeCasts_S1x256x8_S256x8) v) k

/-! ## The output projection and its exchange -/

/-- One head's weighted values over the sum of the weights. -/
def quot (h : Fin 8) (a : Vec F S256x128 .f32) (l : FVec F S256x8 .f32) : FVec F S256x128 .f32 :=
  divf a (broadcastTo S256x128 (extractStridedSlice S256x1 ![0, h.val] l (slices_col h) : FVec F S256x1 .f32) broadcasts_S256x1_S256x128)
def ctx (a0 a1 a2 a3 a4 a5 a6 a7 : Vec F S256x128 .f32) (l : FVec F S256x8 .f32) : FVec F S256x1024 .f32 :=
  concatenate S256x1024 1 [⟨S256x128, quot 0 a0 l⟩, ⟨S256x128, quot 1 a1 l⟩, ⟨S256x128, quot 2 a2 l⟩, ⟨S256x128, quot 3 a3 l⟩,
    ⟨S256x128, quot 4 a4 l⟩, ⟨S256x128, quot 5 a5 l⟩, ⟨S256x128, quot 6 a6 l⟩, ⟨S256x128, quot 7 a7 l⟩]
    concatenates_S256x128_S256x128_S256x128_S256x128_S256x128_S256x128_S256x128_S256x128_S256x1024_d1
def oProj (c : FVec F S256x1024 .f32) (w : Vec F S1024x1024 .f32) : FVec F S256x1024 .f32 :=
  matmul dot_S256x1024_S1024x1024_S256x1024_1_0_0_1_n_n none c w (constant S256x1024 .f32 0x00000000#32)

abbrev rowsR (r : Fin 4) : Rect S1024x1024 := Rect.unit (s := S1024x1024) ![256 * r.val, 0] S256x1024.size (inb_rows r)
abbrev psR (r : Fin 4) : Rect S4x256x1024 := Rect.unit (s := S4x256x1024) ![r.val, 0, 0] S1x256x1024.size (inb_psend r)

def psend (c : Dev nD) (r : Fin 4) (d : Fin 3) (k : PR F) : PR F :=
  .op (.enqueueDma (pOut r) (.remote (Dev.tc (dstDev c d)) (pLand d r) (.dma (semPSend d).sem)) (.dma (semPRecv d).sem)
    (pOut_exact r) (pLand_exact d r) ⟨⟨rfl, Or.inl rfl⟩, trivial⟩) fun _ => k

def ldCtx (r : Fin 4) (h : Fin 8) (K : Vec F S256x128 .f32 → PR F) : PR F := ld xvM (ctxR r h) (View.loadsAt_vmem h_S256x128) K

/-- Row block `r` of the device's share of the result, stored and sent to the others. -/
def outRow (c : Dev nD) (r : Fin 4) (k : PR F) : PR F :=
  ld lsM (lsR r) (View.loadsAt_vmem h_S1x256x8) fun l =>
  ldCtx r 0 fun a0 => ldCtx r 1 fun a1 => ldCtx r 2 fun a2 => ldCtx r 3 fun a3 => ldCtx r 4 fun a4 => ldCtx r 5 fun a5 => ldCtx r 6 fun a6 => ldCtx r 7 fun a7 =>
  ld wvM fullR (View.loadsAt_vmem h_S1024x1024) fun w =>
  ld ovM (rowsR r) (View.loadsAt_vmem h_S256x1024) fun _ =>
  .op (.store ovM (rowsR r) (shapeCast S256x1024 (oProj (ctx a0 a1 a2 a3 a4 a5 a6 a7 (shapeCast S256x8 l shapeCasts_S1x256x8_S256x8)) w) shapeCasts_S256x1024_S256x1024)
    Finset.univ (View.stores_vmem_bits_univ h_S256x1024 rfl) (.inl rfl)) fun _ =>
  ld psM (psR r) (View.loadsAt_vmem h_S1x256x1024) fun _ =>
  .op (.store psM (psR r) (shapeCast S1x256x1024
      (truncf .bf16 (oProj (ctx a0 a1 a2 a3 a4 a5 a6 a7 (shapeCast S256x8 l shapeCasts_S1x256x8_S256x8)) w) bitsLt_bf16_f32 : FVec F S256x1024 .bf16) shapeCasts_S256x1024_S1x256x1024)
    Finset.univ (View.stores_vmem h_S1x256x1024 ((Memref.isWhole_whole cc0_scratch9).storeExact_slice rfl _ (packed_psend r)) (fun _ => rfl)) (.inl rfl)) fun _ =>
  each all3 (psend c r) k

def waitPSend (r : Fin 4) (d : Fin 3) (k : PR F) : PR F :=
  .op (.waitDma2 (semPSend d).sem (pLand d r) (pOut r) (pLand_exact d r) (pOut_exact r)) fun _ => k
def waitPRecv (r : Fin 4) (d : Fin 3) (k : PR F) : PR F :=
  .op (.waitDma2 (semPRecv d).sem (pOut r) (pLand d r) (pOut_exact r) (pLand_exact d r)) fun _ => k

def ldP (d : Fin 3) (K : FVec F S1024x1024 .f32 → PR F) : PR F :=
  ld prM (Rect.unit (s := S3x4x256x1024) ![d.val, 0, 0, 0] S1x4x256x1024.size (inb_pall d)) (View.loadsAt_vmem h_S1x4x256x1024) fun v =>
  K (shapeCast S1024x1024 (extf .f32 (shapeCast S4x256x1024 v shapeCasts_S1x4x256x1024_S4x256x1024 : FVec F S4x256x1024 .bf16) bitsLt_bf16_f32 : FVec F S4x256x1024 .f32) shapeCasts_S4x256x1024_S1024x1024)

/-- Add the three shares received. -/
def addUp (k : PR F) : PR F :=
  ld ovM fullR (View.loadsAt_vmem h_S1024x1024) fun o => ldP 0 fun a => ldP 1 fun b => ldP 2 fun c =>
  ld ovM fullR (View.loadsAt_vmem h_S1024x1024) fun _ =>
  .op (.store ovM fullR (shapeCast S1024x1024 (addf (addf (addf o a) b) c) shapeCasts_S1024x1024_S1024x1024) Finset.univ
    (View.stores_vmem_bits_univ h_S1024x1024 rfl) (.inl rfl)) fun _ => k

def give (r m : Fin 4) (k : PR F) : PR F :=
  .op (.enqueueDma (accRows r m) (.here (resRows r m)) (.dma (semLoc 5).sem) (accRows_exact r m) (resRows_exact r m) ⟨Or.inl rfl, trivial⟩) fun _ => k
def waitGive (r m : Fin 4) (k : PR F) : PR F :=
  .op (.waitDma2 (semLoc 5).sem (accRows r m) (resRows r m) (accRows_exact r m) (resRows_exact r m)) fun _ => k

/-! ## The kernel -/

/-- Piece `i` of the 64: its array, head and staging block. -/
abbrev pT (i : Nat) : Bool := Nat.ble 32 i
abbrev pH (i : Nat) : Fin 32 := ⟨i % 32, Nat.mod_lt _ (by decide)⟩
abbrev pB (i : Nat) : Fin 2 := ⟨i % 2, Nat.mod_lt _ (by decide)⟩

def start (i : Nat) (k : PR F) : PR F := fetch (pT i) (pH i) (pB i) k
def finish (i : Nat) (k : PR F) : PR F := convert (pT i) (pH i) (pB i) k
def piece (i : Nat) (k : PR F) : PR F := finish i (start (i + 2) k)

def first32 : List Nat := [0, 1, 2, 3, 4, 5, 6, 7, 8, 9, 10, 11, 12, 13, 14, 15, 16, 17, 18, 19, 20, 21, 22, 23, 24, 25, 26, 27, 28, 29, 30, 31]
def next30 : List Nat := [32, 33, 34, 35, 36, 37, 38, 39, 40, 41, 42, 43, 44, 45, 46, 47, 48, 49, 50, 51, 52, 53, 54, 55, 56, 57, 58, 59, 60, 61]

def sendNear (t : Bool) (c : Dev nD) (k : PR F) : PR F := each all8 (send t c 0) <| each all8 (send t c 2) <| each all8 (keep t c) k
def both (f : Bool → Fin 8 → PR F → PR F) (k : PR F) : PR F := each all8 (f false) <| each all8 (f true) k

/-- From the last value head on. -/
def partD (c : Dev nD) (k : PR F) : PR F :=
  addUp <| each all4 (fun r => each all4 (give r)) <| each all4 (fun r => each all4 (waitGive r)) k
def partC (c : Dev nD) (k : PR F) : PR F :=
  both (fun t => waitRecv t c 1) <| each all4 passB <| each all4 (outRow c) <|
  both (fun t => waitSend t c 1) <| each all4 (fun r => each all3 (waitPRecv r)) <| each all4 (fun r => each all3 (waitPSend r)) k
def partB (c : Dev nD) (k : PR F) : PR F :=
  waitX <| waitWq <| project <| startWo <|
  both (fun t => waitSend t c 0) <| both (fun t => waitSend t c 2) <|
  both (fun t => send t c 1) <| both (fun t => waitKeep t c) <| waitWo <|
  both (fun t => waitRecv t c 0) <| both (fun t => waitRecv t c 2) <| each all4 passA k
def partA (c : Dev nD) (k : PR F) : PR F :=
  start 0 <| start 1 <| each first32 piece <| sendNear false c <| each next30 piece <| finish 62 <| finish 63 <| sendNear true c k

def kernel : PR F :=
  startX0 fun c => startX <| startWq <| signal c 0 <| signal c 1 <| signal c 2 <| waitBar <|
  partA c <| partB c <| partC c <| partD c <| .ret ⟨⟩
where startX0 (K : Dev nD → PR F) : PR F := .op .deviceId K

end Cert.KProg

end
-- ==== Proof.Arr.lean ====
/- What each of the kernel's arrays holds, device by device, as functions of the memory at launch. -/
module

public import proofs.«01_k».proof.Proof.Prog
public import Idealize.ShloMosaic.Lib.Pipeline.Launch
public import Idealize.ShloMosaic.Lib.Pipeline.Kit
public import Idealize.ShloMosaic.Lib.ValueIdxCore
public import Idealize.ShloMosaic.Lib.ValueLayout

@[expose] public section

noncomputable section

namespace Cert.KProg

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## Devices and heads -/

/-- The device whose keys and values device `c` holds in slot `s`: `s + 1` back, itself in slot 3. -/
def src (c : Dev nD) (s : Fin 4) : Dev nD := ⟨(c.val + 3 - s.val) % 4, Nat.mod_lt _ (by decide)⟩
/-- Head `h` of the eight of device `c`. -/
def hd (c : Dev nD) (h : Fin 8) : Fin 32 := ⟨8 * c.val + h.val, by have := c.isLt; have : nD = 4 := rfl; omega⟩

theorem src_dst : ∀ (c : Dev nD) (d : Fin 3), src (dstDev c d) ⟨d.val, by omega⟩ = c := by decide +kernel
theorem src_self : ∀ c : Dev nD, src c 3 = c := by decide +kernel
theorem dst_src : ∀ (c : Dev nD) (d : Fin 3), dstDev (src c ⟨d.val, by omega⟩) d = c := by decide +kernel
theorem dst_dst : ∀ (c : Dev nD) (d : Fin 3), dstDev (dstDev c d) ⟨2 - d.val, by omega⟩ = c := by decide +kernel
theorem dst_inj : ∀ (d : Fin 3) (a b : Dev nD), dstDev a d = dstDev b d → a = b := by decide +kernel

/-! ## The inputs -/

def xA (c : Dev nD) : S1024x1024.Idx → Elt F .f32 := fun i => m ((c : Thread nD τ).loc main_arg0) (ix3 0 (i 0) (i 1))
def wqA (c : Dev nD) : S1024x1024.Idx → Elt F .f32 := m ((c : Thread nD τ).loc main_arg1)
def woA (c : Dev nD) : S1024x1024.Idx → Elt F .f32 := m ((c : Thread nD τ).loc main_arg4)
def kvA (t : Bool) (c : Dev nD) : S1x1024x32x128.Idx → Elt F .f32 :=
  match t with
  | false => m ((c : Thread nD τ).loc main_arg2)
  | true => m ((c : Thread nD τ).loc main_arg3)

/-! ## The keys and values, rounded and gathered -/

def bfA (t : Bool) (c : Dev nD) : S32x1024x128.Idx → Elt F .bf16 := fun i =>
  (truncf .bf16 (kvA m t c) bitsLt_bf16_f32 : FVec F S1x1024x32x128 .bf16) (ix4 0 (i 1) (i 0) (i 2))
def allA (t : Bool) (c : Dev nD) : S4x8x1024x128.Idx → Elt F .bf16 := fun i => bfA m t (src c (i 0)) (ix3 (hd c (i 1)) (i 2) (i 3))

def kvC : (t : Bool) → (c : Dev nD) → (kvM t).view.ty.Contents (Elt F)
  | false, c => kvA m false c
  | true, c => kvA m true c
def bfC : (t : Bool) → (c : Dev nD) → (bfM t).view.ty.Contents (Elt F)
  | false, c => bfA m false c
  | true, c => bfA m true c
def allC : (t : Bool) → (c : Dev nD) → (allM t).view.ty.Contents (Elt F)
  | false, c => allA m false c
  | true, c => allA m true c

/-! ## The queries -/

def qA (c : Dev nD) : S1024x1024.Idx → Elt F .bf16 := qProj (xA m c) (wqA m c)

/-- The query rows of row block `r`, head `h`. -/
def qv (c : Dev nD) (r : Fin 4) (h : Fin 8) : FVec F S256x128 .bf16 :=
  concatenate S256x128 0 [⟨S64x128, qM.view.readAt (Elt F) (qR r h 0).toLoadRect (qA m c)⟩, ⟨S64x128, qM.view.readAt (Elt F) (qR r h 1).toLoadRect (qA m c)⟩,
    ⟨S64x128, qM.view.readAt (Elt F) (qR r h 2).toLoadRect (qA m c)⟩, ⟨S64x128, qM.view.readAt (Elt F) (qR r h 3).toLoadRect (qA m c)⟩]
    concatenates_S64x128_S64x128_S64x128_S64x128_S256x128_d0

/-- 64 rows of slot `s`. -/
def rows (t : Bool) (c : Dev nD) (s : Fin 4) (h : Fin 8) (r i : Fin 4) : FVec F S64x128 .bf16 :=
  shapeCast S64x128 ((allM t).view.readAt (Elt F) (kvR s h r i).toLoadRect (allC m t c)) shapeCasts_S1x1x64x128_S64x128

/-- The rows of row block `r` of slots 3, 0 and 2, and of slot 1. -/
def kv12 (t : Bool) (c : Dev nD) (r : Fin 4) (h : Fin 8) : FVec F S768x128 .bf16 :=
  concatenate S768x128 0 [⟨S64x128, rows m t c 3 h r 0⟩, ⟨S64x128, rows m t c 3 h r 1⟩, ⟨S64x128, rows m t c 3 h r 2⟩, ⟨S64x128, rows m t c 3 h r 3⟩,
    ⟨S64x128, rows m t c 0 h r 0⟩, ⟨S64x128, rows m t c 0 h r 1⟩, ⟨S64x128, rows m t c 0 h r 2⟩, ⟨S64x128, rows m t c 0 h r 3⟩,
    ⟨S64x128, rows m t c 2 h r 0⟩, ⟨S64x128, rows m t c 2 h r 1⟩, ⟨S64x128, rows m t c 2 h r 2⟩, ⟨S64x128, rows m t c 2 h r 3⟩]
    concatenates_S64x128_S64x128_S64x128_S64x128_S64x128_S64x128_S64x128_S64x128_S64x128_S64x128_S64x128_S64x128_S768x128_d0
def kv4 (t : Bool) (c : Dev nD) (r : Fin 4) (h : Fin 8) : FVec F S256x128 .bf16 :=
  concatenate S256x128 0 [⟨S64x128, rows m t c 1 h r 0⟩, ⟨S64x128, rows m t c 1 h r 1⟩, ⟨S64x128, rows m t c 1 h r 2⟩, ⟨S64x128, rows m t c 1 h r 3⟩]
    concatenates_S64x128_S64x128_S64x128_S64x128_S256x128_d0

/-! ## The two passes -/

def blkA (c : Dev nD) (r : Fin 4) (h : Fin 8) : FVec F S256x128 .f32 := pv12 (ew12 (qv m c r h) (kv12 m false c r h)) (kv12 m true c r h)
def sumA (c : Dev nD) (r : Fin 4) (h : Fin 8) : FVec F S256x1 .f32 := sum12 (ew12 (qv m c r h) (kv12 m false c r h))
def sumB (c : Dev nD) (r : Fin 4) (h : Fin 8) : FVec F S256x1 .f32 := sum4 (ew4 (qv m c r h) (kv4 m false c r h))

/-- The row block, the head, and the place within their block, of an element of a 1024×1024 array. -/
abbrev rowOf (i : Fin 1024) : Fin 4 := ⟨i.val / 256, by omega⟩
abbrev headOf (i : Fin 1024) : Fin 8 := ⟨i.val / 128, by omega⟩
abbrev inRow (i : Fin 1024) : Fin 256 := ⟨i.val % 256, by omega⟩
abbrev inHead (i : Fin 1024) : Fin 128 := ⟨i.val % 128, by omega⟩

def ctxA (c : Dev nD) : S1024x1024.Idx → Elt F .f32 := fun i => blkA m c (rowOf (i 0)) (headOf (i 1)) (ix2 (inRow (i 0)) (inHead (i 1)))
def lsBlkA (c : Dev nD) (r : Fin 4) : FVec F S256x8 .f32 :=
  cols (sumA m c r 0) (sumA m c r 1) (sumA m c r 2) (sumA m c r 3) (sumA m c r 4) (sumA m c r 5) (sumA m c r 6) (sumA m c r 7)
def lsA (c : Dev nD) : S4x256x8.Idx → Elt F .f32 := fun i => lsBlkA m c (i 0) (ix2 (i 1) (i 2))

def blkB (c : Dev nD) (r : Fin 4) (h : Fin 8) : FVec F S256x128 .f32 :=
  addf (xvM.view.readAt (Elt F) (ctxR r h).toLoadRect (ctxA m c) : FVec F S256x128 .f32) (pv4 (ew4 (qv m c r h) (kv4 m false c r h)) (kv4 m true c r h))
def ctxB (c : Dev nD) : S1024x1024.Idx → Elt F .f32 := fun i => blkB m c (rowOf (i 0)) (headOf (i 1)) (ix2 (inRow (i 0)) (inHead (i 1)))
def lsBlkB (c : Dev nD) (r : Fin 4) : FVec F S256x8 .f32 :=
  addf (shapeCast S256x8 (lsM.view.readAt (Elt F) (lsR r).toLoadRect (lsA m c)) shapeCasts_S1x256x8_S256x8 : FVec F S256x8 .f32)
    (cols (sumB m c r 0) (sumB m c r 1) (sumB m c r 2) (sumB m c r 3) (sumB m c r 4) (sumB m c r 5) (sumB m c r 6) (sumB m c r 7))
def lsB (c : Dev nD) : S4x256x8.Idx → Elt F .f32 := fun i => lsBlkB m c (i 0) (ix2 (i 1) (i 2))

/-! ## The device's share of the result, the shares received, the result -/

def ctxV (c : Dev nD) (r : Fin 4) (h : Fin 8) : FVec F S256x128 .f32 := xvM.view.readAt (Elt F) (ctxR r h).toLoadRect (ctxB m c)
def poBlk (c : Dev nD) (r : Fin 4) : FVec F S256x1024 .f32 :=
  oProj (ctx (ctxV m c r 0) (ctxV m c r 1) (ctxV m c r 2) (ctxV m c r 3) (ctxV m c r 4) (ctxV m c r 5) (ctxV m c r 6) (ctxV m c r 7)
    (shapeCast S256x8 (lsM.view.readAt (Elt F) (lsR r).toLoadRect (lsB m c)) shapeCasts_S1x256x8_S256x8)) (woA m c)
def poA (c : Dev nD) : S1024x1024.Idx → Elt F .f32 := fun i => poBlk m c (rowOf (i 0)) (ix2 (inRow (i 0)) (i 1))
def psA (c : Dev nD) : S4x256x1024.Idx → Elt F .bf16 := fun i =>
  (truncf .bf16 (poBlk m c (i 0)) bitsLt_bf16_f32 : FVec F S256x1024 .bf16) (ix2 (i 1) (i 2))
def prA (c : Dev nD) : S3x4x256x1024.Idx → Elt F .bf16 := fun i => psA m (src c ⟨(i 0).val, Nat.lt_succ_of_lt (i 0).isLt⟩) (ix3 (i 1) (i 2) (i 3))

/-- The share received from the device `d + 1` back. -/
def prV (c : Dev nD) (d : Fin 3) : FVec F S1024x1024 .f32 :=
  shapeCast S1024x1024 (extf .f32 (shapeCast S4x256x1024
    (prM.view.readAt (Elt F) (Rect.unit (s := S3x4x256x1024) ![d.val, 0, 0, 0] S1x4x256x1024.size (inb_pall d)).toLoadRect (prA m c))
    shapeCasts_S1x4x256x1024_S4x256x1024 : FVec F S4x256x1024 .bf16) bitsLt_bf16_f32 : FVec F S4x256x1024 .f32) shapeCasts_S4x256x1024_S1024x1024
def sumC (c : Dev nD) : S1024x1024.Idx → Elt F .f32 := addf (addf (addf (poA m c : FVec F S1024x1024 .f32) (prV m c 0)) (prV m c 1)) (prV m c 2)

/-- Where row `i` of the result stands among the rows grouped by row block. -/
def rowPerm (i : Fin 1024) : Fin 1024 := ⟨256 * (i.val % 256 / 64) + 64 * (i.val / 256) + i.val % 64, by omega⟩
def resC (c : Dev nD) : S1x1024x1024.Idx → Elt F .f32 := fun i => sumC m c (ix2 (rowPerm (i 1)) (i 2))

end Cert.KProg

end
-- ==== Proof.Sched.lean ====
/- What each semaphore of the kernel waits for, and what each of its units hands over. -/
module

public import proofs.«01_k».proof.Proof.Arr
public import proofs.«01_k».proof.Proof.Gen.KernelIdeal.Launch
public import Idealize.ShloMosaic.Lib.Rounds
public import Idealize.ShloMosaic.Lib.Transfers
public import Idealize.ShloMosaic.Lib.Tactic

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The ghost state -/

/-- The names of the units a semaphore waits for. -/
abbrev Duty : Type := Fin 16
abbrev UB : Type := URounds (GSem nD τ sig) Duty
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The semaphores that several copies raise -/

inductive Ce where
  | send (t : Bool) (d : Fin 3)
  | recv (t : Bool) (d : Fin 3)
  | psend (d : Fin 3)
  | precv (d : Fin 3)
  | keep (t : Bool)
  | give
  | bar
  deriving DecidableEq

def allCe : List Ce :=
  [.send false 0, .send false 1, .send false 2, .send true 0, .send true 1, .send true 2, .recv false 0, .recv false 1, .recv false 2,
    .recv true 0, .recv true 1, .recv true 2, .psend 0, .psend 1, .psend 2, .precv 0, .precv 1, .precv 2, .keep false, .keep true, .give, .bar]

theorem allCe_nodup : allCe.Nodup := by decide +kernel
theorem mem_allCe (k : Ce) : k ∈ allCe := by
  cases k with
  | send t d => revert t d; decide +kernel
  | recv t d => revert t d; decide +kernel
  | psend d => revert d; decide +kernel
  | precv d => revert d; decide +kernel
  | keep t => revert t; decide +kernel
  | give => decide +kernel
  | bar => decide +kernel

instance : Fintype Ce := ⟨⟨(allCe : Multiset Ce), allCe_nodup⟩, mem_allCe⟩

def csem : Ce → SemLoc sig
  | .send t d => .dma (semSend t d).sem
  | .recv t d => .dma (semRecv t d).sem
  | .psend d => .dma (semPSend d).sem
  | .precv d => .dma (semPRecv d).sem
  | .keep t => .dma (semLoc (cond t 1 0)).sem
  | .give => .dma (semLoc 5).sem
  | .bar => .reg semBar.sem

theorem csem_inj : ∀ a b : Ce, csem a = csem b → a = b := by decide +kernel

abbrev kcell (c : Dev nD) (k : Ce) : GSem nD τ sig := ((c : Thread nD τ), csem k)

theorem kcell_inj {c c' : Dev nD} {k k' : Ce} (h : kcell c k = kcell c' k') : c = c' ∧ k = k' :=
  ⟨congrArg (fun g : GSem nD τ sig => g.1.1) h, csem_inj _ _ (congrArg Prod.snd h)⟩

open Classical in
/-- Which of them a semaphore is. -/
def dec (s : SemLoc sig) : Option Ce := if h : ∃ k, csem k = s then some h.choose else none

theorem dec_csem (k : Ce) : dec (csem k) = some k := by
  unfold dec
  have h : ∃ k', csem k' = csem k := ⟨k, rfl⟩
  rw [dif_pos h, csem_inj _ _ h.choose_spec]

theorem dec_some {s : SemLoc sig} {k : Ce} (h : dec s = some k) : s = csem k := by
  unfold dec at h
  split at h
  · next h' => rw [← Option.some.inj h]; exact h'.choose_spec.symm
  · cases h

/-! ## How many units, and how much each -/

/-- The units' number. -/
def num : Ce → ℕ
  | .send _ _ | .recv _ _ | .keep _ => 8
  | .psend _ | .precv _ => 4
  | .give => 16
  | .bar => 3

abbrev NK : ℕ := (land false 0 0).view.dmaCredit
abbrev NP : ℕ := (pOut 0).view.dmaCredit
abbrev NG : ℕ := (accRows 0 0).view.dmaCredit

def amt : Ce → ℕ
  | .send _ _ | .recv _ _ | .keep _ => NK
  | .psend _ | .precv _ => NP
  | .give => NG
  | .bar => 1

theorem NK_pos : 0 < NK := View.dmaCredit_pos _ (by decide)
theorem NP_pos : 0 < NP := View.dmaCredit_pos _ (by decide)
theorem NG_pos : 0 < NG := View.dmaCredit_pos _ (by decide)
theorem amt_pos (k : Ce) : 0 < amt k := by
  cases k <;> first | exact NK_pos | exact NP_pos | exact NG_pos | exact Nat.one_pos

def dut (k : Ce) : Finset Duty := Finset.univ.filter (fun j => j.val < num k)

theorem dut_card (k : Ce) : (dut k).card = num k := by revert k; decide +kernel

/-! ## What each unit hands over -/

variable (m : (ℓ : Loc nD τ sig) → Buf (Elt F) ℓ)

def j8 (j : Duty) : Fin 8 := ⟨j.val % 8, Nat.mod_lt _ (by decide)⟩
def j4 (j : Duty) : Fin 4 := ⟨j.val % 4, Nat.mod_lt _ (by decide)⟩
def j3 (j : Duty) : Fin 3 := ⟨j.val % 3, Nat.mod_lt _ (by decide)⟩
def jr (j : Duty) : Fin 4 := ⟨j.val / 4, by omega⟩

/-- Three shares that make up the full one. -/
def shr : Fin 3 → PosShare TreeShare
  | 0 => fullShare.left
  | 1 => fullShare.right.left
  | 2 => fullShare.right.right

/-- The block of `bfM t` at an offset. -/
def bfAt (t : Bool) (off : Fin 3 → ℕ) (inb : ∀ a, off a + S1x1024x128.size a ≤ S32x1024x128.size a) : Memref sig .tc .vmem S1024x128 .bf16 :=
  ((bfM t).slice (Rect.unit (s := S32x1024x128) off S1x1024x128.size inb) (fun _ => rfl)).squeeze S1024x128 squeezes_S1x1024x128_S1024x128

def bfO (t : Bool) (c : Dev nD) (off : Fin 3 → ℕ) (inb : ∀ a, off a + S1x1024x128.size a ≤ S32x1024x128.size a) : sProp 𝕄 :=
  (bfAt t off inb).view.loc (c : Thread nD τ) ↦[(bfAt t off inb).view.set]{fullShare} bfC m t c
/-- Head `h` of the rounded keys or values. -/
def bfP (t : Bool) (c : Dev nD) (h : Fin 32) : sProp 𝕄 := bfO m t c ![h.val, 0, 0] (inb_own h)

theorem bfO_congr (t : Bool) (c : Dev nD) {off off' : Fin 3 → ℕ} (h : off = off') (inb inb') :
    bfO m t c off inb = bfO m t c off' inb' := by subst h; rfl

/-- One block of the gathered keys or values, holding them. -/
def landP (t : Bool) (c : Dev nD) (s : Fin 4) (h : Fin 8) : sProp 𝕄 :=
  (land t s h).view.loc (c : Thread nD τ) ↦[(land t s h).view.set]{fullShare} allC m t c
/-- The same block holding anything. -/
def landE (t : Bool) (c : Dev nD) (s : Fin 4) (h : Fin 8) : sProp 𝕄 :=
  iprop(∃ f, (land t s h).view.loc (c : Thread nD τ) ↦[(land t s h).view.set]{fullShare} f)
def psP (c : Dev nD) (q : PosShare TreeShare) (r : Fin 4) : sProp 𝕄 :=
  (pOut r).view.loc (c : Thread nD τ) ↦[(pOut r).view.set]{q} psA m c
def prP (c : Dev nD) (d : Fin 3) (r : Fin 4) : sProp 𝕄 :=
  (pLand d r).view.loc (c : Thread nD τ) ↦[(pLand d r).view.set]{fullShare} prA m c
def prE (c : Dev nD) (d : Fin 3) (r : Fin 4) : sProp 𝕄 :=
  iprop(∃ f, (pLand d r).view.loc (c : Thread nD τ) ↦[(pLand d r).view.set]{fullShare} f)
def ovP (c : Dev nD) (r i : Fin 4) : sProp 𝕄 :=
  (accRows r i).view.loc (c : Thread nD τ) ↦[(accRows r i).view.set]{fullShare} sumC m c
def resP (c : Dev nD) (r i : Fin 4) : sProp 𝕄 :=
  (resRows r i).view.loc (c : Thread nD τ) ↦[(resRows r i).view.set]{fullShare} resC m c
def resE (c : Dev nD) (r i : Fin 4) : sProp 𝕄 :=
  iprop(∃ f, (resRows r i).view.loc (c : Thread nD τ) ↦[(resRows r i).view.set]{fullShare} f)

/-- Where device `c`'s copies land on the device `d + 1` further on. -/
def right (c : Dev nD) (d : Fin 3) : sProp 𝕄 :=
  iprop(BI.bigSep Finset.univ (fun h : Fin 8 => landE (F := F) false (dstDev c d) ⟨d.val, by omega⟩ h)
    ∗ BI.bigSep Finset.univ (fun h : Fin 8 => landE (F := F) true (dstDev c d) ⟨d.val, by omega⟩ h)
    ∗ BI.bigSep Finset.univ (fun r : Fin 4 => prE (F := F) (dstDev c d) d r))

def opp (d : Fin 3) : Fin 3 := ⟨2 - d.val, by omega⟩

def pay (c : Dev nD) (k : Ce) (j : Duty) : sProp 𝕄 :=
  match k with
  | .send t d => bfP m t c (hd (dstDev c d) (j8 j))
  | .recv t d => landP m t c ⟨d.val, by omega⟩ (j8 j)
  | .psend d => psP m c (shr d) (j4 j)
  | .precv d => prP m c d (j4 j)
  | .keep t => iprop(landP m t c 3 (j8 j) ∗ bfP m t c (hd c (j8 j)))
  | .give => iprop(resP m c (jr j) (j4 j) ∗ ovP m c (jr j) (j4 j))
  | .bar => right c (opp (j3 j))

section
variable (c : Dev nD) (t : Bool) (s r i : Fin 4) (h : Fin 8) (H : Fin 32) (d : Fin 3) (q : PosShare TreeShare)

omit [FloatOps F] in
/-- Owning elements of an array outright may be handed over. -/
theorem pts_storable (ℓ : Loc nD τ sig) (S : Finset (Idx ℓ)) (q : PosShare TreeShare) (f : Buf (Elt F) ℓ) :
    BI.Storable (upEmb : UEmb _ 𝕄) (ℓ ↦[S]{q} f) := inferInstance

instance bfP_storable : BI.Storable (upEmb : UEmb _ 𝕄) (bfP m t c H) := by unfold bfP bfO; exact pts_storable _ _ _ _
instance landP_storable : BI.Storable (upEmb : UEmb _ 𝕄) (landP m t c s h) := by unfold landP; exact pts_storable _ _ _ _
omit [FloatOps F] in
instance landE_storable : BI.Storable (upEmb : UEmb _ 𝕄) (landE (F := F) t c s h) := by unfold landE; infer_instance
instance psP_storable : BI.Storable (upEmb : UEmb _ 𝕄) (psP m c q r) := by unfold psP; exact pts_storable _ _ _ _
instance prP_storable : BI.Storable (upEmb : UEmb _ 𝕄) (prP m c d r) := by unfold prP; exact pts_storable _ _ _ _
omit [FloatOps F] in
instance prE_storable : BI.Storable (upEmb : UEmb _ 𝕄) (prE (F := F) c d r) := by unfold prE; infer_instance
instance ovP_storable : BI.Storable (upEmb : UEmb _ 𝕄) (ovP m c r i) := by unfold ovP; exact pts_storable _ _ _ _
instance resP_storable : BI.Storable (upEmb : UEmb _ 𝕄) (resP m c r i) := by unfold resP; exact pts_storable _ _ _ _
omit [FloatOps F] in
instance right_storable : BI.Storable (upEmb : UEmb _ 𝕄) (right (F := F) c d) := by unfold right; infer_instance

end

instance pay_storable (c : Dev nD) (k : Ce) (j : Duty) : BI.Storable (upEmb : UEmb _ 𝕄) (pay m c k j) := by
  cases k <;> dsimp only [pay] <;> infer_instance

def payAt (g : GSem nD τ sig) (j : Duty) : sProp 𝕄 :=
  match dec g.2 with
  | some k => pay m g.1.1 k j
  | none => iprop(emp)

instance payAt_storable (g : GSem nD τ sig) (j : Duty) : BI.Storable (upEmb : UEmb _ 𝕄) (payAt m g j) := by
  unfold payAt; split <;> infer_instance

def dutAt (g : GSem nD τ sig) : Finset Duty :=
  match dec g.2 with
  | some k => dut k
  | none => ∅
def amtAt (g : GSem nD τ sig) : ℕ :=
  match dec g.2 with
  | some k => amt k
  | none => 1

/-- One round of each. -/
def Rd : Rounds.Schedule (GSem nD τ sig) Duty 𝕄 where
  duties g r := if r = 0 ∧ g.1.2 = .tc then dutAt g else ∅
  unitless _ := False
  amount g _ _ := amtAt g
  payload g _ j := payAt m g j
  amount_pos g _ _ _ := by
    unfold amtAt; split
    · exact amt_pos _
    · exact Nat.one_pos

instance Rd_payload_storable (g : GSem nD τ sig) (r : ℕ) (d : Duty) : BI.Storable (upEmb : UEmb _ 𝕄) ((Rd (F := F) m).payload g r d) :=
  payAt_storable m g d

section
variable (c : Dev nD) (k : Ce)

omit [FloatOps F] in
theorem Rd_duties_aux : dutAt (kcell c k) = dut k := by unfold dutAt; rw [show (kcell c k).2 = csem k from rfl, dec_csem]
theorem Rd_duties : (Rd (F := F) m).duties (kcell c k) 0 = dut k := by
  show (if 0 = 0 ∧ (kcell c k).1.2 = .tc then dutAt (kcell c k) else ∅) = _
  rw [if_pos ⟨rfl, rfl⟩, Rd_duties_aux]
theorem Rd_later (g : GSem nD τ sig) : ∀ r, 1 ≤ r → (Rd (F := F) m).duties g r = ∅ := fun r hr => if_neg fun h => by omega
theorem Rd_amount (j : Duty) : (Rd (F := F) m).amount (kcell c k) 0 j = amt k := by
  show amtAt (kcell c k) = _
  unfold amtAt; rw [show (kcell c k).2 = csem k from rfl, dec_csem]
theorem Rd_payload (j : Duty) : (Rd (F := F) m).payload (kcell c k) 0 j = pay m c k j := by
  show payAt m (kcell c k) j = _
  unfold payAt; rw [show (kcell c k).2 = csem k from rfl, dec_csem]
theorem Rd_expect : (Rd (F := F) m).expect (kcell c k) 0 = num k * amt k := by
  unfold Schedule.expect Schedule.amountOf
  rw [Rd_duties, Finset.sum_congr rfl fun j _ => Rd_amount m c k j, Finset.sum_const, dut_card, smul_eq_mul]

end

/-! ## The order of waits, and what a device owes -/

def lvl : Ce → ℕ
  | .recv _ _ => 1
  | .precv _ => 2
  | _ => 0

def L (g : GSem nD τ sig) : Finset Unit := if g.1.2 = .tc then {()} else ∅
def lv (g : GSem nD τ sig) (_ : Unit) : ℕ :=
  match dec g.2 with
  | some k => lvl k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Ce) (u : Unit) : lv (kcell c k) u = lvl k := by
  unfold lv; rw [show (kcell c k).2 = csem k from rfl, dec_csem]

/-- What the raises in a list owe, the first of them outermost. -/
def owe (l : List (Dev nD × Ce)) : CellTallies nD τ sig Unit := l.foldr (fun e O => O + tallyAt (kcell e.1 e.2) () (amt e.2)) 0

theorem owe_cons (c : Dev nD) (k : Ce) (l : List (Dev nD × Ce)) : owe ((c, k) :: l) = owe l + tallyAt (kcell c k) () (amt k) := rfl

theorem owe_pos {l : List (Dev nD × Ce)} {g : GSem nD τ sig} {u : Unit} (h : 0 < owe l g u) : ∃ e ∈ l, g = kcell e.1 e.2 := by
  induction l with
  | nil => exact absurd h (Nat.lt_irrefl 0)
  | cons e l ih =>
    rw [show e = (e.1, e.2) from rfl, owe_cons, Pi.add_apply, Finsupp.add_apply, tallyAt_apply] at h
    by_cases hg : g = kcell e.1 e.2 ∧ u = ()
    · exact ⟨e, List.mem_cons_self, hg.1⟩
    · rw [if_neg hg, Nat.add_zero] at h
      obtain ⟨e', he, h'⟩ := ih h
      exact ⟨e', List.mem_cons_of_mem _ he, h'⟩

def duesB (c : Dev nD) : List (Dev nD × Ce) := [(dstDev c 0, .bar), (dstDev c 1, .bar), (dstDev c 2, .bar)]
def duesS (t : Bool) (c : Dev nD) (d : Fin 3) : List (Dev nD × Ce) := List.replicate 8 (dstDev c d, .recv t d)
def duesR (c : Dev nD) : List (Dev nD × Ce) := [(dstDev c 0, .precv 0), (dstDev c 1, .precv 1), (dstDev c 2, .precv 2)]
def duesP (c : Dev nD) : List (Dev nD × Ce) := duesR c ++ (duesR c ++ (duesR c ++ duesR c))
def duesFar (c : Dev nD) : List (Dev nD × Ce) := duesS false c 1 ++ (duesS true c 1 ++ duesP c)
def duesV (c : Dev nD) : List (Dev nD × Ce) := duesS true c 0 ++ (duesS true c 2 ++ duesFar c)
def duesK (c : Dev nD) : List (Dev nD × Ce) := duesS false c 0 ++ (duesS false c 2 ++ duesV c)
def dues (c : Dev nD) : List (Dev nD × Ce) := duesB c ++ duesK c

omit [FloatOps F] in
/-- A wait on a semaphore below all that is still owed. -/
theorem mayWait (c : Dev nD) (sm : SemLoc sig) (n : ℕ) (l : List (Dev nD × Ce)) (hs : lv ((c : Thread nD τ), sm) () ≤ n)
    (hl : ∀ e ∈ l, n < lvl e.2) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨e, _, rfl⟩ := owe_pos hg; rw [L_tc]; exact Finset.mem_singleton_self _)
    (fun p hp => by rw [Finset.mem_singleton.mp hp]; exact hs)
    (fun g u hg => by obtain ⟨e, he, rfl⟩ := owe_pos hg; rw [lv_kcell]; exact hl e he)

end Cert.KProg

end
-- ==== Proof.Geom.lean ====
/- Which elements each block of the kernel's arrays has, and what reading a block gives. -/
module

public import proofs.«01_k».proof.Proof.Sched

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Whole arrays and their blocks -/

section
variable {ℓ : Loc nD τ sig}

omit [FloatOps F] in
/-- An array is its blocks, when each element is in the block its key names. -/
theorem pts_by_key {ι : Type} [Fintype ι] [DecidableEq ι] (K : ι → Finset (Idx ℓ)) (key : Idx ℓ → ι) (h : ∀ t i, i ∈ K t ↔ key i = t)
    (q : PosShare TreeShare) (f : Buf (Elt F) ℓ) :
    (ℓ ↦{q} f : sProp 𝕄) = BI.bigSep Finset.univ (fun t => ℓ ↦[K t]{q} f) := by
  rw [← pointsTo_biUnion Finset.univ K]
  · congr 1
    ext i
    simp only [Finset.mem_univ, Finset.mem_biUnion, true_and, true_iff]
    exact ⟨key i, (h _ _).mpr rfl⟩
  · intro a _ b _ hab
    rw [Finset.disjoint_left]
    intro i ha hb
    exact hab (((h _ _).mp ha).symm.trans ((h _ _).mp hb))

omit [FloatOps F] in
/-- The same, the contents forgotten. -/
theorem pts_by_key_ex {ι : Type} [Fintype ι] [DecidableEq ι] (K : ι → Finset (Idx ℓ)) (key : Idx ℓ → ι) (h : ∀ t i, i ∈ K t ↔ key i = t)
    (q : PosShare TreeShare) :
    (iprop(∃ f, ℓ ↦{q} f) : sProp 𝕄) ⊢ BI.bigSep Finset.univ (fun t => iprop(∃ f, ℓ ↦[K t]{q} f)) := by
  have H : ∀ f : Buf (Elt F) ℓ, (ℓ ↦{q} f : sProp 𝕄) ⊢ BI.bigSep Finset.univ (fun t => iprop(∃ f, ℓ ↦[K t]{q} f)) := fun f => by
    rw [pts_by_key K key h q f]
    exact BI.bigSep_mono fun t _ => exists_intro (Φ := fun f => (ℓ ↦[K t]{q} f : sProp 𝕄)) f
  iintro ⟨%f, Hf⟩
  iapply (H f) $$ Hf
end

omit [FloatOps F] in
/-- A block written with what it reads of `g` holds `g`. -/
theorem pts_write {sp : Space} {s : Shape} {e : EltTy} (c : Dev nD) (v : View sig .tc sp s e) (q : PosShare TreeShare)
    (f g : v.ty.Contents (Elt F)) (w : s.Idx → Elt F e) (hw : w = v.read (Elt F) g) :
    (v.loc (c : Thread nD τ) ↦[v.set]{q} v.write (Elt F) f w Finset.univ : sProp 𝕄) = (v.loc (c : Thread nD τ) ↦[v.set]{q} g) := by
  subst hw
  refine pointsTo_congr fun i hi => ?_
  rw [View.write_read_eq_piecewise, View.setOn_univ]
  exact Finset.piecewise_eq_of_mem _ _ _ hi

/-! ## Arrays filled block by block -/

/-- `g` on the blocks before the `n`th, `f` on the others. -/
def mix {I α : Type} (idx : I → ℕ) (f g : I → α) (n : ℕ) : I → α := fun i => if idx i < n then g i else f i

theorem mix_zero {I α : Type} (idx : I → ℕ) (f g : I → α) : mix idx f g 0 = f := funext fun _ => if_neg (Nat.not_lt_zero _)
theorem mix_all {I α : Type} (idx : I → ℕ) (f g : I → α) (n : ℕ) (h : ∀ i, idx i < n) : mix idx f g n = g := funext fun i => if_pos (h i)

section
variable {sp : Space} {s : Shape} {e : EltTy} (v : View sig .tc sp s e) (idx : v.ty.Idx → ℕ) (f g : v.ty.Contents (Elt F)) (n : ℕ)

omit [FloatOps F] in
theorem mix_write (w : s.Idx → Elt F e) (hw : w = v.read (Elt F) g) (h : ∀ i, i ∈ v.set ↔ idx i = n) :
    v.write (Elt F) (mix idx f g n) w Finset.univ = mix idx f g (n + 1) := by
  subst hw
  rw [View.write_read_eq_piecewise, View.setOn_univ]
  funext i
  by_cases hi : i ∈ v.set
  · rw [Finset.piecewise_eq_of_mem _ _ _ hi]
    exact (if_pos (by rw [(h i).mp hi]; exact Nat.lt_succ_self n)).symm
  · rw [Finset.piecewise_eq_of_notMem _ _ _ hi]
    have h' : idx i ≠ n := fun e => hi ((h i).mpr e)
    unfold mix
    by_cases hlt : idx i < n
    · rw [if_pos hlt, if_pos (by omega)]
    · rw [if_neg hlt, if_neg (by omega)]

omit [FloatOps F] in
theorem mix_read (h : ∀ i, i ∈ v.set ↔ idx i = n) : v.read (Elt F) (mix idx f g n) = v.read (Elt F) f := by
  funext x
  rw [View.read_apply, View.read_apply]
  congr 1
  exact if_neg (by rw [(h _).mp (v.emb_mem_set x)]; exact Nat.lt_irrefl n)
end

/-! ## The elements of each block -/

theorem set_blk (b : Ref sig .tc) (r : Rect b.ty.shape) (hr : ∀ a, r.stride a = 1) (s' : Shape) (hq : r.shape.Squeezes s') :
    (((Memref.whole b).slice r hr).squeeze s' hq).view.set = r.set :=
  (View.set_reshape _ _).trans (View.set_slice_whole b r)

/-- Which 64 rows of its 256 a row is in. -/
abbrev quarter (i : Fin 1024) : Fin 4 := ⟨i.val % 256 / 64, by omega⟩

section
variable (i4 : S4x8x1024x128.Idx) (i3 : S32x1024x128.Idx) (j4 : S3x4x256x1024.Idx) (p3 : S4x256x1024.Idx) (s3 : S2x1024x128.Idx)
  (k4 : S1x1024x32x128.Idx) (l3 : S4x256x8.Idx) (x3 : S1x1024x1024.Idx) (x2 : S1024x1024.Idx)

theorem rect_land (s : Fin 4) (h : Fin 8) :
    i4 ∈ (Rect.unit (s := S4x8x1024x128) ![s.val, h.val, 0, 0] S1x1x1024x128.size (inb_land s h)).set ↔ ((i4 0, i4 1) : Fin 4 × Fin 8) = (s, h) := by
  obtain ⟨a, b, x, y, rfl⟩ : ∃ (a : Fin 4) (b : Fin 8) (x : Fin 1024) (y : Fin 128), i4 = ix4 a b x y := ⟨_, _, _, _, eq_ix4 i4⟩
  rw [Rect.mem_set_unit, Fin.forall_fin_succ, Fin.forall_fin_succ, Fin.forall_fin_two]
  show (s.val ≤ a.val ∧ a.val < s.val + 1) ∧ (h.val ≤ b.val ∧ b.val < h.val + 1) ∧ (0 ≤ x.val ∧ x.val < 0 + 1024) ∧ (0 ≤ y.val ∧ y.val < 0 + 128) ↔ (a, b) = (s, h)
  simp only [Prod.mk.injEq, Fin.ext_iff]
  omega
theorem rect_bf (h : Fin 32) :
    i3 ∈ (Rect.unit (s := S32x1024x128) ![h.val, 0, 0] S1x1024x128.size (inb_own h)).set ↔ (i3 0 : Fin 32) = h := by
  obtain ⟨a, b, x, rfl⟩ : ∃ (a : Fin 32) (b : Fin 1024) (x : Fin 128), i3 = ix3 a b x := ⟨_, _, _, eq_ix3 i3⟩
  rw [Rect.mem_set_unit, Fin.forall_fin_succ, Fin.forall_fin_two]
  show (h.val ≤ a.val ∧ a.val < h.val + 1) ∧ (0 ≤ b.val ∧ b.val < 0 + 1024) ∧ (0 ≤ x.val ∧ x.val < 0 + 128) ↔ a = h
  simp only [Prod.mk.injEq, Fin.ext_iff]
  omega
theorem rect_pland (d : Fin 3) (r : Fin 4) :
    j4 ∈ (Rect.unit (s := S3x4x256x1024) ![d.val, r.val, 0, 0] S1x1x256x1024.size (inb_precv d r)).set ↔ ((j4 0, j4 1) : Fin 3 × Fin 4) = (d, r) := by
  obtain ⟨a, b, x, y, rfl⟩ : ∃ (a : Fin 3) (b : Fin 4) (x : Fin 256) (y : Fin 1024), j4 = ix4 a b x y := ⟨_, _, _, _, eq_ix4 j4⟩
  rw [Rect.mem_set_unit, Fin.forall_fin_succ, Fin.forall_fin_succ, Fin.forall_fin_two]
  show (d.val ≤ a.val ∧ a.val < d.val + 1) ∧ (r.val ≤ b.val ∧ b.val < r.val + 1) ∧ (0 ≤ x.val ∧ x.val < 0 + 256) ∧ (0 ≤ y.val ∧ y.val < 0 + 1024) ↔ (a, b) = (d, r)
  simp only [Prod.mk.injEq, Fin.ext_iff]
  omega
theorem rect_pout (r : Fin 4) :
    p3 ∈ (Rect.unit (s := S4x256x1024) ![r.val, 0, 0] S1x256x1024.size (inb_psend r)).set ↔ (p3 0 : Fin 4) = r := by
  obtain ⟨a, b, x, rfl⟩ : ∃ (a : Fin 4) (b : Fin 256) (x : Fin 1024), p3 = ix3 a b x := ⟨_, _, _, eq_ix3 p3⟩
  rw [Rect.mem_set_unit, Fin.forall_fin_succ, Fin.forall_fin_two]
  show (r.val ≤ a.val ∧ a.val < r.val + 1) ∧ (0 ≤ b.val ∧ b.val < 0 + 256) ∧ (0 ≤ x.val ∧ x.val < 0 + 1024) ↔ a = r
  simp only [Prod.mk.injEq, Fin.ext_iff]
  omega
theorem rect_stg (b' : Fin 2) :
    s3 ∈ (Rect.unit (s := S2x1024x128) ![b'.val, 0, 0] S1x1024x128.size (inb_stage b')).set ↔ (s3 0 : Fin 2) = b' := by
  obtain ⟨a, b, x, rfl⟩ : ∃ (a : Fin 2) (b : Fin 1024) (x : Fin 128), s3 = ix3 a b x := ⟨_, _, _, eq_ix3 s3⟩
  rw [Rect.mem_set_unit, Fin.forall_fin_succ, Fin.forall_fin_two]
  show (b'.val ≤ a.val ∧ a.val < b'.val + 1) ∧ (0 ≤ b.val ∧ b.val < 0 + 1024) ∧ (0 ≤ x.val ∧ x.val < 0 + 128) ↔ a = b'
  simp only [Prod.mk.injEq, Fin.ext_iff]
  omega
theorem rect_ls (r : Fin 4) :
    l3 ∈ (Rect.unit (s := S4x256x8) ![r.val, 0, 0] S1x256x8.size (inb_lsum r)).set ↔ (l3 0 : Fin 4) = r := by
  obtain ⟨a, b, x, rfl⟩ : ∃ (a : Fin 4) (b : Fin 256) (x : Fin 8), l3 = ix3 a b x := ⟨_, _, _, eq_ix3 l3⟩
  rw [Rect.mem_set_unit, Fin.forall_fin_succ, Fin.forall_fin_two]
  show (r.val ≤ a.val ∧ a.val < r.val + 1) ∧ (0 ≤ b.val ∧ b.val < 0 + 256) ∧ (0 ≤ x.val ∧ x.val < 0 + 8) ↔ a = r
  simp only [Prod.mk.injEq, Fin.ext_iff]
  omega
theorem rect_rows (r : Fin 4) :
    x2 ∈ (Rect.unit (s := S1024x1024) ![256 * r.val, 0] S256x1024.size (inb_rows r)).set ↔ rowOf (x2 0) = r := by
  obtain ⟨a, b, rfl⟩ : ∃ (a : Fin 1024) (b : Fin 1024), x2 = ix2 a b := ⟨_, _, eq_ix2 x2⟩
  rw [Rect.mem_set_unit, Fin.forall_fin_two]
  show (256 * r.val ≤ a.val ∧ a.val < 256 * r.val + 256) ∧ (0 ≤ b.val ∧ b.val < 0 + 1024) ↔ rowOf a = r
  simp only [Prod.mk.injEq, Fin.ext_iff]
  omega
theorem rect_ctx (r : Fin 4) (h : Fin 8) :
    x2 ∈ (Rect.unit (s := S1024x1024) ![256 * r.val, 128 * h.val] S256x128.size (inb_ctx r h)).set ↔ ((rowOf (x2 0), headOf (x2 1)) : Fin 4 × Fin 8) = (r, h) := by
  obtain ⟨a, b, rfl⟩ : ∃ (a : Fin 1024) (b : Fin 1024), x2 = ix2 a b := ⟨_, _, eq_ix2 x2⟩
  rw [Rect.mem_set_unit, Fin.forall_fin_two]
  show (256 * r.val ≤ a.val ∧ a.val < 256 * r.val + 256) ∧ (128 * h.val ≤ b.val ∧ b.val < 128 * h.val + 128) ↔ (rowOf a, headOf b) = (r, h)
  simp only [Prod.mk.injEq, Fin.ext_iff]
  omega
theorem rect_acc (r i : Fin 4) :
    x2 ∈ (Rect.unit (s := S1024x1024) ![256 * r.val + 64 * i.val, 0] S64x1024.size (inb_row64 r i)).set ↔ ((rowOf (x2 0), quarter (x2 0)) : Fin 4 × Fin 4) = (r, i) := by
  obtain ⟨a, b, rfl⟩ : ∃ (a : Fin 1024) (b : Fin 1024), x2 = ix2 a b := ⟨_, _, eq_ix2 x2⟩
  rw [Rect.mem_set_unit, Fin.forall_fin_two]
  show (256 * r.val + 64 * i.val ≤ a.val ∧ a.val < 256 * r.val + 64 * i.val + 64) ∧ (0 ≤ b.val ∧ b.val < 0 + 1024) ↔ (rowOf a, quarter a) = (r, i)
  simp only [Prod.mk.injEq, Fin.ext_iff]
  omega
theorem rect_res (r i : Fin 4) :
    x3 ∈ (Rect.unit (s := S1x1024x1024) ![0, 64 * r.val + 256 * i.val, 0] S1x64x1024.size (inb_res i r)).set ↔ ((quarter (x3 1), rowOf (x3 1)) : Fin 4 × Fin 4) = (r, i) := by
  obtain ⟨a, b, x, rfl⟩ : ∃ (a : Fin 1) (b : Fin 1024) (x : Fin 1024), x3 = ix3 a b x := ⟨_, _, _, eq_ix3 x3⟩
  rw [Rect.mem_set_unit, Fin.forall_fin_succ, Fin.forall_fin_two]
  show (0 ≤ a.val ∧ a.val < 0 + 1) ∧ (64 * r.val + 256 * i.val ≤ b.val ∧ b.val < 64 * r.val + 256 * i.val + 64) ∧ (0 ≤ x.val ∧ x.val < 0 + 1024) ↔ (quarter b, rowOf b) = (r, i)
  simp only [Prod.mk.injEq, Fin.ext_iff]
  omega
end

end Cert.KProg

end
-- ==== Proof.Blocks.lean ====
/- The kernel's arrays as their blocks, and what the copies carry between them. -/
module

public import proofs.«01_k».proof.Proof.Geom
public import Idealize.ShloMosaic.Lib.Pipeline.Value

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ UU ℕ

/-! ## Arrays as blocks -/

def keyBf (i : S32x1024x128.Idx) : Fin 32 := i 0
def keyAll (i : S4x8x1024x128.Idx) : Fin 4 × Fin 8 := (i 0, i 1)
def keyPs (i : S4x256x1024.Idx) : Fin 4 := i 0
def keyPr (i : S3x4x256x1024.Idx) : Fin 3 × Fin 4 := (i 0, i 1)
def keyAcc (i : S1024x1024.Idx) : Fin 4 × Fin 4 := (rowOf (i 0), quarter (i 0))
def keyRes (i : S1x1024x1024.Idx) : Fin 4 × Fin 4 := (quarter (i 1), rowOf (i 1))
def keyStg (i : S2x1024x128.Idx) : Fin 2 := i 0

theorem bf_split (t : Bool) (c : Dev nD) :
    ((bfM t).view.loc (c : Thread nD τ) ↦{fullShare} bfC m t c : sProp 𝕄) = BI.bigSep Finset.univ (fun h => bfP m t c h) := by
  cases t
  · exact pts_by_key (ℓ := (c : Thread nD τ).loc cc0_scratch5) (ι := Fin 32) (fun h => (bfAt false ![h.val, 0, 0] (inb_own h)).view.set) keyBf
      (fun h i => by rw [show (bfAt false ![h.val, 0, 0] (inb_own h)).view.set = _ from set_blk cc0_scratch5 _ _ _ squeezes_S1x1024x128_S1024x128]; exact rect_bf i h) _ _
  · exact pts_by_key (ℓ := (c : Thread nD τ).loc cc0_scratch6) (ι := Fin 32) (fun h => (bfAt true ![h.val, 0, 0] (inb_own h)).view.set) keyBf
      (fun h i => by rw [show (bfAt true ![h.val, 0, 0] (inb_own h)).view.set = _ from set_blk cc0_scratch6 _ _ _ squeezes_S1x1024x128_S1024x128]; exact rect_bf i h) _ _

theorem mem_land0 (s : Fin 4) (h : Fin 8) (i : S4x8x1024x128.Idx) : i ∈ (land false s h).view.set ↔ keyAll i = (s, h) := by
  rw [show (land false s h).view.set = _ from set_blk cc0_scratch7 _ _ _ squeezes_S1x1x1024x128_S1024x128]; exact rect_land i s h
theorem mem_land1 (s : Fin 4) (h : Fin 8) (i : S4x8x1024x128.Idx) : i ∈ (land true s h).view.set ↔ keyAll i = (s, h) := by
  rw [show (land true s h).view.set = _ from set_blk cc0_scratch8 _ _ _ squeezes_S1x1x1024x128_S1024x128]; exact rect_land i s h

theorem all_split (t : Bool) (c : Dev nD) :
    ((allM t).view.loc (c : Thread nD τ) ↦{fullShare} allC m t c : sProp 𝕄) = BI.bigSep Finset.univ (fun p : Fin 4 × Fin 8 => landP m t c p.1 p.2) := by
  cases t
  · exact pts_by_key (ℓ := (c : Thread nD τ).loc cc0_scratch7) (ι := Fin 4 × Fin 8) (fun p => (land false p.1 p.2).view.set) keyAll (fun p i => mem_land0 p.1 p.2 i) _ _
  · exact pts_by_key (ℓ := (c : Thread nD τ).loc cc0_scratch8) (ι := Fin 4 × Fin 8) (fun p => (land true p.1 p.2).view.set) keyAll (fun p i => mem_land1 p.1 p.2 i) _ _

omit [FloatOps F] in
theorem all_ex (t : Bool) (c : Dev nD) :
    (iprop(∃ f, (allM t).view.loc (c : Thread nD τ) ↦{fullShare} f) : sProp 𝕄) ⊢ BI.bigSep Finset.univ (fun p : Fin 4 × Fin 8 => landE (F := F) t c p.1 p.2) := by
  cases t
  · exact pts_by_key_ex (ℓ := (c : Thread nD τ).loc cc0_scratch7) (ι := Fin 4 × Fin 8) (fun p => (land false p.1 p.2).view.set) keyAll (fun p i => mem_land0 p.1 p.2 i) _
  · exact pts_by_key_ex (ℓ := (c : Thread nD τ).loc cc0_scratch8) (ι := Fin 4 × Fin 8) (fun p => (land true p.1 p.2).view.set) keyAll (fun p i => mem_land1 p.1 p.2 i) _

theorem mem_pOut (r : Fin 4) (i : S4x256x1024.Idx) : i ∈ (pOut r).view.set ↔ keyPs i = r := by
  rw [show (pOut r).view.set = _ from set_blk cc0_scratch9 _ _ _ squeezes_S1x256x1024_S256x1024]; exact rect_pout i r
theorem mem_pLand (p : Fin 3 × Fin 4) (i : S3x4x256x1024.Idx) : i ∈ (pLand p.1 p.2).view.set ↔ keyPr i = p := by
  rw [show (pLand p.1 p.2).view.set = _ from set_blk cc0_scratch10 _ _ _ squeezes_S1x1x256x1024_S256x1024]; exact rect_pland i p.1 p.2
theorem mem_acc (p : Fin 4 × Fin 4) (i : S1024x1024.Idx) : i ∈ (accRows p.1 p.2).view.set ↔ keyAcc i = p := by
  rw [show (accRows p.1 p.2).view.set = _ from View.set_slice_whole cc0_scratch3 _]; exact rect_acc i p.1 p.2
theorem mem_res (p : Fin 4 × Fin 4) (i : S1x1024x1024.Idx) : i ∈ (resRows p.1 p.2).view.set ↔ keyRes i = p := by
  rw [show (resRows p.1 p.2).view.set = _ from set_blk main_v1 _ _ _ squeezes_S1x64x1024_S64x1024]; exact rect_res i p.1 p.2
theorem mem_stg (b : Fin 2) (i : S2x1024x128.Idx) : i ∈ (stg b).view.set ↔ keyStg i = b := by
  rw [show (stg b).view.set = _ from set_blk cc0_scratch4 _ _ _ squeezes_S1x1024x128_S1024x128]; exact rect_stg i b

theorem ps_split (c : Dev nD) (q : PosShare TreeShare) :
    (psM.view.loc (c : Thread nD τ) ↦{q} psA m c : sProp 𝕄) = BI.bigSep Finset.univ (fun r => psP m c q r) :=
  pts_by_key (ℓ := (c : Thread nD τ).loc cc0_scratch9) (ι := Fin 4) (fun r => (pOut r).view.set) keyPs mem_pOut _ _
theorem pr_split (c : Dev nD) :
    (prM.view.loc (c : Thread nD τ) ↦{fullShare} prA m c : sProp 𝕄) = BI.bigSep Finset.univ (fun p : Fin 3 × Fin 4 => prP m c p.1 p.2) :=
  pts_by_key (ℓ := (c : Thread nD τ).loc cc0_scratch10) (ι := Fin 3 × Fin 4) (fun p => (pLand p.1 p.2).view.set) keyPr mem_pLand _ _
omit [FloatOps F] in
theorem pr_ex (c : Dev nD) :
    (iprop(∃ f, prM.view.loc (c : Thread nD τ) ↦{fullShare} f) : sProp 𝕄) ⊢ BI.bigSep Finset.univ (fun p : Fin 3 × Fin 4 => prE (F := F) c p.1 p.2) :=
  pts_by_key_ex (ℓ := (c : Thread nD τ).loc cc0_scratch10) (ι := Fin 3 × Fin 4) (fun p => (pLand p.1 p.2).view.set) keyPr mem_pLand _
theorem ov_split (c : Dev nD) :
    (ovM.view.loc (c : Thread nD τ) ↦{fullShare} sumC m c : sProp 𝕄) = BI.bigSep Finset.univ (fun p : Fin 4 × Fin 4 => ovP m c p.1 p.2) :=
  pts_by_key (ℓ := (c : Thread nD τ).loc cc0_scratch3) (ι := Fin 4 × Fin 4) (fun p => (accRows p.1 p.2).view.set) keyAcc mem_acc _ _
theorem res_split (c : Dev nD) :
    (outM.view.loc (c : Thread nD τ) ↦{fullShare} resC m c : sProp 𝕄) = BI.bigSep Finset.univ (fun p : Fin 4 × Fin 4 => resP m c p.1 p.2) :=
  pts_by_key (ℓ := (c : Thread nD τ).loc main_v1) (ι := Fin 4 × Fin 4) (fun p => (resRows p.1 p.2).view.set) keyRes mem_res _ _
omit [FloatOps F] in
theorem res_ex (c : Dev nD) :
    (iprop(∃ f, outM.view.loc (c : Thread nD τ) ↦{fullShare} f) : sProp 𝕄) ⊢ BI.bigSep Finset.univ (fun p : Fin 4 × Fin 4 => resE (F := F) c p.1 p.2) :=
  pts_by_key_ex (ℓ := (c : Thread nD τ).loc main_v1) (ι := Fin 4 × Fin 4) (fun p => (resRows p.1 p.2).view.set) keyRes mem_res _

/-- One staging block holding anything. -/
def stgE (c : Dev nD) (b : Fin 2) : sProp 𝕄 := iprop(∃ f, (stg b).view.loc (c : Thread nD τ) ↦[(stg b).view.set]{fullShare} f)

omit [FloatOps F] in
theorem stg_ex (c : Dev nD) :
    (iprop(∃ f, stageM.view.loc (c : Thread nD τ) ↦{fullShare} f) : sProp 𝕄) ⊢ BI.bigSep Finset.univ (fun b : Fin 2 => stgE (F := F) c b) :=
  pts_by_key_ex (ℓ := (c : Thread nD τ).loc cc0_scratch4) (ι := Fin 2) (fun b => (stg b).view.set) keyStg mem_stg _

omit [FloatOps F] in
theorem stg_two (c : Dev nD) (f : Buf (Elt F) ((c : Thread nD τ).loc cc0_scratch4)) :
    ((c : Thread nD τ).loc cc0_scratch4 ↦{fullShare} f : sProp 𝕄)
      = iprop(((c : Thread nD τ).loc cc0_scratch4 ↦[(stg 0).view.set]{fullShare} f) ∗ ((c : Thread nD τ).loc cc0_scratch4 ↦[(stg 1).view.set]{fullShare} f)) := by
  rw [pts_by_key (ℓ := (c : Thread nD τ).loc cc0_scratch4) (ι := Fin 2) (fun b => (stg b).view.set) keyStg (fun b i => mem_stg b i),
    bigSep_univ_eq_bigSepL [0, 1] (by decide) (by decide), bigSepL_cons_cons, bigSepL_singleton]
  rfl

omit [FloatOps F] in
theorem stg_join (c : Dev nD) :
    (iprop(stgE (F := F) c 0 ∗ stgE (F := F) c 1) : sProp 𝕄) ⊢ iprop(∃ f, stageM.view.loc (c : Thread nD τ) ↦{fullShare} f) := by
  unfold stgE
  iintro ⟨⟨%f, H0⟩, ⟨%g, H1⟩⟩
  iexists fun i : S2x1024x128.Idx => if keyStg i = 0 then f i else g i
  iapply (BIBase.BiEntails.of_eq (stg_two c _)).2
  isplitl [H0]
  · iapply (BIBase.BiEntails.of_eq (pointsTo_congr (g := f) fun i hi => if_pos ((mem_stg 0 i).mp hi))).2; iexact H0
  · iapply (BIBase.BiEntails.of_eq (pointsTo_congr (g := g) fun i hi => if_neg (fun h => absurd (((mem_stg 1 i).mp hi).symm.trans h) (by decide)))).2; iexact H1

/-! ## What the copies carry -/

theorem unit_emb {s : Shape} (off size : Fin s.rank → ℕ) (inb : ∀ a, off a + size a ≤ s.size a) (x : (Rect.unit (s := s) off size inb).shape.Idx) (y : s.Idx)
    (h : ∀ a, off a + (x a).val = (y a).val) : (Rect.unit (s := s) off size inb).emb x = y :=
  funext fun a => Fin.ext (by rw [Rect.emb_apply]; show off a + 1 * (x a).val = (y a).val; rw [Nat.one_mul]; exact h a)

theorem reshape_head (h : (⟨2, ![1024, 128]⟩ : Shape).numel = (⟨4, ![1, 1024, 1, 128]⟩ : Shape).numel) (a : Fin 1024) (b : Fin 128) :
    Shape.reshapeEquiv h (ix2 a b) = ix4 (⟨0, Nat.one_pos⟩ : Fin 1) a (⟨0, Nat.one_pos⟩ : Fin 1) b :=
  Shape.reshapeEquiv_eq_of_rowMajor h (by
    rw [Shape.rowMajor_val_four, Shape.rowMajor_val_two]
    show (((0 * 1024 + a.val) * 1 + 0) * 128 + b.val) = a.val * 128 + b.val
    omega)

theorem emb_land (s : Fin 4) (h : Fin 8) (a : Fin 1024) (b : Fin 128) :
    (Rect.unit (s := S4x8x1024x128) ![s.val, h.val, 0, 0] S1x1x1024x128.size (inb_land s h)).emb (Shape.reshapeEquiv squeezes_S1x1x1024x128_S1024x128.numel_eq (ix2 a b)) = ix4 s h a b := by
  rw [reshapeEquiv_ix2_11ab]
  exact unit_emb _ _ _ _ _ fun k => match k with
  | ⟨0, _⟩ => by show s.val + 0 = s.val; omega
  | ⟨1, _⟩ => by show h.val + 0 = h.val; omega
  | ⟨2, _⟩ => by show 0 + a.val = a.val; omega
  | ⟨3, _⟩ => by show 0 + b.val = b.val; omega

theorem emb_bf (h : Fin 32) (a : Fin 1024) (b : Fin 128) :
    (Rect.unit (s := S32x1024x128) ![h.val, 0, 0] S1x1024x128.size (inb_own h)).emb (Shape.reshapeEquiv squeezes_S1x1024x128_S1024x128.numel_eq (ix2 a b)) = ix3 h a b := by
  rw [reshapeEquiv_ix2_1ab]
  exact unit_emb _ _ _ _ _ fun k => match k with
  | ⟨0, _⟩ => by show h.val + 0 = h.val; omega
  | ⟨1, _⟩ => by show 0 + a.val = a.val; omega
  | ⟨2, _⟩ => by show 0 + b.val = b.val; omega

theorem emb_head (h : Fin 32) (a : Fin 1024) (b : Fin 128) :
    (Rect.unit (s := S1x1024x32x128) ![0, 0, h.val, 0] S1x1024x1x128.size (inb_head h)).emb (Shape.reshapeEquiv squeezes_S1x1024x1x128_S1024x128.numel_eq (ix2 a b)) = ix4 0 a h b := by
  rw [reshape_head]
  exact unit_emb _ _ _ _ _ fun k => match k with
  | ⟨0, _⟩ => by show 0 + 0 = 0; omega
  | ⟨1, _⟩ => by show 0 + a.val = a.val; omega
  | ⟨2, _⟩ => by show h.val + 0 = h.val; omega
  | ⟨3, _⟩ => by show 0 + b.val = b.val; omega

theorem emb_x (a : Fin 1024) (b : Fin 1024) :
    (Rect.unit (s := S1x1024x1024) ![0, 0, 0] S1x1024x1024.size (inb_S1x1024x1024_S1x1024x1024_0_0_0)).emb (Shape.reshapeEquiv squeezes_S1x1024x1024_S1024x1024.numel_eq (ix2 a b)) = ix3 0 a b := by
  rw [reshapeEquiv_ix2_1ab]
  exact unit_emb _ _ _ _ _ fun k => match k with
  | ⟨0, _⟩ => by show 0 + 0 = 0; omega
  | ⟨1, _⟩ => by show 0 + a.val = a.val; omega
  | ⟨2, _⟩ => by show 0 + b.val = b.val; omega

theorem emb_pOut (r : Fin 4) (a : Fin 256) (b : Fin 1024) :
    (Rect.unit (s := S4x256x1024) ![r.val, 0, 0] S1x256x1024.size (inb_psend r)).emb (Shape.reshapeEquiv squeezes_S1x256x1024_S256x1024.numel_eq (ix2 a b)) = ix3 r a b := by
  rw [reshapeEquiv_ix2_1ab]
  exact unit_emb _ _ _ _ _ fun k => match k with
  | ⟨0, _⟩ => by show r.val + 0 = r.val; omega
  | ⟨1, _⟩ => by show 0 + a.val = a.val; omega
  | ⟨2, _⟩ => by show 0 + b.val = b.val; omega

theorem emb_pLand (d : Fin 3) (r : Fin 4) (a : Fin 256) (b : Fin 1024) :
    (Rect.unit (s := S3x4x256x1024) ![d.val, r.val, 0, 0] S1x1x256x1024.size (inb_precv d r)).emb (Shape.reshapeEquiv squeezes_S1x1x256x1024_S256x1024.numel_eq (ix2 a b)) = ix4 d r a b := by
  rw [reshapeEquiv_ix2_11ab]
  exact unit_emb _ _ _ _ _ fun k => match k with
  | ⟨0, _⟩ => by show d.val + 0 = d.val; omega
  | ⟨1, _⟩ => by show r.val + 0 = r.val; omega
  | ⟨2, _⟩ => by show 0 + a.val = a.val; omega
  | ⟨3, _⟩ => by show 0 + b.val = b.val; omega

theorem emb_acc (r i : Fin 4) (a : Fin 64) (b : Fin 1024) :
    (Rect.unit (s := S1024x1024) ![256 * r.val + 64 * i.val, 0] S64x1024.size (inb_row64 r i)).emb (ix2 a b) = ix2 ⟨256 * r.val + 64 * i.val + a.val, by omega⟩ b := by
  exact unit_emb _ _ _ _ _ fun k => match k with
  | ⟨0, _⟩ => by show (256 * r.val + 64 * i.val) + a.val = 256 * r.val + 64 * i.val + a.val; omega
  | ⟨1, _⟩ => by show 0 + b.val = b.val; omega

theorem emb_res (r i : Fin 4) (a : Fin 64) (b : Fin 1024) :
    (Rect.unit (s := S1x1024x1024) ![0, 64 * r.val + 256 * i.val, 0] S1x64x1024.size (inb_res i r)).emb (Shape.reshapeEquiv squeezes_S1x64x1024_S64x1024.numel_eq (ix2 a b)) = ix3 0 ⟨64 * r.val + 256 * i.val + a.val, by omega⟩ b := by
  rw [reshapeEquiv_ix2_1ab]
  exact unit_emb _ _ _ _ _ fun k => match k with
  | ⟨0, _⟩ => by show 0 + 0 = 0; omega
  | ⟨1, _⟩ => by show (64 * r.val + 256 * i.val) + a.val = 64 * r.val + 256 * i.val + a.val; omega
  | ⟨2, _⟩ => by show 0 + b.val = b.val; omega

theorem read_land (t : Bool) (c : Dev nD) (s : Fin 4) (h : Fin 8) (a : Fin 1024) (b : Fin 128) :
    (land t s h).view.read (Elt F) (allC m t c) (ix2 a b) = allA m t c (ix4 s h a b) := by
  cases t
  · exact congrArg (allA m false c) (emb_land s h a b)
  · exact congrArg (allA m true c) (emb_land s h a b)

theorem read_bf (t : Bool) (c : Dev nD) (h : Fin 32) (a : Fin 1024) (b : Fin 128) :
    (bfAt t ![h.val, 0, 0] (inb_own h)).view.read (Elt F) (bfC m t c) (ix2 a b) = bfA m t c (ix3 h a b) := by
  cases t
  · exact congrArg (bfA m false c) (emb_bf h a b)
  · exact congrArg (bfA m true c) (emb_bf h a b)

theorem read_head (t : Bool) (c : Dev nD) (h : Fin 32) (a : Fin 1024) (b : Fin 128) :
    (headIn t h).view.read (Elt F) (kvC m t c) (ix2 a b) = kvA m t c (ix4 0 a h b) := by
  cases t
  · exact congrArg (kvA m false c) (emb_head h a b)
  · exact congrArg (kvA m true c) (emb_head h a b)

/-- A head sent to the device `d + 1` further on is that device's block of slot `d`. -/
theorem sent_eq (t : Bool) (c : Dev nD) (d : Fin 3) (h : Fin 8) :
    (bfAt t ![(hd (dstDev c d) h).val, 0, 0] (inb_own _)).view.read (Elt F) (bfC m t c)
      = (land t ⟨d.val, by omega⟩ h).view.read (Elt F) (allC m t (dstDev c d)) := by
  funext i
  obtain ⟨a, b, rfl⟩ : ∃ (a : Fin 1024) (b : Fin 128), i = ix2 a b := ⟨_, _, eq_ix2 i⟩
  rw [read_bf, read_land]
  show _ = bfA m t (src (dstDev c d) ⟨d.val, by omega⟩) (ix3 (hd (dstDev c d) h) a b)
  rw [src_dst]

/-- A head kept is the device's own block of slot 3. -/
theorem kept_eq (t : Bool) (c : Dev nD) (h : Fin 8) :
    (bfAt t ![(hd c h).val, 0, 0] (inb_own _)).view.read (Elt F) (bfC m t c) = (land t 3 h).view.read (Elt F) (allC m t c) := by
  funext i
  obtain ⟨a, b, rfl⟩ : ∃ (a : Fin 1024) (b : Fin 128), i = ix2 a b := ⟨_, _, eq_ix2 i⟩
  rw [read_bf, read_land]
  show _ = bfA m t (src c 3) (ix3 (hd c h) a b)
  rw [src_self]

/-- A share of the result sent is the block it lands in. -/
theorem psent_eq (c : Dev nD) (d : Fin 3) (r : Fin 4) :
    (pOut r).view.read (Elt F) (psA m c) = (pLand d r).view.read (Elt F) (prA m (dstDev c d)) := by
  funext i
  obtain ⟨a, b, rfl⟩ : ∃ (a : Fin 256) (b : Fin 1024), i = ix2 a b := ⟨_, _, eq_ix2 i⟩
  refine (congrArg (psA m c) (emb_pOut r a b)).trans (Eq.trans ?_ (congrArg (prA m (dstDev c d)) (emb_pLand d r a b)).symm)
  show _ = psA m (src (dstDev c d) ⟨d.val, _⟩) (ix3 r a b)
  rw [src_dst]

theorem row_perm (r i : Fin 4) (a : Fin 64) :
    rowPerm ⟨64 * r.val + 256 * i.val + a.val, by omega⟩ = ⟨256 * r.val + 64 * i.val + a.val, by omega⟩ := Fin.ext (by
  show 256 * ((64 * r.val + 256 * i.val + a.val) % 256 / 64) + 64 * ((64 * r.val + 256 * i.val + a.val) / 256) + (64 * r.val + 256 * i.val + a.val) % 64
    = 256 * r.val + 64 * i.val + a.val
  omega)

/-- The accumulated rows are the rows of the result they are copied to. -/
theorem given_eq (c : Dev nD) (r i : Fin 4) :
    (accRows r i).view.read (Elt F) (sumC m c) = (resRows r i).view.read (Elt F) (resC m c) := by
  funext j
  obtain ⟨a, b, rfl⟩ : ∃ (a : Fin 64) (b : Fin 1024), j = ix2 a b := ⟨_, _, eq_ix2 j⟩
  refine (congrArg (sumC m c) (emb_acc r i a b)).trans (Eq.trans ?_ (congrArg (resC m c) (emb_res r i a b)).symm)
  show _ = sumC m c (ix2 (rowPerm ⟨64 * r.val + 256 * i.val + a.val, _⟩) b)
  rw [row_perm]

/-- `x` as the kernel copies it. -/
theorem xIn_eq (c : Dev nD) : xIn.view.read (Elt F) (m ((c : Thread nD τ).loc main_arg0)) = xA m c := by
  funext j
  obtain ⟨a, b, rfl⟩ : ∃ (a : Fin 1024) (b : Fin 1024), j = ix2 a b := ⟨_, _, eq_ix2 j⟩
  exact congrArg (m ((c : Thread nD τ).loc main_arg0)) (emb_x a b)

end Cert.KProg

end
-- ==== Proof.Steps.lean ====
/- One rule per step of the kernel that raises a semaphore or waits on one. -/
module

public import proofs.«01_k».proof.Proof.Blocks

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)

local notation "𝕄" => MT nD τ sig Unit (Elt F) ℕ UU ℕ

abbrev 𝒱₀ : Variants := Variants.none

/-- The kernel's remaining program on device `c` runs to `Q`. -/
abbrev W (c : Dev nD) (p : PR F) (Q : PUnit.{1} → sProp 𝕄) : sProp 𝕄 :=
  wp frame (wpE (defs₀ (F := F)) 𝒱₀ (c : Thread nD τ) none) Set.univ p Q

section
variable {I : Type} [DecidableEq I] {s t : Finset I} {i : I}

omit [FloatOps F] in
theorem bs_sub (Φ : I → sProp 𝕄) (h : t ⊆ s) : BI.bigSep s Φ = iprop(BI.bigSep t Φ ∗ BI.bigSep (s \ t) Φ) := BI.bigSep_sdiff_split h
omit [FloatOps F] in
theorem bs_insert (Φ : I → sProp 𝕄) (h : i ∉ s) : BI.bigSep (insert i s) Φ = iprop(Φ i ∗ BI.bigSep s Φ) := BI.bigSep_insert h
omit [FloatOps F] in
theorem bs_erase (Φ : I → sProp 𝕄) (h : i ∈ s) : BI.bigSep s Φ = iprop(Φ i ∗ BI.bigSep (s.erase i) Φ) := BI.bigSep_erase h
end

/-! ## What every device knows, and what it owes -/

/-- The order of waits, every semaphore's protocol, and that each is in its round. -/
def recs (K : Dev nD × Ce → ℕ) : sProp 𝕄 :=
  iprop(levAts L lv ∗ BI.bigSep Finset.univ (fun p : Dev nD × Ce => cellInv ER (Rd m) (K p) (kcell p.1 p.2))
    ∗ BI.bigSep Finset.univ (fun p : Dev nD × Ce => reached ER (kcell p.1 p.2) 0))

instance recs_persistent (K : Dev nD × Ce → ℕ) : BI.Persistent (recs m K) := by unfold recs; infer_instance

variable (K : Dev nD × Ce → ℕ)

theorem recs_lev : recs m K ⊢ levAts L lv := by unfold recs; iintro ⟨H, -, -⟩; iexact H
theorem recs_inv (c : Dev nD) (k : Ce) : recs m K ⊢ cellInv ER (Rd m) (K (c, k)) (kcell c k) := by
  unfold recs
  iintro ⟨-, H, -⟩
  have h : (BI.bigSep Finset.univ (fun p : Dev nD × Ce => cellInv ER (Rd m) (K p) (kcell p.1 p.2)) : sProp 𝕄)
    ⊢ cellInv ER (Rd m) (K (c, k)) (kcell c k) := BI.bigSep_elim (Finset.mem_univ (c, k))
  iapply h $$ H
theorem recs_reached (c : Dev nD) (k : Ce) : recs m K ⊢ reached ER (kcell c k) 0 := by
  unfold recs
  iintro ⟨-, -, H⟩
  have h : (BI.bigSep Finset.univ (fun p : Dev nD × Ce => reached ER (kcell p.1 p.2) 0) : sProp 𝕄)
    ⊢ reached ER (kcell c k) 0 := BI.bigSep_elim (Finset.mem_univ (c, k))
  iapply h $$ H

/-- Device `c` owes the raises in `l`. -/
def own (c : Dev nD) (l : List (Dev nD × Ce)) : sProp 𝕄 := iprop(∃ w, owes (c : Thread nD τ) (owe l) w)

/-! ## Credit -/

omit [FloatOps F] in
theorem cred_join (g : GSem nD τ sig) (n k : ℕ) : (iprop(cred (tallyAt g () n) ∗ cred (tallyAt g () k)) : sProp 𝕄) ⊢ cred (tallyAt g () (n + k)) := by
  rw [← tallyAt_add]; exact (cred_add _ _).2
omit [FloatOps F] in
theorem cred_part (g : GSem nD τ sig) (n k : ℕ) : (cred (tallyAt g () (n + k)) : sProp 𝕄) ⊢ iprop(cred (tallyAt g () n) ∗ cred (tallyAt g () k)) := by
  rw [← tallyAt_add]; exact (cred_add _ _).1

/-- Credit for `n` units of semaphore `k`. -/
def crd (c : Dev nD) (k : Ce) (n : ℕ) : sProp 𝕄 := cred (tallyAt (kcell c k) () (n * amt k))

omit [FloatOps F] in
theorem crd_zero (c : Dev nD) (k : Ce) : (iprop(emp) : sProp 𝕄) ⊢ crd (F := F) c k 0 := by
  unfold crd; rw [Nat.zero_mul, tallyAt_zero, cred_zero]
omit [FloatOps F] in
theorem crd_succ (c : Dev nD) (k : Ce) (n : ℕ) : (iprop(crd (F := F) c k n ∗ cred (tallyAt (kcell c k) () (amt k))) : sProp 𝕄) ⊢ crd c k (n + 1) := by
  unfold crd; rw [Nat.succ_mul]; exact cred_join _ _ _
omit [FloatOps F] in
theorem crd_pred (c : Dev nD) (k : Ce) (n : ℕ) : (crd (F := F) c k (n + 1) : sProp 𝕄) ⊢ iprop(crd (F := F) c k n ∗ cred (tallyAt (kcell c k) () (amt k))) := by
  unfold crd; rw [Nat.succ_mul]; exact cred_part _ _ _

theorem pays_eq (c : Dev nD) (k : Ce) (S : Finset Duty) :
    (BI.bigSep S (fun j => (Rd (F := F) m).payload (kcell c k) 0 j) : sProp 𝕄) ⊢ BI.bigSep S (fun j => pay m c k j) :=
  Entails.of_eq (BI.bigSep_congr fun j _ => Rd_payload m c k j)

/-! ## Waiting for the units of a semaphore one by one -/

/-- `n` of the units of semaphore `k` are waited for. -/
def wst (c : Dev nD) (k : Ce) (n : ℕ) : sProp 𝕄 :=
  if n < num k then
    iprop(∃ T, atPos ER (kcell c k) 0 T (n * amt k) ∗ BI.bigSep T (fun j => pay m c k j) ∗ ⌜T ⊆ dut k⌝ ∗ crd c k (num k - n))
  else iprop(atPos ER (kcell c k) 1 ∅ 0 ∗ BI.bigSep (dut k) (fun j => pay m c k j))

theorem wst_start (c : Dev nD) (k : Ce) (hk : 0 < num k) : (iprop(atPos ER (kcell c k) 0 ∅ 0 ∗ crd c k (num k)) : sProp 𝕄) ⊢ wst m c k 0 := by
  unfold wst
  rw [if_pos hk]
  iintro ⟨Ha, Hc⟩
  iexists ∅
  rw [Nat.zero_mul, Nat.sub_zero]
  isplitl [Ha]; · iexact Ha
  isplitr; · rw [BI.bigSep_empty]; iempintro
  isplitr; · ipureintro; exact Finset.empty_subset _
  iexact Hc

theorem wst_done (c : Dev nD) (k : Ce) : wst m c k (num k) ⊢ iprop(atPos ER (kcell c k) 1 ∅ 0 ∗ BI.bigSep (dut k) (fun j => pay m c k j)) := by
  unfold wst; rw [if_neg (Nat.lt_irrefl _)]

theorem st_wait {Q : PUnit.{1} → sProp 𝕄} (c : Dev nD) (k : Ce) (n : ℕ) (l : List (Dev nD × Ce)) (w : TpuEff nD τ sig (Elt F) Λ₀ .tc PUnit)
    (hw : ∀ R : PUnit.{1} → sProp 𝕄, wpE (defs₀ (F := F)) 𝒱₀ (c : Thread nD τ) none Set.univ w R = waitSpec (c : Thread nD τ) Set.univ (csem k) (amt k) R)
    (hn : n < num k) (hl : ∀ e ∈ l, lvl k < lvl e.2) {kk : PUnit → PR F} :
    iprop(recs m K ∗ own c l ∗ wst m c k n) ⊢ iprop(((own c l ∗ wst m c k (n + 1)) -∗ W c (kk ⟨⟩) Q) -∗ W c (.op w kk) Q) := by
  obtain ⟨p, hp⟩ : ∃ p, num k - n = p + 1 := ⟨num k - n - 1, by omega⟩
  unfold own wst
  rw [if_pos hn, hp]
  by_cases hlast : n + 1 < num k
  · rw [if_pos hlast, Nat.succ_mul, show num k - (n + 1) = p by omega]
    iintro ⟨#HR, ⟨%w', HO⟩, ⟨%T, Hat, Hp, %hT, Hc⟩⟩ Hk
    ihave Hc' := (crd_pred (F := F) c k p) $$ Hc
    icases Hc' with ⟨Hc, Hc1⟩
    iapply (Rounds.wp_wait 𝒱₀ ER (Rd m) (c : Thread nD τ) none (κ := K (c, k)) hw (Set.mem_univ _) (cr := Finsupp.single () (amt k)) (O := owe l) (W := w')
      {(csem k, ())} (R := 0) (m := n * amt k) (T := T) (by rw [Util.total_single]) (image_single_subset (csem k) () (amt k))) $$ [Hc1 HO Hat]
    · isplitr; · iapply (recs_inv m K c k); iexact HR
      isplitl [Hc1]; · iexact Hc1
      isplitl [HO]; · iexact HO
      isplitr
      · iapply (mayWait (F := F) c (csem k) (lvl k) l (le_of_eq (lv_kcell c k ())) hl)
        iapply (recs_lev m K); iexact HR
      iexact Hat
    iintro %S ⟨%hS, HO, Hat, Hp'⟩
    iapply Hk
    isplitl [HO]; · iexists _; iexact HO
    iexists S
    isplitl [Hat]; · iexact Hat
    isplitl [Hp Hp']
    · iapply (Entails.of_eq (bs_sub _ hS.1).symm)
      isplitl [Hp]; · iexact Hp
      iapply (pays_eq m c k _) $$ Hp'
    isplitr; · ipureintro; rw [← Rd_duties m c k]; exact hS.2.1
    iexact Hc
  · rw [if_neg hlast]
    iintro ⟨#HR, ⟨%w', HO⟩, ⟨%T, Hat, Hp, %hT, Hc⟩⟩ Hk
    ihave Hc' := (crd_pred (F := F) c k p) $$ Hc
    icases Hc' with ⟨Hc, Hc1⟩
    iapply (Rounds.wp_wait_rest_token 𝒱₀ ER (Rd m) (c : Thread nD τ) none (κ := K (c, k)) hw (Set.mem_univ _) () (O := owe l) (W := w')
      (R := 0) (m := n * amt k) (T := T) (by rw [Rd_expect, ← Nat.succ_mul]; congr 1; omega)) $$ [Hc1 HO Hat]
    · isplitr; · iapply (recs_inv m K c k); iexact HR
      isplitl [Hc1]; · iexact Hc1
      isplitl [HO]; · iexact HO
      isplitr
      · iapply (mayWait (F := F) c (csem k) (lvl k) l (le_of_eq (lv_kcell c k ())) hl)
        iapply (recs_lev m K); iexact HR
      iexact Hat
    iintro ⟨HO, Hat, -, Hp'⟩
    iapply Hk
    isplitl [HO]; · iexists _; iexact HO
    isplitl [Hat]; · iexact Hat
    iapply (Entails.of_eq (bs_sub _ hT).symm)
    isplitl [Hp]; · iexact Hp
    iapply (Entails.of_eq (congrArg (fun d => BI.bigSep (d \ T) (fun j => pay m c k j)) (Rd_duties m c k)))
    iapply (pays_eq m c k _) $$ Hp'

/-! ## Waits -/

/-- The kernel's waits on a semaphore that copies raise. -/
theorem st_waitDma {Q : PUnit.{1} → sProp 𝕄} (c : Dev nD) (k : Ce) (n : ℕ) (l : List (Dev nD × Ce)) {sp sp' : Space} {s s' : Shape} {e e' : EltTy} {sem : DmaSem sig}
    {src : Memref sig .tc sp' s' e'} {dst : Memref sig .tc sp s e} {hsrc : src.view.WordExact} {hdst : dst.view.WordExact}
    (hs : csem k = .dma sem) (ha : dst.view.dmaCredit = amt k) (hn : n < num k) (hl : ∀ e ∈ l, lvl k < lvl e.2) {kk : PUnit → PR F} :
    iprop(recs m K ∗ own c l ∗ wst m c k n)
      ⊢ iprop(((own c l ∗ wst m c k (n + 1)) -∗ W c (kk ⟨⟩) Q) -∗ W c (.op (.waitDma2 sem src dst hsrc hdst) kk) Q) :=
  st_wait m K c k n l _ (fun R => by rw [hs, ← ha]; rfl) hn hl

/-! ## Raises -/

/-- The name of a unit. -/
abbrev u8 (h : Fin 8) : Duty := ⟨h.val, by omega⟩
abbrev u4 (r : Fin 4) : Duty := ⟨r.val, by omega⟩
abbrev u3 (d : Fin 3) : Duty := ⟨d.val, by omega⟩
abbrev u16 (r i : Fin 4) : Duty := ⟨4 * r.val + i.val, by omega⟩

theorem j8_u8 : ∀ h : Fin 8, j8 (u8 h) = h := by decide +kernel
theorem j4_u4 : ∀ r : Fin 4, j4 (u4 r) = r := by decide +kernel
theorem j3_u3 : ∀ d : Fin 3, j3 (u3 d) = d := by decide +kernel
theorem jr_u16 : ∀ r i : Fin 4, jr (u16 r i) = r := by decide +kernel
theorem j4_u16 : ∀ r i : Fin 4, j4 (u16 r i) = i := by decide +kernel
theorem u8_mem (k : Ce) (hk : num k = 8) (h : Fin 8) : u8 h ∈ dut k := Finset.mem_filter.mpr ⟨Finset.mem_univ _, by rw [hk]; exact h.isLt⟩
theorem u4_mem (k : Ce) (hk : num k = 4) (r : Fin 4) : u4 r ∈ dut k := Finset.mem_filter.mpr ⟨Finset.mem_univ _, by rw [hk]; exact r.isLt⟩
theorem u3_mem (d : Fin 3) : u3 d ∈ dut .bar := Finset.mem_filter.mpr ⟨Finset.mem_univ _, d.isLt⟩
theorem u16_mem (j : Duty) : j ∈ dut .give := Finset.mem_filter.mpr ⟨Finset.mem_univ _, j.isLt⟩

theorem in_round (c : Dev nD) (k : Ce) {j : Duty} (h : j ∈ dut k) : j ∈ (Rd (F := F) m).duties (kcell c k) 0 := by rw [Rd_duties]; exact h

theorem dst_val : ∀ (c : Dev nD) (d : Fin 3), (dstDev c d).val = (c.val + d.val + 1) % 4 := by decide +kernel
theorem off_to (c : Dev nD) (d : Fin 3) (h : Fin 8) :
    k0_off1 c (BitVec.ofNat 32 (1 + d.val)) (BitVec.ofNat 32 h.val) = ![(hd (dstDev c d) h).val, 0, 0] := by
  rw [k0_off1_eq]
  show _ = ![8 * (dstDev c d).val + h.val, 0, 0]
  rw [dst_val]
theorem off_keep (c : Dev nD) (h : Fin 8) : k0_off2 c (BitVec.ofNat 32 h.val) = ![(hd c h).val, 0, 0] := k0_off2_eq c h

/-- The block the device `d + 1` further on is sent. -/
theorem to_eq (t : Bool) (c : Dev nD) (d : Fin 3) (h : Fin 8) :
    ((ownTo t c d h).view.loc (c : Thread nD τ) ↦[(ownTo t c d h).view.set]{fullShare} bfC m t c : sProp 𝕄) = bfP m t c (hd (dstDev c d) h) :=
  bfO_congr m t c (off_to c d h) (k0_off1_inb c d h) (inb_own _)
theorem keep_eq (t : Bool) (c : Dev nD) (h : Fin 8) :
    ((ownKeep t c h).view.loc (c : Thread nD τ) ↦[(ownKeep t c h).view.set]{fullShare} bfC m t c : sProp 𝕄) = bfP m t c (hd c h) :=
  bfO_congr m t c (off_keep c h) (k0_off2_inb c h) (inb_own _)

theorem bfAt_read (t : Bool) (c : Dev nD) {off off' : Fin 3 → ℕ} (h : off = off') (inb inb') :
    (bfAt t off inb).view.read (Elt F) (bfC m t c) = (bfAt t off' inb').view.read (Elt F) (bfC m t c) := by subst h; rfl

theorem pay_send (t : Bool) (c : Dev nD) (d : Fin 3) (h : Fin 8) :
    ((ownTo t c d h).view.loc (c : Thread nD τ) ↦[(ownTo t c d h).view.set]{fullShare} bfC m t c : sProp 𝕄)
      ⊢ (Rd (F := F) m).payload (kcell c (.send t d)) 0 (u8 h) := by
  rw [to_eq, Rd_payload m c (.send t d)]
  show _ ⊢ bfP m t c (hd (dstDev c d) (j8 (u8 h)))
  rw [j8_u8]

theorem land_written (t : Bool) (c : Dev nD) (s : Fin 4) (h : Fin 8) (f : (allM t).view.ty.Contents (Elt F)) (w : S1024x128.Idx → Elt F .bf16)
    (hw : w = (land t s h).view.read (Elt F) (allC m t c)) :
    ((land t s h).view.loc (c : Thread nD τ) ↦[(land t s h).view.set]{fullShare} (land t s h).view.write (Elt F) f w Finset.univ : sProp 𝕄) ⊢ landP m t c s h :=
  Entails.of_eq (pts_write c (land t s h).view fullShare f (allC m t c) w hw)

theorem pay_recv (t : Bool) (c : Dev nD) (d : Fin 3) (h : Fin 8) (f : (allM t).view.ty.Contents (Elt F)) :
    ((land t ⟨d.val, by omega⟩ h).view.loc (dstDev c d : Thread nD τ) ↦[(land t ⟨d.val, by omega⟩ h).view.set]{fullShare}
        (land t ⟨d.val, by omega⟩ h).view.write (Elt F) f ((ownTo t c d h).view.read (Elt F) (bfC m t c)) Finset.univ : sProp 𝕄)
      ⊢ (Rd (F := F) m).payload (kcell (dstDev c d) (.recv t d)) 0 (u8 h) := by
  rw [Rd_payload m (dstDev c d) (.recv t d)]
  show _ ⊢ landP m t (dstDev c d) ⟨d.val, by omega⟩ (j8 (u8 h))
  rw [j8_u8]
  have hw : (ownTo t c d h).view.read (Elt F) (bfC m t c) = (land t ⟨d.val, by omega⟩ h).view.read (Elt F) (allC m t (dstDev c d)) :=
    (bfAt_read m t c (off_to c d h) (k0_off1_inb c d h) (inb_own _)).trans (sent_eq m t c d h)
  exact land_written m t (dstDev c d) ⟨d.val, by omega⟩ h f _ hw

theorem pay_keep (t : Bool) (c : Dev nD) (h : Fin 8) (f : (allM t).view.ty.Contents (Elt F)) :
    (iprop(((land t 3 h).view.loc (c : Thread nD τ) ↦[(land t 3 h).view.set]{fullShare}
        (land t 3 h).view.write (Elt F) f ((ownKeep t c h).view.read (Elt F) (bfC m t c)) Finset.univ)
        ∗ ((ownKeep t c h).view.loc (c : Thread nD τ) ↦[(ownKeep t c h).view.set]{fullShare} bfC m t c)) : sProp 𝕄)
      ⊢ (Rd (F := F) m).payload (kcell c (.keep t)) 0 (u8 h) := by
  rw [keep_eq, Rd_payload m c (.keep t)]
  show _ ⊢ iprop(landP m t c 3 (j8 (u8 h)) ∗ bfP m t c (hd c (j8 (u8 h))))
  rw [j8_u8]
  exact sep_mono_left (Entails.of_eq (pts_write c (land t 3 h).view fullShare f (allC m t c) _
    ((bfAt_read m t c (off_keep c h) (k0_off2_inb c h) (inb_own _)).trans (kept_eq m t c h))))

theorem pay_psend (c : Dev nD) (d : Fin 3) (r : Fin 4) :
    ((pOut r).view.loc (c : Thread nD τ) ↦[(pOut r).view.set]{shr d} psA m c : sProp 𝕄) ⊢ (Rd (F := F) m).payload (kcell c (.psend d)) 0 (u4 r) := by
  rw [Rd_payload m c (.psend d)]; show _ ⊢ psP m c (shr d) (j4 (u4 r)); rw [j4_u4]; exact .rfl

theorem pay_precv (c : Dev nD) (d : Fin 3) (r : Fin 4) (f : S3x4x256x1024.Idx → Elt F .bf16) :
    ((pLand d r).view.loc (dstDev c d : Thread nD τ) ↦[(pLand d r).view.set]{fullShare}
        (pLand d r).view.write (Elt F) f ((pOut r).view.read (Elt F) (psA m c)) Finset.univ : sProp 𝕄)
      ⊢ (Rd (F := F) m).payload (kcell (dstDev c d) (.precv d)) 0 (u4 r) := by
  rw [Rd_payload m (dstDev c d) (.precv d)]
  show _ ⊢ prP m (dstDev c d) d (j4 (u4 r))
  rw [j4_u4]
  exact Entails.of_eq (pts_write (dstDev c d) (pLand d r).view fullShare f (prA m (dstDev c d)) _ (psent_eq m c d r))

theorem pay_give (c : Dev nD) (r i : Fin 4) (f : S1x1024x1024.Idx → Elt F .f32) :
    (iprop(((resRows r i).view.loc (c : Thread nD τ) ↦[(resRows r i).view.set]{fullShare}
        (resRows r i).view.write (Elt F) f ((accRows r i).view.read (Elt F) (sumC m c)) Finset.univ)
        ∗ ((accRows r i).view.loc (c : Thread nD τ) ↦[(accRows r i).view.set]{fullShare} sumC m c)) : sProp 𝕄)
      ⊢ (Rd (F := F) m).payload (kcell c .give) 0 (u16 r i) := by
  rw [Rd_payload m c .give]
  show _ ⊢ iprop(resP m c (jr (u16 r i)) (j4 (u16 r i)) ∗ ovP m c (jr (u16 r i)) (j4 (u16 r i)))
  rw [jr_u16, j4_u16]
  exact sep_mono_left (Entails.of_eq (pts_write c (resRows r i).view fullShare f (resC m c) _ (given_eq m c r i)))

theorem NK_eq : ∀ (t : Bool) (s : Fin 4) (h : Fin 8), (land t s h).view.dmaCredit = NK := by
  intro t; cases t <;> intro s h <;> rfl

theorem st_send {Q : PUnit.{1} → sProp 𝕄} (t : Bool) (c : Dev nD) (d : Fin 3) (h : Fin 8) (l : List (Dev nD × Ce)) {kk : PR F} :
    iprop(recs m K ∗ own c ((dstDev c d, .recv t d) :: l) ∗ bfP m t c (hd (dstDev c d) h) ∗ landE (F := F) t (dstDev c d) ⟨d.val, by omega⟩ h
        ∗ dutyTok ER (kcell c (.send t d)) 0 (u8 h) ∗ dutyTok ER (kcell (dstDev c d) (.recv t d)) 0 (u8 h))
      ⊢ iprop(((own c l ∗ cred (tallyAt (kcell c (.send t d)) () (amt (.send t d)))) -∗ W c kk Q) -∗ W c (send t c d h kk) Q) := by
  rw [← to_eq]
  unfold own landE
  iintro ⟨#HR, ⟨%w, HO⟩, Hs, ⟨%f, Hd⟩, Ht1, Ht2⟩ Hk
  unfold send
  iapply (Rounds.wp_send_pointsTo 𝒱₀ ER (Rd m) (c : Thread nD τ) none (c' := (dstDev c d : Thread nD τ)) (src := ownTo t c d h) (dst := land t ⟨d.val, by omega⟩ h)
      (sS := csem (.send t d)) (sem := csem (.recv t d)) (q := fullShare) (fs := bfC m t c) (fd := f) (d₁ := u8 h) (d₂ := u8 h) (r₁ := 0) (r₂ := 0)
      (κ₁ := K (c, .send t d)) (κ₂ := K (dstDev c d, .recv t d))
      (in_round m c (.send t d) (u8_mem _ rfl h)) (in_round m (dstDev c d) (.recv t d) (u8_mem _ rfl h)) () () NK (NK_eq t _ h)
      (Rd_amount m c (.send t d) _) (Rd_amount m (dstDev c d) (.recv t d) _) (owe l) (owe_cons _ _ _)
      (pay_send m t c d h) (pay_recv m t c d h f)) $$ [HO Hs Hd Ht1 Ht2]
  · isplitr; · iapply (recs_inv m K c (.send t d)); iexact HR
    isplitr; · iapply (recs_inv m K (dstDev c d) (.recv t d)); iexact HR
    isplitl [Hs]; · iexact Hs
    isplitl [Hd]; · iexact Hd
    isplitl [HO]; · iexact HO
    isplitl [Ht1]; · iexact Ht1
    isplitr; · iapply (recs_reached m K c (.send t d)); iexact HR
    isplitl [Ht2]; · iexact Ht2
    iapply (recs_reached m K (dstDev c d) (.recv t d)); iexact HR
  iintro ⟨Hc, HO⟩
  iapply Hk
  isplitl [HO]; · iexists _; iexact HO
  iexact Hc

theorem st_keep {Q : PUnit.{1} → sProp 𝕄} (t : Bool) (c : Dev nD) (h : Fin 8) {kk : PR F} :
    iprop(recs m K ∗ bfP m t c (hd c h) ∗ landE (F := F) t c 3 h ∗ dutyTok ER (kcell c (.keep t)) 0 (u8 h))
      ⊢ iprop((cred (tallyAt (kcell c (.keep t)) () (amt (.keep t))) -∗ W c kk Q) -∗ W c (keep t c h kk) Q) := by
  rw [← keep_eq]
  unfold landE
  iintro ⟨#HR, Hs, ⟨%f, Hd⟩, Ht⟩ Hk
  unfold keep
  iapply (Rounds.wp_copy_pointsTo 𝒱₀ ER (Rd m) (c : Thread nD τ) none (src := ownKeep t c h) (dst := land t 3 h) (sem := csem (.keep t))
      (q := fullShare) (fs := bfC m t c) (fd := f) (r := 0) (d := u8 h) (κ := K (c, .keep t)) (in_round m c (.keep t) (u8_mem _ rfl h)) () NK (NK_eq t _ h)
      (Rd_amount m c (.keep t) _) (pay_keep m t c h f)) $$ [Hs Hd Ht]
  · isplitr; · iapply (recs_inv m K c (.keep t)); iexact HR
    isplitl [Hs]; · iexact Hs
    isplitl [Hd]; · iexact Hd
    isplitl [Ht]; · iexact Ht
    iapply (recs_reached m K c (.keep t)); iexact HR
  iexact Hk

theorem st_psend {Q : PUnit.{1} → sProp 𝕄} (c : Dev nD) (r : Fin 4) (d : Fin 3) (l : List (Dev nD × Ce)) {kk : PR F} :
    iprop(recs m K ∗ own c ((dstDev c d, .precv d) :: l) ∗ psP m c (shr d) r ∗ prE (F := F) (dstDev c d) d r
        ∗ dutyTok ER (kcell c (.psend d)) 0 (u4 r) ∗ dutyTok ER (kcell (dstDev c d) (.precv d)) 0 (u4 r))
      ⊢ iprop(((own c l ∗ cred (tallyAt (kcell c (.psend d)) () (amt (.psend d)))) -∗ W c kk Q) -∗ W c (psend c r d kk) Q) := by
  unfold own prE psP
  iintro ⟨#HR, ⟨%w, HO⟩, Hs, ⟨%f, Hd⟩, Ht1, Ht2⟩ Hk
  unfold psend
  iapply (Rounds.wp_send_pointsTo 𝒱₀ ER (Rd m) (c : Thread nD τ) none (c' := (dstDev c d : Thread nD τ)) (src := pOut r) (dst := pLand d r)
      (sS := csem (.psend d)) (sem := csem (.precv d)) (q := shr d) (fs := psA m c) (fd := f) (d₁ := u4 r) (d₂ := u4 r) (r₁ := 0) (r₂ := 0)
      (κ₁ := K (c, .psend d)) (κ₂ := K (dstDev c d, .precv d))
      (in_round m c (.psend d) (u4_mem _ rfl r)) (in_round m (dstDev c d) (.precv d) (u4_mem _ rfl r)) () () NP (show (pLand d r).view.dmaCredit = NP from rfl)
      (Rd_amount m c (.psend d) _) (Rd_amount m (dstDev c d) (.precv d) _) (owe l) (owe_cons _ _ _)
      (pay_psend m c d r) (pay_precv m c d r f)) $$ [HO Hs Hd Ht1 Ht2]
  · isplitr; · iapply (recs_inv m K c (.psend d)); iexact HR
    isplitr; · iapply (recs_inv m K (dstDev c d) (.precv d)); iexact HR
    isplitl [Hs]; · iexact Hs
    isplitl [Hd]; · iexact Hd
    isplitl [HO]; · iexact HO
    isplitl [Ht1]; · iexact Ht1
    isplitr; · iapply (recs_reached m K c (.psend d)); iexact HR
    isplitl [Ht2]; · iexact Ht2
    iapply (recs_reached m K (dstDev c d) (.precv d)); iexact HR
  iintro ⟨Hc, HO⟩
  iapply Hk
  isplitl [HO]; · iexists _; iexact HO
  iexact Hc

theorem st_give {Q : PUnit.{1} → sProp 𝕄} (c : Dev nD) (r i : Fin 4) {kk : PR F} :
    iprop(recs m K ∗ ovP m c r i ∗ resE (F := F) c r i ∗ dutyTok ER (kcell c .give) 0 (u16 r i))
      ⊢ iprop((cred (tallyAt (kcell c .give) () (amt .give)) -∗ W c kk Q) -∗ W c (give r i kk) Q) := by
  unfold resE ovP
  iintro ⟨#HR, Hs, ⟨%f, Hd⟩, Ht⟩ Hk
  unfold give
  iapply (Rounds.wp_copy_pointsTo 𝒱₀ ER (Rd m) (c : Thread nD τ) none (src := accRows r i) (dst := resRows r i) (sem := csem .give)
      (q := fullShare) (fs := sumC m c) (fd := f) (r := 0) (d := u16 r i) (κ := K (c, .give)) (in_round m c .give (u16_mem _)) () NG (show (resRows r i).view.dmaCredit = NG from rfl)
      (Rd_amount m c .give _) (pay_give m c r i f)) $$ [Hs Hd Ht]
  · isplitr; · iapply (recs_inv m K c .give); iexact HR
    isplitl [Hs]; · iexact Hs
    isplitl [Hd]; · iexact Hd
    isplitl [Ht]; · iexact Ht
    iapply (recs_reached m K c .give); iexact HR
  iexact Hk

/-! ## The barrier -/

theorem pay_bar (c : Dev nD) (d : Fin 3) : right (F := F) c (opp d) ⊢ (Rd (F := F) m).payload ((c : Thread nD τ), .reg semBar.sem) 0 (u3 d) := by
  rw [show (Rd (F := F) m).payload ((c : Thread nD τ), .reg semBar.sem) 0 (u3 d) = _ from Rd_payload m c .bar (u3 d)]
  show _ ⊢ right c (opp (j3 (u3 d)))
  rw [j3_u3]

theorem pays_bar (c : Dev nD) : (BI.bigSep ((Rd (F := F) m).duties ((c : Thread nD τ), .reg semBar.sem) 0 \ ∅)
      (fun j => (Rd (F := F) m).payload ((c : Thread nD τ), .reg semBar.sem) 0 j) : sProp 𝕄) ⊢ BI.bigSep (dut .bar) (fun j => right (F := F) c (opp (j3 j))) := by
  rw [Finset.sdiff_empty, show (Rd (F := F) m).duties ((c : Thread nD τ), .reg semBar.sem) 0 = _ from Rd_duties m c .bar]
  exact pays_eq m c .bar _

theorem st_signal {Q : PUnit.{1} → sProp 𝕄} (c : Dev nD) (d : Fin 3) (l : List (Dev nD × Ce)) {kk : PR F} :
    iprop(recs m K ∗ own c ((dstDev c d, .bar) :: l) ∗ dutyTok ER (kcell (dstDev c d) .bar) 0 (u3 d) ∗ right (F := F) (dstDev c d) (opp d))
      ⊢ iprop((own c l -∗ W c kk Q) -∗ W c (signal c d kk) Q) := by
  unfold own
  iintro ⟨#HR, ⟨%w, HO⟩, Ht, Hp⟩ Hk
  unfold signal
  iapply (Rounds.wp_signal 𝒱₀ ER (Rd m) (c : Thread nD τ) none (κ := K (dstDev c d, .bar)) (k' := 1) (in_round m (dstDev c d) .bar (u3_mem d))
      (Rd_amount m (dstDev c d) .bar _) () (O₀ := owe ((dstDev c d, .bar) :: l)) (owe l) (owe_cons (dstDev c d) .bar l)) $$ [HO Ht Hp]
  · isplitr; · iapply (recs_inv m K (dstDev c d) .bar); iexact HR
    isplitl [HO]; · iexact HO
    isplitl [Ht]; · iexact Ht
    isplitl [Hp]
    · iapply (pay_bar m (dstDev c d) d); iexact Hp
    iapply (recs_reached m K (dstDev c d) .bar); iexact HR
  iintro HO
  iapply Hk
  iexists _; iexact HO

theorem st_waitBar {Q : PUnit.{1} → sProp 𝕄} (c : Dev nD) (l : List (Dev nD × Ce)) (hl : ∀ e ∈ l, 0 < lvl e.2) {kk : PR F} :
    iprop(recs m K ∗ own c l ∗ atPos ER (kcell c .bar) 0 ∅ 0 ∗ cred (tallyAt (kcell c .bar) () 3))
      ⊢ iprop(((own c l ∗ atPos ER (kcell c .bar) 1 ∅ 0 ∗ BI.bigSep (dut .bar) (fun j => right (F := F) c (opp (j3 j)))) -∗ W c kk Q) -∗ W c (waitBar kk) Q) := by
  unfold own
  iintro ⟨#HR, ⟨%w, HO⟩, Hat, Hc⟩ Hk
  unfold waitBar
  iapply (Rounds.wp_wait_rest_token 𝒱₀ ER (Rd m) (c : Thread nD τ) none (κ := K (c, .bar)) (k' := 3) (wpE_semWait_eq 𝒱₀ (c : Thread nD τ) none Set.univ) (Set.mem_univ _) ()
      (O := owe l) (W := w) (R := 0) (m := 0) (T := ∅) (show 0 + 3 = (Rd m).expect (kcell c .bar) 0 by rw [Rd_expect m c .bar]; rfl)) $$ [Hc HO Hat]
  · isplitr; · iapply (recs_inv m K c .bar); iexact HR
    isplitl [Hc]; · iexact Hc
    isplitl [HO]; · iexact HO
    isplitr
    · iapply (mayWait (F := F) c (csem .bar) 0 l (le_of_eq (lv_kcell c .bar ())) hl)
      iapply (recs_lev m K); iexact HR
    iexact Hat
  iintro ⟨HO, Hat, -, Hp⟩
  iapply Hk
  isplitl [HO]; · iexists _; iexact HO
  isplitl [Hat]; · iexact Hat
  iapply (pays_bar m c) $$ Hp

end Cert.KProg

end
-- ==== Proof.Local.lean ====
/- The device's own copies, its loads and stores, and its loops. -/
module

public import proofs.«01_k».proof.Proof.Steps

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## Loops -/

/-- A loop over a list whose steps are numbered from `n` on. -/
theorem each_wp {Q : PUnit.{1} → sProp 𝕄} {α : Type} (c : Dev nD) (P : sProp 𝕄) [BI.Persistent P] (I : ℕ → sProp 𝕄) (f : α → PR F → PR F) (g : α → ℕ) (k : PR F)
    (l : List α) (n : ℕ) (hl : l.map g = List.range' n l.length)
    (step : ∀ a ∈ l, ∀ k : PR F, iprop(P ∗ I (g a)) ⊢ iprop((I (g a + 1) -∗ W c k Q) -∗ W c (f a k) Q)) :
    iprop(P ∗ I n) ⊢ iprop((I (n + l.length) -∗ W c k Q) -∗ W c (each l f k) Q) := by
  induction l generalizing n with
  | nil =>
    iintro ⟨-, H⟩ Hk
    iapply Hk
    iexact H
  | cons a l ih =>
    have h0 : g a = n := by
      have := congrArg List.head? hl
      simpa [List.range'] using this
    have ht : l.map g = List.range' (n + 1) l.length := by
      have := congrArg List.tail hl
      simpa [List.range'] using this
    have ih' := ih (n + 1) ht (fun b hb => step b (List.mem_cons_of_mem _ hb))
    have st := step a List.mem_cons_self (each l f k)
    rw [h0] at st
    rw [show n + (a :: l).length = n + 1 + l.length by rw [List.length_cons]; omega]
    iintro ⟨#HP, H⟩ Hk
    iapply st $$ [H]
    · isplitr; · iexact HP
      iexact H
    iintro H
    iapply ih' $$ [H]
    · isplitr; · iexact HP
      iexact H
    iexact Hk

theorem all8_num : all8.map (fun h => h.val) = List.range' 0 all8.length := by decide +kernel
theorem all4_num : all4.map (fun h => h.val) = List.range' 0 all4.length := by decide +kernel
theorem all3_num : all3.map (fun h => h.val) = List.range' 0 all3.length := by decide +kernel
theorem first32_num : first32.map id = List.range' 0 first32.length := by decide +kernel
theorem next30_num : next30.map id = List.range' 32 next30.length := by decide +kernel

/-! ## Loads and stores -/

theorem st_ld {Q : PUnit.{1} → sProp 𝕄} (c : Dev nD) {sp : CoreSpace} {s : Shape} {e : EltTy} (M : Memref sig .tc sp s e) (r : Rect s) (h : M.view.LoadsAt r.toLoadRect)
    {S : Finset (Idx (M.view.loc (c : Thread nD τ)))} {q : PosShare TreeShare} {f : Buf (Elt F) (M.view.loc (c : Thread nD τ))} (hS : M.view.setOn r.toLoadRect.set ⊆ S)
    {kk : (r.toLoadRect.shape.Idx → Elt F e) → PR F} :
    (M.view.loc (c : Thread nD τ) ↦[S]{q} f : sProp 𝕄)
      ⊢ iprop(((M.view.loc (c : Thread nD τ) ↦[S]{q} f) -∗ W c (kk (M.view.readAt (Elt F) r.toLoadRect f)) Q) -∗ W c (ld M r h kk) Q) :=
  wp_load 𝒱₀ (c : Thread nD τ) none Set.univ hS

theorem st_st {Q : PUnit.{1} → sProp 𝕄} (c : Dev nD) {sp : CoreSpace} {s : Shape} {e : EltTy} (M : Memref sig .tc sp s e) (r : Rect s) (w : r.shape.Idx → Elt F e)
    (hx : (M.access r).Stores Finset.univ) (hm : (Finset.univ : Finset r.shape.Idx) = Finset.univ ∨ ∀ a, r.stride a = 1)
    {f : Buf (Elt F) ((M.access r).loc (c : Thread nD τ))} {kk : PUnit → PR F} :
    ((M.access r).loc (c : Thread nD τ) ↦{fullShare} f : sProp 𝕄)
      ⊢ iprop((((M.access r).loc (c : Thread nD τ) ↦{fullShare} ((M.access r).write (Elt F) f w Finset.univ)) -∗ W c (kk ⟨⟩) Q)
        -∗ W c (.op (.store M r w Finset.univ hx hm) kk) Q) :=
  wp_store 𝒱₀ (c : Thread nD τ) none Set.univ (Finset.subset_univ _)

/-! ## The keys and values rounded -/

abbrev NF : ℕ := (stg 0).view.dmaCredit

/-- Some share of the device's keys or values. -/
def kvRO (t : Bool) (c : Dev nD) : sProp 𝕄 := iprop(∃ q : PosShare TreeShare, (kvM t).view.loc (c : Thread nD τ) ↦{q} kvC m t c)

/-- A head on its way to a staging block. -/
def fl (t : Bool) (c : Dev nD) (h : Fin 32) (b : Fin 2) : sProp 𝕄 :=
  iprop(∃ (q : PosShare TreeShare) (f : (stg b).view.ty.Contents (Elt F)), Flight EC (c : Thread nD τ) (.dma (semConv b).sem) () NF
    iprop(((stg b).view.loc (c : Thread nD τ) ↦[(stg b).view.set]{fullShare} (stg b).view.write (Elt F) f ((headIn t h).view.read (Elt F) (kvC m t c)) Finset.univ)
      ∗ ((headIn t h).view.loc (c : Thread nD τ) ↦[(headIn t h).view.set]{q} kvC m t c)))

theorem st_fetch {Q : PUnit.{1} → sProp 𝕄} (t : Bool) (c : Dev nD) (h : Fin 32) (b : Fin 2) {kk : PR F} :
    iprop(kvRO m t c ∗ stgE (F := F) c b ∗ semVal ((c : Thread nD τ), .dma (semConv b).sem) 0)
      ⊢ iprop(((kvRO m t c ∗ fl m t c h b) -∗ W c kk Q) -∗ W c (fetch t h b kk) Q) := by
  unfold kvRO stgE fl
  iintro ⟨⟨%q, Hs⟩, ⟨%f, Hd⟩, Hv⟩ Hk
  ihave Hs' := (pointsTo_share (PosShare.mem_left_op_right q)).1 $$ Hs
  icases Hs' with ⟨H1, H2⟩
  ihave H2' := (show ((kvM t).view.loc (c : Thread nD τ) ↦{q.right} kvC m t c : sProp 𝕄)
    ⊢ iprop(((headIn t h).view.loc (c : Thread nD τ) ↦[(headIn t h).view.set]{q.right} kvC m t c)
      ∗ ((headIn t h).view.loc (c : Thread nD τ) ↦[Finset.univ \ (headIn t h).view.set]{q.right} kvC m t c)) from
      (pointsTo_split_subset (Finset.subset_univ _)).1) $$ H2
  icases H2' with ⟨H2, -⟩
  unfold fetch
  iapply (wp_dmaLocal EC 𝒱₀ (c : Thread nD τ) none (src := headIn t h) (dst := stg b) (sm := .dma (semConv b).sem) (q := q.right) (fs := kvC m t c)
    (Sd := (stg b).view.set) (fd := f) () NF (show (stg b).view.dmaCredit = NF from rfl) (View.dmaCredit_pos _ (by decide)) subset_rfl) $$ [H2 Hd Hv]
  · isplitl [H2]; · iexact H2
    isplitl [Hd]; · iexact Hd
    iexact Hv
  iintro HF
  iapply Hk
  isplitl [H1]; · iexists q.left; iexact H1
  iexists q.right, f; iexact HF

def bfIdx : (t : Bool) → (bfM t).view.ty.Idx → ℕ
  | false => fun i => (keyBf i).val
  | true => fun i => (keyBf i).val

/-- The first `n` heads are rounded. -/
def bfR (t : Bool) (c : Dev nD) (n : ℕ) : sProp 𝕄 :=
  iprop(∃ f : (bfM t).view.ty.Contents (Elt F), (bfM t).view.loc (c : Thread nD τ) ↦{fullShare} mix (bfIdx t) f (bfC m t c) n)

theorem bfR_all (t : Bool) (c : Dev nD) : bfR m t c 32 ⊢ ((bfM t).view.loc (c : Thread nD τ) ↦{fullShare} bfC m t c) := by
  have h : ∀ f : (bfM t).view.ty.Contents (Elt F), mix (bfIdx t) f (bfC m t c) 32 = bfC m t c := fun f =>
    mix_all _ _ _ _ (by cases t <;> exact fun i => (keyBf i).isLt)
  unfold bfR
  simp only [h]
  iintro ⟨%f, H⟩
  iexact H

abbrev stgR (b : Fin 2) : Rect S2x1024x128 := Rect.unit (s := S2x1024x128) ![b.val, 0, 0] S1x1024x128.size (inb_stage b)
abbrev bfRect (h : Fin 32) : Rect S32x1024x128 := Rect.unit (s := S32x1024x128) ![h.val, 0, 0] S1x1024x128.size (inb_own h)

theorem emb_bfRect (h : Fin 32) (a : Fin 1024) (b : Fin 128) : (bfRect h).emb (ix3 0 a b) = ix3 h a b :=
  unit_emb _ _ _ _ _ fun k => match k with
  | ⟨0, _⟩ => by show h.val + 0 = h.val; omega
  | ⟨1, _⟩ => by show 0 + a.val = a.val; omega
  | ⟨2, _⟩ => by show 0 + b.val = b.val; omega

theorem bf_acc_read (t : Bool) (c : Dev nD) (h : Fin 32) (a : Fin 1024) (b : Fin 128) :
    ((bfM t).access (bfRect h)).read (Elt F) (bfC m t c) (ix3 0 a b) = bfA m t c (ix3 h a b) := by
  cases t
  · exact congrArg (bfA m false c) (emb_bfRect h a b)
  · exact congrArg (bfA m true c) (emb_bfRect h a b)

theorem bf_acc_mem (t : Bool) (h : Fin 32) (i : (bfM t).view.ty.Idx) : (i ∈ ((bfM t).access (bfRect h)).set) ↔ (bfIdx t i = h.val) := by
  cases t
  · rw [show ((bfM false).access (bfRect h)).set = _ from View.set_slice_whole cc0_scratch5 _]
    exact (rect_bf i h).trans ⟨congrArg Fin.val, Fin.ext⟩
  · rw [show ((bfM true).access (bfRect h)).set = _ from View.set_slice_whole cc0_scratch6 _]
    exact (rect_bf i h).trans ⟨congrArg Fin.val, Fin.ext⟩

/-- What is stored of a head is the head rounded. -/
theorem cvt_eq (t : Bool) (c : Dev nD) (h : Fin 32) (b : Fin 2) (f : (stg b).view.ty.Contents (Elt F)) :
    cvt (stageM.view.readAt (Elt F) (stgR b).toLoadRect ((stg b).view.write (Elt F) f ((headIn t h).view.read (Elt F) (kvC m t c)) Finset.univ))
      = ((bfM t).access (bfRect h)).read (Elt F) (bfC m t c) := by
  unfold cvt
  rw [show shapeCast S1024x128 (stageM.view.readAt (Elt F) (stgR b).toLoadRect ((stg b).view.write (Elt F) f ((headIn t h).view.read (Elt F) (kvC m t c)) Finset.univ))
      shapeCasts_S1x1024x128_S1024x128 = (stg b).view.read (Elt F) ((stg b).view.write (Elt F) f ((headIn t h).view.read (Elt F) (kvC m t c)) Finset.univ) from rfl,
    View.read_write_univ]
  funext i
  obtain ⟨u, a, b, rfl⟩ : ∃ (u : Fin 1) (a : Fin 1024) (b : Fin 128), i = ix3 u a b := ⟨_, _, _, eq_ix3 i⟩
  obtain rfl : u = 0 := Subsingleton.elim _ _
  rw [bf_acc_read]
  refine (shapeCast_ab_1ab_apply _ _ 0 a b).trans ?_
  have e : ∀ x y : Elt F .f32, x = y → (truncf .bf16 (fun _ => x : FVec F S1024x128 .f32) bitsLt_bf16_f32 : FVec F S1024x128 .bf16) (ix2 a b)
      = (truncf .bf16 (fun _ => y : FVec F S1x1024x32x128 .f32) bitsLt_bf16_f32 : FVec F S1x1024x32x128 .bf16) (ix4 0 a h b) := fun x y h => by rw [h]; rfl
  exact e _ _ (read_head m t c h a b)

theorem csem_conv : ∀ (k : Ce) (b : Fin 2), csem k ≠ .dma (semConv b).sem := by decide +kernel
theorem csem_loc : ∀ (k : Ce) (j : Fin 6), j = 2 ∨ j = 3 ∨ j = 4 → csem k ≠ .dma (semLoc j).sem := by decide +kernel
theorem lv_other (c : Dev nD) (sm : SemLoc sig) (h : ∀ k, csem k ≠ sm) : lv ((c : Thread nD τ), sm) () ≤ 0 := by
  unfold lv
  split
  · next k hk => exact absurd (dec_some hk).symm (h k)
  · exact Nat.le_refl 0

theorem stg_sub (b : Fin 2) : stageM.view.setOn (stgR b).toLoadRect.set ⊆ (stg b).view.set := by
  rw [show (stg b).view.set = _ from set_blk cc0_scratch4 _ _ _ squeezes_S1x1024x128_S1024x128,
    show stageM.view.setOn (stgR b).toLoadRect.set = (stageM.access (stgR b)).set from (View.set_slice _ _).symm,
    show (stageM.access (stgR b)).set = _ from View.set_slice_whole cc0_scratch4 _]

omit [FloatOps F] in
theorem stg_out (c : Dev nD) (b : Fin 2) (g : (stg b).view.ty.Contents (Elt F)) :
    ((stg b).view.loc (c : Thread nD τ) ↦[(stg b).view.set]{fullShare} g : sProp 𝕄) ⊢ (stageM.view.loc (c : Thread nD τ) ↦[(stg b).view.set]{fullShare} g) := .rfl
omit [FloatOps F] in
theorem stg_in (c : Dev nD) (b : Fin 2) (g : (stg b).view.ty.Contents (Elt F)) :
    (stageM.view.loc (c : Thread nD τ) ↦[(stg b).view.set]{fullShare} g : sProp 𝕄) ⊢ ((stg b).view.loc (c : Thread nD τ) ↦[(stg b).view.set]{fullShare} g) := .rfl

theorem st_convert {Q : PUnit.{1} → sProp 𝕄} (t : Bool) (c : Dev nD) (h : Fin 32) (b : Fin 2) (l : List (Dev nD × Ce)) (hl : ∀ e ∈ l, 0 < lvl e.2) {kk : PR F} :
    iprop(recs m K ∗ own c l ∗ fl m t c h b ∗ bfR m t c h.val)
      ⊢ iprop(((own c l ∗ stgE (F := F) c b ∗ semVal ((c : Thread nD τ), .dma (semConv b).sem) 0 ∗ bfR m t c (h.val + 1)) -∗ W c kk Q) -∗ W c (convert t h b kk) Q) := by
  unfold own fl bfR stgE
  iintro ⟨#HR, ⟨%w, HO⟩, ⟨%q, %f, HF⟩, ⟨%g, Hb⟩⟩ Hk
  unfold convert
  iapply (wp_waitLocalO EC 𝒱₀ (c : Thread nD τ) none () (show (stg b).view.dmaCredit = NF from rfl) (O := owe l) (W := w)) $$ [HF HO]
  · isplitl [HF]; · iexact HF
    isplitl [HO]; · iexact HO
    iapply (mayWait (F := F) c _ 0 l (lv_other c _ (fun k => csem_conv k b)) hl)
    iapply (recs_lev m K); iexact HR
  iintro ⟨⟨Hs, -⟩, Hv, HO⟩
  ihave Hs := (stg_out c b _) $$ Hs
  iapply (st_ld c stageM (stgR b) _ (S := (stg b).view.set) (q := fullShare) (f := (stg b).view.write (Elt F) f ((headIn t h).view.read (Elt F) (kvC m t c)) Finset.univ) (stg_sub b)) $$ Hs
  iintro Hs
  ihave Hs := (stg_in c b _) $$ Hs
  iapply (st_ld c (bfM t) (bfRect h) _ (Finset.subset_univ _)) $$ Hb
  iintro Hb
  iapply (st_st c (bfM t) (bfRect h)) $$ Hb
  iintro Hb
  iapply Hk
  isplitl [HO]; · iexists _; iexact HO
  isplitl [Hs]; · iexists _; iexact Hs
  isplitl [Hv]; · iexact Hv
  iexists g
  iapply (show ((bfM t).view.loc (c : Thread nD τ) ↦{fullShare} ((bfM t).access (bfRect h)).write (Elt F) (mix (bfIdx t) g (bfC m t c) h.val) (cvt _) Finset.univ : sProp 𝕄)
    ⊢ ((bfM t).view.loc (c : Thread nD τ) ↦{fullShare} mix (bfIdx t) g (bfC m t c) (h.val + 1)) from
      Entails.of_eq (congrArg (fun f => ((bfM t).view.loc (c : Thread nD τ) ↦{fullShare} f : sProp 𝕄))
        (mix_write ((bfM t).access (bfRect h)) (bfIdx t) g (bfC m t c) h.val _ (cvt_eq m t c h b f) (bf_acc_mem t h)))) $$ Hb

end Cert.KProg

end
-- ==== Proof.Loops.lean ====
/- Loops whose steps turn one resource into another; the loops of sends and of waits. -/
module

public import proofs.«01_k».proof.Proof.Local

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## Loops that turn each of their resources into another -/

/-- The resources of the elements before the `n`th turned, the others not yet. -/
def sweep {N : ℕ} (A B : Fin N → sProp 𝕄) (n : ℕ) : sProp 𝕄 := BI.bigSep Finset.univ (fun h : Fin N => if h.val < n then B h else A h)

omit [FloatOps F] in
theorem sweep_zero {N : ℕ} (A B : Fin N → sProp 𝕄) : BI.bigSep Finset.univ A ⊢ sweep A B 0 :=
  Entails.of_eq (BI.bigSep_congr fun h _ => (if_neg (Nat.not_lt_zero _)).symm)
omit [FloatOps F] in
theorem sweep_all {N : ℕ} (A B : Fin N → sProp 𝕄) : sweep A B N ⊢ BI.bigSep Finset.univ B :=
  Entails.of_eq (BI.bigSep_congr fun h _ => if_pos h.isLt)
omit [FloatOps F] in
theorem sweep_step {N : ℕ} (A B : Fin N → sProp 𝕄) (h : Fin N) : sweep A B h.val ⊢ iprop(A h ∗ (B h -∗ sweep A B (h.val + 1))) := by
  have e : (BI.bigSep (Finset.univ.erase h) (fun a : Fin N => if a.val < h.val then B a else A a) : sProp 𝕄)
      = BI.bigSep (Finset.univ.erase h) (fun a : Fin N => if a.val < h.val + 1 then B a else A a) :=
    BI.bigSep_congr fun a ha => by
      have : a.val ≠ h.val := fun e => (Finset.mem_erase.mp ha).1 (Fin.ext e)
      by_cases hlt : a.val < h.val
      · rw [if_pos hlt, if_pos (by omega)]
      · rw [if_neg hlt, if_neg (by omega)]
  unfold sweep
  rw [bs_erase _ (Finset.mem_univ h), bs_erase (fun a : Fin N => if a.val < h.val + 1 then B a else A a) (Finset.mem_univ h), ← e,
    if_neg (Nat.lt_irrefl _), if_pos (Nat.lt_succ_self _)]
  iintro ⟨HA, HR⟩
  isplitl [HA]; · iexact HA
  iintro HB
  isplitl [HB]; · iexact HB
  iexact HR

/-- A loop over `Fin N` whose step `h` turns `A h` into `B h`. -/
theorem each_sweep {Q : PUnit.{1} → sProp 𝕄} {N : ℕ} (c : Dev nD) (P : sProp 𝕄) [BI.Persistent P] (J : ℕ → sProp 𝕄) (A B : Fin N → sProp 𝕄) (f : Fin N → PR F → PR F) (k : PR F)
    (l : List (Fin N)) (hl : l.map (fun h => h.val) = List.range' 0 l.length) (hN : l.length = N)
    (step : ∀ h : Fin N, ∀ k : PR F, iprop(P ∗ J h.val ∗ A h) ⊢ iprop(((J (h.val + 1) ∗ B h) -∗ W c k Q) -∗ W c (f h k) Q)) :
    iprop(P ∗ J 0 ∗ BI.bigSep Finset.univ A) ⊢ iprop(((J N ∗ BI.bigSep Finset.univ B) -∗ W c k Q) -∗ W c (each l f k) Q) := by
  have h := each_wp (Q := Q) c P (fun n => iprop(J n ∗ sweep A B n)) f (fun h => h.val) k l 0 hl (fun a _ k => by
    have st := step a k
    iintro ⟨#HP, HJ, HS⟩ Hk
    ihave HS' := (sweep_step A B a) $$ HS
    icases HS' with ⟨HA, HS⟩
    iapply st $$ [HJ HA]
    · isplitr; · iexact HP
      isplitl [HJ]; · iexact HJ
      iexact HA
    iintro ⟨HJ, HB⟩
    iapply Hk
    isplitl [HJ]; · iexact HJ
    iapply HS
    iexact HB)
  rw [hN, Nat.zero_add] at h
  iintro ⟨#HP, HJ, HA⟩ Hk
  iapply h $$ [HJ HA]
  · isplitr; · iexact HP
    isplitl [HJ]; · iexact HJ
    iapply (sweep_zero A B) $$ HA
  iintro ⟨HJ, HS⟩
  iapply Hk
  isplitl [HJ]; · iexact HJ
  iapply (sweep_all A B) $$ HS

/-! ## The loops of sends -/

/-- What sending head `h` takes. -/
def sendA (t : Bool) (c : Dev nD) (d : Fin 3) (h : Fin 8) : sProp 𝕄 :=
  iprop(bfP m t c (hd (dstDev c d) h) ∗ landE (F := F) t (dstDev c d) ⟨d.val, by omega⟩ h
    ∗ dutyTok ER (kcell c (.send t d)) 0 (u8 h) ∗ dutyTok ER (kcell (dstDev c d) (.recv t d)) 0 (u8 h))
def keepA (t : Bool) (c : Dev nD) (h : Fin 8) : sProp 𝕄 :=
  iprop(bfP m t c (hd c h) ∗ landE (F := F) t c 3 h ∗ dutyTok ER (kcell c (.keep t)) 0 (u8 h))

theorem sends (t : Bool) (c : Dev nD) (d : Fin 3) (l : List (Dev nD × Ce)) {Q : PUnit.{1} → sProp 𝕄} {k : PR F} :
    iprop(recs m K ∗ own c (duesS t c d ++ l) ∗ BI.bigSep Finset.univ (sendA m t c d))
      ⊢ iprop(((own c l ∗ crd (F := F) c (.send t d) 8) -∗ W c k Q) -∗ W c (each all8 (send t c d) k) Q) := by
  have h := each_sweep (Q := Q) c (recs m K) (fun n => iprop(own (F := F) c (List.replicate (8 - n) (dstDev c d, .recv t d) ++ l) ∗ crd (F := F) c (.send t d) n))
    (sendA m t c d) (fun _ => iprop(emp)) (send t c d) k all8 all8_num rfl (fun h kk => by
      have e : List.replicate (8 - h.val) (dstDev c d, Ce.recv t d) ++ l = (dstDev c d, Ce.recv t d) :: (List.replicate (8 - (h.val + 1)) (dstDev c d, Ce.recv t d) ++ l) := by
        rw [show 8 - h.val = (8 - (h.val + 1)) + 1 by omega]; rfl
      unfold sendA
      simp only [e]
      iintro ⟨#HR, ⟨HO, Hc⟩, Hs, Hd, Ht1, Ht2⟩ Hk
      iapply (st_send m K t c d h (List.replicate (8 - (h.val + 1)) (dstDev c d, Ce.recv t d) ++ l)) $$ [HO Hs Hd Ht1 Ht2]
      · isplitr; · iexact HR
        isplitl [HO]; · iexact HO
        isplitl [Hs]; · iexact Hs
        isplitl [Hd]; · iexact Hd
        isplitl [Ht1]; · iexact Ht1
        iexact Ht2
      iintro ⟨HO, Hc'⟩
      iapply Hk
      isplitl [HO Hc Hc']
      · isplitl [HO]; · iexact HO
        iapply (crd_succ (F := F) c (.send t d) h.val)
        isplitl [Hc]; · iexact Hc
        iexact Hc'
      iempintro)
  iintro ⟨#HR, HO, HA⟩ Hk
  iapply h $$ [HO HA]
  · isplitr; · iexact HR
    isplitl [HO]
    · isplitl [HO]; · iexact HO
      iapply (crd_zero (F := F) c (.send t d))
      iempintro
    iexact HA
  iintro ⟨⟨HO, Hc⟩, -⟩
  iapply Hk
  isplitl [HO]; · iexact HO
  iexact Hc

theorem keeps (t : Bool) (c : Dev nD) {Q : PUnit.{1} → sProp 𝕄} {k : PR F} :
    iprop(recs m K ∗ BI.bigSep Finset.univ (keepA m t c))
      ⊢ iprop((crd (F := F) c (.keep t) 8 -∗ W c k Q) -∗ W c (each all8 (keep t c) k) Q) := by
  have h := each_sweep (Q := Q) c (recs m K) (fun n => crd (F := F) c (.keep t) n) (keepA m t c) (fun _ => iprop(emp)) (keep t c) k all8 all8_num rfl (fun h kk => by
      unfold keepA
      iintro ⟨#HR, Hc, Hs, Hd, Ht⟩ Hk
      iapply (st_keep m K t c h) $$ [Hs Hd Ht]
      · isplitr; · iexact HR
        isplitl [Hs]; · iexact Hs
        isplitl [Hd]; · iexact Hd
        iexact Ht
      iintro Hc'
      iapply Hk
      isplitl [Hc Hc']
      · iapply (crd_succ (F := F) c (.keep t) h.val)
        isplitl [Hc]; · iexact Hc
        iexact Hc'
      iempintro)
  iintro ⟨#HR, HA⟩ Hk
  iapply h $$ [HA]
  · isplitr; · iexact HR
    isplitr
    · iapply (crd_zero (F := F) c (.keep t))
      iempintro
    iexact HA
  iintro ⟨Hc, -⟩
  iapply Hk
  iexact Hc

/-! ## The loops of waits -/

theorem ownTo_credit (t : Bool) (c : Dev nD) (d : Fin 3) (h : Fin 8) : (ownTo t c d h).view.dmaCredit = NK := by cases t <;> rfl

section
variable (t : Bool) (c : Dev nD) (d : Fin 3) (l : List (Dev nD × Ce))

theorem waits_of {Q : PUnit.{1} → sProp 𝕄} {N : ℕ} (k : Ce) (f : Fin N → PR F → PR F) (L : List (Fin N)) (hL : L.map (fun h => h.val) = List.range' 0 L.length) (hN : L.length = N) {kk : PR F}
    (hk : num k = N) (step : ∀ h : Fin N, ∀ kk : PR F, iprop(recs m K ∗ own c l ∗ wst m c k h.val) ⊢ iprop(((own c l ∗ wst m c k (h.val + 1)) -∗ W c kk Q) -∗ W c (f h kk) Q)) :
    iprop(recs m K ∗ own c l ∗ wst m c k 0) ⊢ iprop(((own c l ∗ wst m c k (num k)) -∗ W c kk Q) -∗ W c (each L f kk) Q) := by
  have h := each_wp (Q := Q) c (recs m K) (fun n => iprop(own (F := F) c l ∗ wst m c k n)) f (fun h => h.val) kk L 0 hL (fun a _ kk => step a kk)
  rw [hN, Nat.zero_add] at h
  rw [hk]
  exact h

theorem waitSends {Q : PUnit.{1} → sProp 𝕄} (hl : ∀ e ∈ l, 0 < lvl e.2) {kk : PR F} :
    iprop(recs m K ∗ own c l ∗ wst m c (.send t d) 0) ⊢ iprop(((own c l ∗ wst m c (.send t d) (num (.send t d))) -∗ W c kk Q) -∗ W c (each all8 (waitSend t c d) kk) Q) :=
  waits_of m K c l (.send t d) (waitSend t c d) all8 all8_num rfl rfl fun h kk => by
    unfold waitSend
    exact st_waitDma m K c (.send t d) h.val l (kk := fun _ => kk) (dst := ownTo t c d h) rfl (ownTo_credit t c d h) h.isLt hl
theorem waitRecvs {Q : PUnit.{1} → sProp 𝕄} (hl : ∀ e ∈ l, 1 < lvl e.2) {kk : PR F} :
    iprop(recs m K ∗ own c l ∗ wst m c (.recv t d) 0) ⊢ iprop(((own c l ∗ wst m c (.recv t d) (num (.recv t d))) -∗ W c kk Q) -∗ W c (each all8 (waitRecv t c d) kk) Q) :=
  waits_of m K c l (.recv t d) (waitRecv t c d) all8 all8_num rfl rfl fun h kk => by
    unfold waitRecv
    exact st_waitDma m K c (.recv t d) h.val l (kk := fun _ => kk) (dst := land t ⟨d.val, by omega⟩ h) rfl (NK_eq t _ h) h.isLt hl
theorem waitKeeps {Q : PUnit.{1} → sProp 𝕄} (hl : ∀ e ∈ l, 0 < lvl e.2) {kk : PR F} :
    iprop(recs m K ∗ own c l ∗ wst m c (.keep t) 0) ⊢ iprop(((own c l ∗ wst m c (.keep t) (num (.keep t))) -∗ W c kk Q) -∗ W c (each all8 (waitKeep t c) kk) Q) :=
  waits_of m K c l (.keep t) (waitKeep t c) all8 all8_num rfl rfl fun h kk => by
    unfold waitKeep
    exact st_waitDma m K c (.keep t) h.val l (kk := fun _ => kk) (dst := land t 3 h) rfl (NK_eq t _ h) h.isLt hl
end

end Cert.KProg

end
-- ==== Proof.Flights.lean ====
/- The copies of the input and the weights; the projection of the queries. -/
module

public import proofs.«01_k».proof.Proof.Loops

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## The copies of `x` and the weights -/

theorem whole_written {b : Ref sig .tc} (c : Dev nD) (f g w : b.ty.Contents (Elt F)) (h : w = g) :
    ((c : Thread nD τ).loc b ↦{fullShare} (View.whole b).write (Elt F) f w Finset.univ : sProp 𝕄) ⊢ ((c : Thread nD τ).loc b ↦{fullShare} g) := by
  subst h; rw [View.write_whole_univ]

theorem zeros2 : (![0, 0] : Fin 2 → Nat) = fun _ => 0 := funext fun a => by fin_cases a <;> rfl

abbrev NX : ℕ := xvM.view.dmaCredit
theorem NX_pos : 0 < NX := View.dmaCredit_pos _ (by decide)

/-- `x` on its way. -/
def flX (c : Dev nD) : sProp 𝕄 :=
  iprop(∃ f : S1024x1024.Idx → Elt F .f32, Flight EC (c : Thread nD τ) (.dma (semLoc 2).sem) () NX
    iprop((xvM.view.loc (c : Thread nD τ) ↦{fullShare} xvM.view.write (Elt F) f (xIn.view.read (Elt F) (m ((c : Thread nD τ).loc main_arg0))) Finset.univ)
      ∗ (xIn.view.loc (c : Thread nD τ) ↦[xIn.view.set]{fullShare.left} m ((c : Thread nD τ).loc main_arg0))))

theorem st_startX {Q : PUnit.{1} → sProp 𝕄} (c : Dev nD) {kk : PR F} :
    iprop((xM.view.loc (c : Thread nD τ) ↦{fullShare.left} m ((c : Thread nD τ).loc main_arg0)) ∗ (∃ f, xvM.view.loc (c : Thread nD τ) ↦{fullShare} f)
        ∗ semVal ((c : Thread nD τ), .dma (semLoc 2).sem) 0)
      ⊢ iprop((flX m c -∗ W c kk Q) -∗ W c (startX kk) Q) := by
  unfold flX
  iintro ⟨Hs, ⟨%f, Hd⟩, Hv⟩ Hk
  ihave Hs' := (show (xM.view.loc (c : Thread nD τ) ↦{fullShare.left} m ((c : Thread nD τ).loc main_arg0) : sProp 𝕄)
    ⊢ iprop((xIn.view.loc (c : Thread nD τ) ↦[xIn.view.set]{fullShare.left} m ((c : Thread nD τ).loc main_arg0))
      ∗ (xIn.view.loc (c : Thread nD τ) ↦[Finset.univ \ xIn.view.set]{fullShare.left} m ((c : Thread nD τ).loc main_arg0))) from
      (pointsTo_split_subset (Finset.subset_univ _)).1) $$ Hs
  icases Hs' with ⟨Hs, -⟩
  unfold startX
  iapply (wp_dmaLocal EC 𝒱₀ (c : Thread nD τ) none (src := xIn) (dst := xvM) (sm := .dma (semLoc 2).sem) (q := fullShare.left) (fs := m ((c : Thread nD τ).loc main_arg0))
    (Sd := Finset.univ) (fd := f) () NX rfl NX_pos (Finset.subset_univ _)) $$ [Hs Hd Hv]
  · isplitl [Hs]; · iexact Hs
    isplitl [Hd]; · iexact Hd
    iexact Hv
  iintro HF
  iapply Hk
  iexists f; iexact HF

theorem st_waitX {Q : PUnit.{1} → sProp 𝕄} (c : Dev nD) (l : List (Dev nD × Ce)) (hl : ∀ e ∈ l, 0 < lvl e.2) {kk : PR F} :
    iprop(recs m K ∗ own c l ∗ flX m c)
      ⊢ iprop(((own c l ∗ (xvM.view.loc (c : Thread nD τ) ↦{fullShare} xA m c) ∗ semVal ((c : Thread nD τ), .dma (semLoc 2).sem) 0) -∗ W c kk Q) -∗ W c (waitX kk) Q) := by
  unfold own flX
  iintro ⟨#HR, ⟨%w, HO⟩, ⟨%f, HF⟩⟩ Hk
  unfold waitX
  iapply (wp_waitLocalO EC 𝒱₀ (c : Thread nD τ) none () (show xvM.view.dmaCredit = NX from rfl) (O := owe l) (W := w)) $$ [HF HO]
  · isplitl [HF]; · iexact HF
    isplitl [HO]; · iexact HO
    iapply (mayWait (F := F) c _ 0 l (lv_other c _ (fun k => csem_loc k 2 (Or.inl rfl))) hl)
    iapply (recs_lev m K); iexact HR
  iintro ⟨⟨Hs, -⟩, Hv, HO⟩
  iapply Hk
  isplitl [HO]; · iexists _; iexact HO
  isplitl [Hs]; · iapply (whole_written (b := cc0_scratch0) c f (xA m c) _ (xIn_eq m c)) $$ Hs
  iexact Hv

/-- The query weights on their way. -/
def flWq (c : Dev nD) : sProp 𝕄 :=
  iprop(∃ f : S1024x1024.Idx → Elt F .f32, Flight EC (c : Thread nD τ) (.dma (semLoc 3).sem) () NX
    iprop((wvM.view.loc (c : Thread nD τ) ↦{fullShare} wvM.view.write (Elt F) f (wqM.view.read (Elt F) (wqA m c)) Finset.univ)
      ∗ (wqM.view.loc (c : Thread nD τ) ↦[wqM.view.set]{fullShare.left} wqA m c)))

theorem st_startWq {Q : PUnit.{1} → sProp 𝕄} (c : Dev nD) {kk : PR F} :
    iprop((wqM.view.loc (c : Thread nD τ) ↦{fullShare.left} wqA m c) ∗ (∃ f, wvM.view.loc (c : Thread nD τ) ↦{fullShare} f)
        ∗ semVal ((c : Thread nD τ), .dma (semLoc 3).sem) 0)
      ⊢ iprop((flWq m c -∗ W c kk Q) -∗ W c (startWq kk) Q) := by
  unfold flWq
  iintro ⟨Hs, ⟨%f, Hd⟩, Hv⟩ Hk
  ihave Hs' := (show (wqM.view.loc (c : Thread nD τ) ↦{fullShare.left} wqA m c : sProp 𝕄)
    ⊢ iprop((wqM.view.loc (c : Thread nD τ) ↦[wqM.view.set]{fullShare.left} wqA m c)
      ∗ (wqM.view.loc (c : Thread nD τ) ↦[Finset.univ \ wqM.view.set]{fullShare.left} wqA m c)) from
      (pointsTo_split_subset (Finset.subset_univ _)).1) $$ Hs
  icases Hs' with ⟨Hs, -⟩
  unfold startWq
  iapply (wp_dmaLocal EC 𝒱₀ (c : Thread nD τ) none (src := wqM) (dst := wvM) (sm := .dma (semLoc 3).sem) (q := fullShare.left) (fs := wqA m c)
    (Sd := Finset.univ) (fd := f) () NX rfl NX_pos (Finset.subset_univ _)) $$ [Hs Hd Hv]
  · isplitl [Hs]; · iexact Hs
    isplitl [Hd]; · iexact Hd
    iexact Hv
  iintro HF
  iapply Hk
  iexists f; iexact HF

theorem st_waitWq {Q : PUnit.{1} → sProp 𝕄} (c : Dev nD) (l : List (Dev nD × Ce)) (hl : ∀ e ∈ l, 0 < lvl e.2) {kk : PR F} :
    iprop(recs m K ∗ own c l ∗ flWq m c)
      ⊢ iprop(((own c l ∗ (wvM.view.loc (c : Thread nD τ) ↦{fullShare} wqA m c) ∗ semVal ((c : Thread nD τ), .dma (semLoc 3).sem) 0) -∗ W c kk Q) -∗ W c (waitWq kk) Q) := by
  unfold own flWq
  iintro ⟨#HR, ⟨%w, HO⟩, ⟨%f, HF⟩⟩ Hk
  unfold waitWq
  iapply (wp_waitLocalO EC 𝒱₀ (c : Thread nD τ) none () (show wvM.view.dmaCredit = NX from rfl) (O := owe l) (W := w)) $$ [HF HO]
  · isplitl [HF]; · iexact HF
    isplitl [HO]; · iexact HO
    iapply (mayWait (F := F) c _ 0 l (lv_other c _ (fun k => csem_loc k 3 (Or.inr (Or.inl rfl)))) hl)
    iapply (recs_lev m K); iexact HR
  iintro ⟨⟨Hs, -⟩, Hv, HO⟩
  iapply Hk
  isplitl [HO]; · iexists _; iexact HO
  isplitl [Hs]; · iapply (whole_written (b := cc0_scratch1) c f (wqA m c) (wqM.view.read (Elt F) (wqA m c)) rfl) $$ Hs
  iexact Hv

/-- The output weights on their way. -/
def flWo (c : Dev nD) : sProp 𝕄 :=
  iprop(∃ f : S1024x1024.Idx → Elt F .f32, Flight EC (c : Thread nD τ) (.dma (semLoc 4).sem) () NX
    iprop((wvM.view.loc (c : Thread nD τ) ↦{fullShare} wvM.view.write (Elt F) f (woM.view.read (Elt F) (woA m c)) Finset.univ)
      ∗ (woM.view.loc (c : Thread nD τ) ↦[woM.view.set]{fullShare.left} woA m c)))

theorem st_startWo {Q : PUnit.{1} → sProp 𝕄} (c : Dev nD) {kk : PR F} :
    iprop((woM.view.loc (c : Thread nD τ) ↦{fullShare.left} woA m c) ∗ (∃ f, wvM.view.loc (c : Thread nD τ) ↦{fullShare} f)
        ∗ semVal ((c : Thread nD τ), .dma (semLoc 4).sem) 0)
      ⊢ iprop((flWo m c -∗ W c kk Q) -∗ W c (startWo kk) Q) := by
  unfold flWo
  iintro ⟨Hs, ⟨%f, Hd⟩, Hv⟩ Hk
  ihave Hs' := (show (woM.view.loc (c : Thread nD τ) ↦{fullShare.left} woA m c : sProp 𝕄)
    ⊢ iprop((woM.view.loc (c : Thread nD τ) ↦[woM.view.set]{fullShare.left} woA m c)
      ∗ (woM.view.loc (c : Thread nD τ) ↦[Finset.univ \ woM.view.set]{fullShare.left} woA m c)) from
      (pointsTo_split_subset (Finset.subset_univ _)).1) $$ Hs
  icases Hs' with ⟨Hs, -⟩
  unfold startWo
  iapply (wp_dmaLocal EC 𝒱₀ (c : Thread nD τ) none (src := woM) (dst := wvM) (sm := .dma (semLoc 4).sem) (q := fullShare.left) (fs := woA m c)
    (Sd := Finset.univ) (fd := f) () NX rfl NX_pos (Finset.subset_univ _)) $$ [Hs Hd Hv]
  · isplitl [Hs]; · iexact Hs
    isplitl [Hd]; · iexact Hd
    iexact Hv
  iintro HF
  iapply Hk
  iexists f; iexact HF

theorem st_waitWo {Q : PUnit.{1} → sProp 𝕄} (c : Dev nD) (l : List (Dev nD × Ce)) (hl : ∀ e ∈ l, 0 < lvl e.2) {kk : PR F} :
    iprop(recs m K ∗ own c l ∗ flWo m c)
      ⊢ iprop(((own c l ∗ (wvM.view.loc (c : Thread nD τ) ↦{fullShare} woA m c) ∗ semVal ((c : Thread nD τ), .dma (semLoc 4).sem) 0) -∗ W c kk Q) -∗ W c (waitWo kk) Q) := by
  unfold own flWo
  iintro ⟨#HR, ⟨%w, HO⟩, ⟨%f, HF⟩⟩ Hk
  unfold waitWo
  iapply (wp_waitLocalO EC 𝒱₀ (c : Thread nD τ) none () (show wvM.view.dmaCredit = NX from rfl) (O := owe l) (W := w)) $$ [HF HO]
  · isplitl [HF]; · iexact HF
    isplitl [HO]; · iexact HO
    iapply (mayWait (F := F) c _ 0 l (lv_other c _ (fun k => csem_loc k 4 (Or.inr (Or.inr rfl)))) hl)
    iapply (recs_lev m K); iexact HR
  iintro ⟨⟨Hs, -⟩, Hv, HO⟩
  iapply Hk
  isplitl [HO]; · iexists _; iexact HO
  isplitl [Hs]; · iapply (whole_written (b := cc0_scratch1) c f (woA m c) (woM.view.read (Elt F) (woA m c)) rfl) $$ Hs
  iexact Hv

/-! ## The projection -/

theorem full_read0 (f : S1024x1024.Idx → Elt F .f32) : xvM.view.readAt (Elt F) fullR.toLoadRect f = f := Memref.readAt_unit_zero (Elt F) cc0_scratch0 zeros2 _ f
theorem full_read1 (f : S1024x1024.Idx → Elt F .f32) : wvM.view.readAt (Elt F) fullR.toLoadRect f = f := Memref.readAt_unit_zero (Elt F) cc0_scratch1 zeros2 _ f
theorem full_read3 (f : S1024x1024.Idx → Elt F .f32) : ovM.view.readAt (Elt F) fullR.toLoadRect f = f := Memref.readAt_unit_zero (Elt F) cc0_scratch3 zeros2 _ f

theorem project_eq (c : Dev nD) (f : S1024x1024.Idx → Elt F .bf16) :
    ((qM.access fullR).loc (c : Thread nD τ) ↦{fullShare} (qM.access fullR).write (Elt F) f
        (qProj (xvM.view.readAt (Elt F) fullR.toLoadRect (xA m c)) (wvM.view.readAt (Elt F) fullR.toLoadRect (wqA m c))) Finset.univ : sProp 𝕄)
      ⊢ (qM.view.loc (c : Thread nD τ) ↦{fullShare} qA m c) := by
  rw [full_read0, full_read1]
  exact Entails.of_eq (congrArg (fun g => (qM.view.loc (c : Thread nD τ) ↦{fullShare} g : sProp 𝕄)) (Memref.write_access_unit_zero_univ (Elt F) cc0_scratch2 zeros2 _ f _))

theorem st_project {Q : PUnit.{1} → sProp 𝕄} (c : Dev nD) {kk : PR F} :
    iprop((xvM.view.loc (c : Thread nD τ) ↦{fullShare} xA m c) ∗ (wvM.view.loc (c : Thread nD τ) ↦{fullShare} wqA m c) ∗ (∃ f, qM.view.loc (c : Thread nD τ) ↦{fullShare} f))
      ⊢ iprop(((xvM.view.loc (c : Thread nD τ) ↦{fullShare} xA m c) -∗ (wvM.view.loc (c : Thread nD τ) ↦{fullShare} wqA m c)
        -∗ (qM.view.loc (c : Thread nD τ) ↦{fullShare} qA m c) -∗ W c kk Q) -∗ W c (project kk) Q) := by
  iintro ⟨Hx, Hw, ⟨%f, Hq⟩⟩ Hk
  unfold project
  iapply (st_ld c xvM fullR _ (Finset.subset_univ _)) $$ Hx
  iintro Hx
  iapply (st_ld c wvM fullR _ (Finset.subset_univ _)) $$ Hw
  iintro Hw
  iapply (st_ld c qM fullR _ (Finset.subset_univ _)) $$ Hq
  iintro Hq
  iapply (st_st c qM fullR) $$ Hq
  iintro Hq
  iapply Hk $$ Hx Hw
  iapply (project_eq m c f) $$ Hq

end Cert.KProg

end
-- ==== Proof.PartA.lean ====
/- The first part of the kernel: round the keys and values, send them to the neighbours. -/
module

public import proofs.«01_k».proof.Proof.Flights

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## Splitting over few indices -/

section
variable {I : Type} [DecidableEq I]

omit [FloatOps F] in
theorem bs_three (Φ : Fin 3 → sProp 𝕄) : BI.bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
omit [FloatOps F] in
theorem bs_four (Φ : Fin 4 → sProp 𝕄) : BI.bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
omit [FloatOps F] in
theorem bs_pair {A B : Type} [Fintype A] [Fintype B] (Φ : A × B → sProp 𝕄) :
    BI.bigSep Finset.univ Φ = BI.bigSep Finset.univ (fun a => BI.bigSep Finset.univ (fun b => Φ (a, b))) := BI.bigSep_univ_prod Φ
end

/-- Device `w + 1` further on; itself for 3. -/
def onTo (c : Dev nD) (w : Fin 4) : Dev nD := ⟨(c.val + w.val + 1) % 4, Nat.mod_lt _ (by decide)⟩
theorem onTo_dst : ∀ (c : Dev nD) (d : Fin 3), onTo c ⟨d.val, by omega⟩ = dstDev c d := by decide +kernel
theorem onTo_self : ∀ c : Dev nD, onTo c 3 = c := by decide +kernel

theorem hd_inj (c : Dev nD) : Function.Injective (fun p : Fin 4 × Fin 8 => hd (onTo c p.1) p.2) := by
  rintro ⟨a, b⟩ ⟨a', b'⟩ h
  have h' : 8 * ((c.val + a.val + 1) % 4) + b.val = 8 * ((c.val + a'.val + 1) % 4) + b'.val := congrArg Fin.val h
  have hc : c.val < 4 := c.isLt
  have e1 : a = a' := Fin.ext (by omega)
  have e2 : b = b' := Fin.ext (by omega)
  rw [e1, e2]

def hdEquiv (c : Dev nD) : Fin 4 × Fin 8 ≃ Fin 32 :=
  Equiv.ofBijective (fun p : Fin 4 × Fin 8 => hd (onTo c p.1) p.2)
    ((Fintype.bijective_iff_injective_and_card _).mpr ⟨hd_inj c, by rw [Fintype.card_prod, Fintype.card_fin, Fintype.card_fin, Fintype.card_fin]⟩)

/-- The heads of the device `w`. -/
def bfG (t : Bool) (c w : Dev nD) : sProp 𝕄 := BI.bigSep Finset.univ (fun h : Fin 8 => bfP m t c (hd w h))

/-- The 32 heads, by the device each is for. -/
theorem bf_groups (t : Bool) (c : Dev nD) :
    ((bfM t).view.loc (c : Thread nD τ) ↦{fullShare} bfC m t c : sProp 𝕄)
      = iprop(bfG m t c (dstDev c 0) ∗ bfG m t c (dstDev c 1) ∗ bfG m t c (dstDev c 2) ∗ bfG m t c c) := by
  rw [bf_split, bigSep_univ_equiv (hdEquiv c), bs_pair, bs_four]
  show iprop(bfG m t c (onTo c 0) ∗ bfG m t c (onTo c 1) ∗ bfG m t c (onTo c 2) ∗ bfG m t c (onTo c 3)) = _
  rw [onTo_self, show onTo c 0 = dstDev c 0 from onTo_dst c 0, show onTo c 1 = dstDev c 1 from onTo_dst c 1, show onTo c 2 = dstDev c 2 from onTo_dst c 2]

/-- What the sends to the device `d + 1` further on take beside the heads. -/
def sendB (t : Bool) (c : Dev nD) (d : Fin 3) : sProp 𝕄 :=
  iprop(BI.bigSep Finset.univ (fun h : Fin 8 => landE (F := F) t (dstDev c d) ⟨d.val, by omega⟩ h)
    ∗ BI.bigSep Finset.univ (fun h : Fin 8 => iprop(dutyTok ER (kcell c (.send t d)) 0 (u8 h) ∗ dutyTok ER (kcell (dstDev c d) (.recv t d)) 0 (u8 h))))
def keepB (t : Bool) (c : Dev nD) : sProp 𝕄 :=
  iprop(BI.bigSep Finset.univ (fun h : Fin 8 => landE (F := F) t c 3 h) ∗ BI.bigSep Finset.univ (fun h : Fin 8 => dutyTok ER (kcell c (.keep t)) 0 (u8 h)))

theorem sendA_join (t : Bool) (c : Dev nD) (d : Fin 3) : iprop(bfG m t c (dstDev c d) ∗ sendB (F := F) t c d) ⊢ BI.bigSep Finset.univ (sendA m t c d) := by
  unfold bfG sendB
  rw [← bigSep_sep', ← bigSep_sep']
  exact Entails.rfl
theorem keepA_join (t : Bool) (c : Dev nD) : iprop(bfG m t c c ∗ keepB (F := F) t c) ⊢ BI.bigSep Finset.univ (keepA m t c) := by
  unfold bfG keepB
  rw [← bigSep_sep', ← bigSep_sep']
  exact Entails.rfl

/-! ## The pieces -/

/-- Shares of the keys and of the values. -/
def kvs (c : Dev nD) : sProp 𝕄 := iprop(kvRO m false c ∗ kvRO m true c)
theorem kvs_take (t : Bool) (c : Dev nD) : kvs m c ⊢ iprop(kvRO m t c ∗ (kvRO m t c -∗ kvs m c)) := by
  unfold kvs
  cases t
  · iintro ⟨H0, H1⟩
    isplitl [H0]; · iexact H0
    iintro H0
    isplitl [H0]; · iexact H0
    iexact H1
  · iintro ⟨H0, H1⟩
    isplitl [H1]; · iexact H1
    iintro H1
    isplitl [H0]; · iexact H0
    iexact H1

/-- Piece `i` on its way. -/
def pc (c : Dev nD) (i : ℕ) : sProp 𝕄 := fl m (pT i) c (pH i) (pB i)

theorem pB_two (i : ℕ) : pB (i + 2) = pB i := Fin.ext (Nat.add_mod_right i 2)

/-- A staging block and its semaphore, at rest. -/
def rest (c : Dev nD) (b : Fin 2) : sProp 𝕄 := iprop(stgE (F := F) c b ∗ semVal ((c : Thread nD τ), .dma (semConv b).sem) 0)

theorem start_wp {Q : PUnit.{1} → sProp 𝕄} (c : Dev nD) (i : ℕ) {kk : PR F} :
    iprop(kvs m c ∗ rest (F := F) c (pB i)) ⊢ iprop(((kvs m c ∗ pc m c i) -∗ W c kk Q) -∗ W c (start i kk) Q) := by
  unfold rest pc
  iintro ⟨Hs, Hg, Hv⟩ Hk
  ihave Hs' := (kvs_take m (pT i) c) $$ Hs
  icases Hs' with ⟨Hs, Hb⟩
  unfold start
  iapply (st_fetch m (pT i) c (pH i) (pB i)) $$ [Hs Hg Hv]
  · isplitl [Hs]; · iexact Hs
    isplitl [Hg]; · iexact Hg
    iexact Hv
  iintro ⟨Hs, Hf⟩
  iapply Hk
  isplitl [Hs Hb]
  · iapply Hb; iexact Hs
  iexact Hf

theorem finish_wp {Q : PUnit.{1} → sProp 𝕄} (c : Dev nD) (i : ℕ) (t : Bool) (k : ℕ) (l : List (Dev nD × Ce)) (hl : ∀ e ∈ l, 0 < lvl e.2) (hT : pT i = t) (hH : (pH i).val = k) {kk : PR F} :
    iprop(recs m K ∗ own c l ∗ pc m c i ∗ bfR m t c k)
      ⊢ iprop(((own c l ∗ rest (F := F) c (pB i) ∗ bfR m t c (k + 1)) -∗ W c kk Q) -∗ W c (finish i kk) Q) := by
  subst hT hH
  unfold rest pc
  iintro ⟨#HR, HO, Hf, Hb⟩ Hk
  unfold finish
  iapply (st_convert m K (pT i) c (pH i) (pB i) l hl) $$ [HO Hf Hb]
  · isplitr; · iexact HR
    isplitl [HO]; · iexact HO
    isplitl [Hf]; · iexact Hf
    iexact Hb
  iintro ⟨HO, Hg, Hv, Hb⟩
  iapply Hk
  isplitl [HO]; · iexact HO
  isplitl [Hg Hv]
  · isplitl [Hg]; · iexact Hg
    iexact Hv
  iexact Hb

theorem piece_wp {Q : PUnit.{1} → sProp 𝕄} (c : Dev nD) (i : ℕ) (t : Bool) (k : ℕ) (l : List (Dev nD × Ce)) (hl : ∀ e ∈ l, 0 < lvl e.2) (hT : pT i = t) (hH : (pH i).val = k) {kk : PR F} :
    iprop(recs m K ∗ own c l ∗ kvs m c ∗ pc m c i ∗ pc m c (i + 1) ∗ bfR m t c k)
      ⊢ iprop(((own c l ∗ kvs m c ∗ pc m c (i + 1) ∗ pc m c (i + 2) ∗ bfR m t c (k + 1)) -∗ W c kk Q) -∗ W c (piece i kk) Q) := by
  have hs := start_wp (Q := Q) m c (i + 2) (kk := kk)
  rw [pB_two] at hs
  iintro ⟨#HR, HO, Hs, Hf, Hf', Hb⟩ Hk
  unfold piece
  iapply (finish_wp m K c i t k l hl hT hH) $$ [HO Hf Hb]
  · isplitr; · iexact HR
    isplitl [HO]; · iexact HO
    isplitl [Hf]; · iexact Hf
    iexact Hb
  iintro ⟨HO, Hg, Hb⟩
  iapply hs $$ [Hs Hg]
  · isplitl [Hs]; · iexact Hs
    iexact Hg
  iintro ⟨Hs, Hf⟩
  iapply Hk
  isplitl [HO]; · iexact HO
  isplitl [Hs]; · iexact Hs
  isplitl [Hf']; · iexact Hf'
  isplitl [Hf]; · iexact Hf
  iexact Hb

theorem first32_lt : ∀ a ∈ first32, pT a = false ∧ (pH a).val = a := by decide +kernel
theorem next30_lt : ∀ a ∈ next30, pT a = true ∧ (pH a).val = a - 32 ∧ 32 ≤ a := by decide +kernel

theorem first_wp {Q : PUnit.{1} → sProp 𝕄} (c : Dev nD) (l : List (Dev nD × Ce)) (hl : ∀ e ∈ l, 0 < lvl e.2) {kk : PR F} :
    iprop(recs m K ∗ own c l ∗ kvs m c ∗ pc m c 0 ∗ pc m c 1 ∗ bfR m false c 0)
      ⊢ iprop(((own c l ∗ kvs m c ∗ pc m c 32 ∗ pc m c 33 ∗ bfR m false c 32) -∗ W c kk Q) -∗ W c (each first32 piece kk) Q) :=
  each_wp (Q := Q) c (recs m K) (fun n => iprop(own c l ∗ kvs m c ∗ pc m c n ∗ pc m c (n + 1) ∗ bfR m false c n)) piece id kk first32 0 first32_num
    (fun a ha k => piece_wp m K c a false a l hl (first32_lt a ha).1 (first32_lt a ha).2)
theorem next_wp {Q : PUnit.{1} → sProp 𝕄} (c : Dev nD) (l : List (Dev nD × Ce)) (hl : ∀ e ∈ l, 0 < lvl e.2) {kk : PR F} :
    iprop(recs m K ∗ own c l ∗ kvs m c ∗ pc m c 32 ∗ pc m c 33 ∗ bfR m true c 0)
      ⊢ iprop(((own c l ∗ kvs m c ∗ pc m c 62 ∗ pc m c 63 ∗ bfR m true c 30) -∗ W c kk Q) -∗ W c (each next30 piece kk) Q) :=
  each_wp (Q := Q) c (recs m K) (fun n => iprop(own c l ∗ kvs m c ∗ pc m c n ∗ pc m c (n + 1) ∗ bfR m true c (n - 32))) piece id kk next30 32 next30_num
    (fun a ha k => by
      have h := piece_wp (Q := Q) m K c a true (a - 32) l hl (next30_lt a ha).1 (next30_lt a ha).2.1 (kk := k)
      rw [show a - 32 + 1 = a + 1 - 32 by have := (next30_lt a ha).2.2; omega] at h
      exact h)

/-! ## The first part -/

/-- All that one side's near sends take, and what they give. -/
theorem near_wp {Q : PUnit.{1} → sProp 𝕄} (t : Bool) (c : Dev nD) (l : List (Dev nD × Ce)) {kk : PR F} :
    iprop(recs m K ∗ own c (duesS t c 0 ++ (duesS t c 2 ++ l)) ∗ bfR m t c 32 ∗ sendB (F := F) t c 0 ∗ sendB (F := F) t c 2 ∗ keepB (F := F) t c)
      ⊢ iprop(((own c l ∗ bfG m t c (dstDev c 1) ∗ crd (F := F) c (.send t 0) 8 ∗ crd (F := F) c (.send t 2) 8 ∗ crd (F := F) c (.keep t) 8) -∗ W c kk Q)
        -∗ W c (sendNear t c kk) Q) := by
  iintro ⟨#HR, HO, Hb, H0, H2, Hk3⟩ Hk
  ihave Hb := (bfR_all m t c) $$ Hb
  ihave Hb := (Entails.of_eq (bf_groups m t c)) $$ Hb
  icases Hb with ⟨Hb0, Hb1, Hb2, Hb3⟩
  unfold sendNear
  iapply (sends m K t c 0 (duesS t c 2 ++ l)) $$ [HO Hb0 H0]
  · isplitr; · iexact HR
    isplitl [HO]; · iexact HO
    iapply (sendA_join m t c 0)
    isplitl [Hb0]; · iexact Hb0
    iexact H0
  iintro ⟨HO, Hc0⟩
  iapply (sends m K t c 2 l) $$ [HO Hb2 H2]
  · isplitr; · iexact HR
    isplitl [HO]; · iexact HO
    iapply (sendA_join m t c 2)
    isplitl [Hb2]; · iexact Hb2
    iexact H2
  iintro ⟨HO, Hc2⟩
  iapply (keeps m K t c) $$ [Hb3 Hk3]
  · isplitr; · iexact HR
    iapply (keepA_join m t c)
    isplitl [Hb3]; · iexact Hb3
    iexact Hk3
  iintro Hc3
  iapply Hk
  isplitl [HO]; · iexact HO
  isplitl [Hb1]; · iexact Hb1
  isplitl [Hc0]; · iexact Hc0
  isplitl [Hc2]; · iexact Hc2
  iexact Hc3

theorem lvl_S (t : Bool) (c : Dev nD) (d : Fin 3) : ∀ e ∈ duesS t c d, 0 < lvl e.2 := fun e he => by
  rw [(List.mem_replicate.mp he).2]; exact Nat.one_pos
theorem lvl_P1 (c : Dev nD) : ∀ e ∈ duesP c, 1 < lvl e.2 := by
  have h : ∀ e ∈ duesR c, 1 < lvl e.2 := fun e he => by
    simp only [duesR, List.mem_cons, List.mem_nil_iff, or_false] at he
    rcases he with rfl | rfl | rfl <;> exact Nat.lt_succ_self 1
  intro e he
  simp only [duesP, List.mem_append] at he
  rcases he with he | he | he | he <;> exact h e he
theorem lvl_app {n : ℕ} {a b : List (Dev nD × Ce)} (ha : ∀ e ∈ a, n < lvl e.2) (hb : ∀ e ∈ b, n < lvl e.2) : ∀ e ∈ a ++ b, n < lvl e.2 := fun e he =>
  (List.mem_append.mp he).elim (ha e) (hb e)
theorem lvl_P (c : Dev nD) : ∀ e ∈ duesP c, 0 < lvl e.2 := fun e he => Nat.lt_of_succ_lt (lvl_P1 c e he)
theorem lvl_Far (c : Dev nD) : ∀ e ∈ duesFar c, 0 < lvl e.2 := lvl_app (lvl_S _ _ _) (lvl_app (lvl_S _ _ _) (lvl_P c))
theorem lvl_V (c : Dev nD) : ∀ e ∈ duesV c, 0 < lvl e.2 := lvl_app (lvl_S _ _ _) (lvl_app (lvl_S _ _ _) (lvl_Far c))
theorem lvl_K (c : Dev nD) : ∀ e ∈ duesK c, 0 < lvl e.2 := lvl_app (lvl_S _ _ _) (lvl_app (lvl_S _ _ _) (lvl_V c))

/-- What one side of the first part takes, and gives. -/
def nearIn (t : Bool) (c : Dev nD) : sProp 𝕄 := iprop(bfR m t c 0 ∗ sendB (F := F) t c 0 ∗ sendB (F := F) t c 2 ∗ keepB (F := F) t c)
def nearOut (t : Bool) (c : Dev nD) : sProp 𝕄 :=
  iprop(bfG m t c (dstDev c 1) ∗ crd (F := F) c (.send t 0) 8 ∗ crd (F := F) c (.send t 2) 8 ∗ crd (F := F) c (.keep t) 8)

theorem partA_wp {Q : PUnit.{1} → sProp 𝕄} (c : Dev nD) {kk : PR F} :
    iprop(recs m K ∗ own c (duesK c) ∗ kvs m c ∗ rest (F := F) c 0 ∗ rest (F := F) c 1 ∗ nearIn m false c ∗ nearIn m true c)
      ⊢ iprop(((own c (duesFar c) ∗ rest (F := F) c 0 ∗ rest (F := F) c 1 ∗ nearOut m false c ∗ nearOut m true c) -∗ W c kk Q) -∗ W c (partA c kk) Q) := by
  unfold nearIn
  iintro ⟨#HR, HO, Hs, Hr0, Hr1, ⟨HbK, HK0, HK2, HK3⟩, ⟨HbV, HV0, HV2, HV3⟩⟩ Hk
  unfold partA
  iapply (start_wp m c 0) $$ [Hs Hr0]
  · isplitl [Hs]; · iexact Hs
    iexact Hr0
  iintro ⟨Hs, Hf0⟩
  iapply (start_wp m c 1) $$ [Hs Hr1]
  · isplitl [Hs]; · iexact Hs
    iexact Hr1
  iintro ⟨Hs, Hf1⟩
  iapply (first_wp m K c (duesK c) (lvl_K c)) $$ [HO Hs Hf0 Hf1 HbK]
  · isplitr; · iexact HR
    isplitl [HO]; · iexact HO
    isplitl [Hs]; · iexact Hs
    isplitl [Hf0]; · iexact Hf0
    isplitl [Hf1]; · iexact Hf1
    iexact HbK
  iintro ⟨HO, Hs, Hf0, Hf1, HbK⟩
  iapply (near_wp m K false c (duesV c)) $$ [HO HbK HK0 HK2 HK3]
  · isplitr; · iexact HR
    isplitl [HO]; · iexact HO
    isplitl [HbK]; · iexact HbK
    isplitl [HK0]; · iexact HK0
    isplitl [HK2]; · iexact HK2
    iexact HK3
  iintro ⟨HO, HKo⟩
  iapply (next_wp m K c (duesV c) (lvl_V c)) $$ [HO Hs Hf0 Hf1 HbV]
  · isplitr; · iexact HR
    isplitl [HO]; · iexact HO
    isplitl [Hs]; · iexact Hs
    isplitl [Hf0]; · iexact Hf0
    isplitl [Hf1]; · iexact Hf1
    iexact HbV
  iintro ⟨HO, -, Hf0, Hf1, HbV⟩
  iapply (finish_wp m K c 62 true 30 (duesV c) (lvl_V c) rfl rfl) $$ [HO Hf0 HbV]
  · isplitr; · iexact HR
    isplitl [HO]; · iexact HO
    isplitl [Hf0]; · iexact Hf0
    iexact HbV
  iintro ⟨HO, Hr0, HbV⟩
  iapply (finish_wp m K c 63 true 31 (duesV c) (lvl_V c) rfl rfl) $$ [HO Hf1 HbV]
  · isplitr; · iexact HR
    isplitl [HO]; · iexact HO
    isplitl [Hf1]; · iexact Hf1
    iexact HbV
  iintro ⟨HO, Hr1, HbV⟩
  iapply (near_wp m K true c (duesFar c)) $$ [HO HbV HV0 HV2 HV3]
  · isplitr; · iexact HR
    isplitl [HO]; · iexact HO
    isplitl [HbV]; · iexact HbV
    isplitl [HV0]; · iexact HV0
    isplitl [HV2]; · iexact HV2
    iexact HV3
  iintro ⟨HO, HVo⟩
  iapply Hk
  unfold nearOut
  isplitl [HO]; · iexact HO
  isplitl [Hr0]; · iexact Hr0
  isplitl [Hr1]; · iexact Hr1
  isplitl [HKo]; · iexact HKo
  iexact HVo

end Cert.KProg

end
-- ==== Proof.Passes.lean ====
/- The two passes over the gathered keys and values. -/
module

public import proofs.«01_k».proof.Proof.PartA

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## Loads of the queries, keys and values -/

/-- Slot `s` of the gathered keys or values, complete. -/
def landS (t : Bool) (c : Dev nD) (s : Fin 4) : sProp 𝕄 := BI.bigSep Finset.univ (fun h : Fin 8 => landP m t c s h)

theorem kv_sub (t : Bool) (s : Fin 4) (h : Fin 8) (r i : Fin 4) : (allM t).view.setOn (kvR s h r i).toLoadRect.set ⊆ (land t s h).view.set := by
  have hsub : ∀ x : S4x8x1024x128.Idx, x ∈ (kvR s h r i).set → keyAll x = (s, h) := fun x hx => by
    obtain ⟨a, b, y, z, rfl⟩ : ∃ (a : Fin 4) (b : Fin 8) (y : Fin 1024) (z : Fin 128), x = ix4 a b y z := ⟨_, _, _, _, eq_ix4 x⟩
    rw [Rect.mem_set_unit, Fin.forall_fin_succ, Fin.forall_fin_succ] at hx
    have h0 : s.val ≤ a.val ∧ a.val < s.val + 1 := hx.1
    have h1 : h.val ≤ b.val ∧ b.val < h.val + 1 := hx.2.1
    show (a, b) = (s, h)
    simp only [Prod.mk.injEq, Fin.ext_iff]
    omega
  cases t
  · rw [show (allM false).view.setOn (kvR s h r i).toLoadRect.set = ((allM false).access (kvR s h r i)).set from (View.set_slice _ _).symm,
      show ((allM false).access (kvR s h r i)).set = _ from View.set_slice_whole cc0_scratch7 _]
    exact fun x hx => (mem_land0 s h x).mpr (hsub x hx)
  · rw [show (allM true).view.setOn (kvR s h r i).toLoadRect.set = ((allM true).access (kvR s h r i)).set from (View.set_slice _ _).symm,
      show ((allM true).access (kvR s h r i)).set = _ from View.set_slice_whole cc0_scratch8 _]
    exact fun x hx => (mem_land1 s h x).mpr (hsub x hx)

theorem land_take (t : Bool) (c : Dev nD) (s : Fin 4) (h : Fin 8) :
    landS m t c s ⊢ iprop(((allM t).view.loc (c : Thread nD τ) ↦[(land t s h).view.set]{fullShare} allC m t c)
      ∗ (((allM t).view.loc (c : Thread nD τ) ↦[(land t s h).view.set]{fullShare} allC m t c) -∗ landS m t c s)) := by
  unfold landS
  rw [bs_erase _ (Finset.mem_univ h)]
  have e : landP m t c s h = ((allM t).view.loc (c : Thread nD τ) ↦[(land t s h).view.set]{fullShare} allC m t c) := rfl
  rw [e]
  iintro ⟨H, HR⟩
  isplitl [H]; · iexact H
  iintro H
  isplitl [H]; · iexact H
  iexact HR

theorem st_ldS {Q : PUnit.{1} → sProp 𝕄} (t : Bool) (c : Dev nD) (s : Fin 4) (h : Fin 8) (r i : Fin 4) {kk : FVec F S64x128 .bf16 → PR F} :
    landS m t c s ⊢ iprop((landS m t c s -∗ W c (kk (rows m t c s h r i)) Q) -∗ W c (ldS t s h r i kk) Q) := by
  iintro HS Hk
  ihave HS' := (land_take m t c s h) $$ HS
  icases HS' with ⟨H, Hb⟩
  unfold ldS
  iapply (st_ld c (allM t) (kvR s h r i) _ (kv_sub t s h r i)) $$ H
  iintro H
  iapply Hk
  iapply Hb
  iexact H

/-- Slots 3, 0 and 2. -/
def slots (t : Bool) (c : Dev nD) : sProp 𝕄 := iprop(landS m t c 3 ∗ landS m t c 0 ∗ landS m t c 2)

theorem st_ld4 {Q : PUnit.{1} → sProp 𝕄} (t : Bool) (c : Dev nD) (h : Fin 8) (r : Fin 4) {kk : FVec F S256x128 .bf16 → PR F} :
    landS m t c 1 ⊢ iprop((landS m t c 1 -∗ W c (kk (kv4 m t c r h)) Q) -∗ W c (ld4 t h r kk) Q) := by
  iintro H Hk
  unfold ld4
  iapply (st_ldS m t c 1 h r 0) $$ H; iintro H
  iapply (st_ldS m t c 1 h r 1) $$ H; iintro H
  iapply (st_ldS m t c 1 h r 2) $$ H; iintro H
  iapply (st_ldS m t c 1 h r 3) $$ H; iintro H
  iapply Hk
  iexact H

theorem st_ld12 {Q : PUnit.{1} → sProp 𝕄} (t : Bool) (c : Dev nD) (h : Fin 8) (r : Fin 4) {kk : FVec F S768x128 .bf16 → PR F} :
    slots m t c ⊢ iprop((slots m t c -∗ W c (kk (kv12 m t c r h)) Q) -∗ W c (ld12 t h r kk) Q) := by
  unfold slots
  iintro ⟨H3, H0, H2⟩ Hk
  unfold ld12
  iapply (st_ldS m t c 3 h r 0) $$ H3; iintro H3
  iapply (st_ldS m t c 3 h r 1) $$ H3; iintro H3
  iapply (st_ldS m t c 3 h r 2) $$ H3; iintro H3
  iapply (st_ldS m t c 3 h r 3) $$ H3; iintro H3
  iapply (st_ldS m t c 0 h r 0) $$ H0; iintro H0
  iapply (st_ldS m t c 0 h r 1) $$ H0; iintro H0
  iapply (st_ldS m t c 0 h r 2) $$ H0; iintro H0
  iapply (st_ldS m t c 0 h r 3) $$ H0; iintro H0
  iapply (st_ldS m t c 2 h r 0) $$ H2; iintro H2
  iapply (st_ldS m t c 2 h r 1) $$ H2; iintro H2
  iapply (st_ldS m t c 2 h r 2) $$ H2; iintro H2
  iapply (st_ldS m t c 2 h r 3) $$ H2; iintro H2
  iapply Hk
  isplitl [H3]; · iexact H3
  isplitl [H0]; · iexact H0
  iexact H2

/-- The queries. -/
def qP (c : Dev nD) : sProp 𝕄 := qM.view.loc (c : Thread nD τ) ↦{fullShare} qA m c

theorem st_ldQ {Q : PUnit.{1} → sProp 𝕄} (c : Dev nD) (r : Fin 4) (h : Fin 8) {kk : FVec F S256x128 .bf16 → PR F} :
    qP m c ⊢ iprop((qP m c -∗ W c (kk (qv m c r h)) Q) -∗ W c (ldQ r h kk) Q) := by
  unfold qP
  iintro H Hk
  unfold ldQ
  iapply (st_ld c qM (qR r h 0) _ (Finset.subset_univ _)) $$ H; iintro H
  iapply (st_ld c qM (qR r h 1) _ (Finset.subset_univ _)) $$ H; iintro H
  iapply (st_ld c qM (qR r h 2) _ (Finset.subset_univ _)) $$ H; iintro H
  iapply (st_ld c qM (qR r h 3) _ (Finset.subset_univ _)) $$ H; iintro H
  iapply Hk
  iexact H

/-! ## Writing the weighted values block by block -/

/-- The number of a block of the weighted values, of the row sums, of the rows. -/
def ctxIdx (i : S1024x1024.Idx) : ℕ := 8 * (rowOf (i 0)).val + (headOf (i 1)).val
def lsIdx (i : S4x256x8.Idx) : ℕ := (i 0).val
def rowIdx (i : S1024x1024.Idx) : ℕ := (rowOf (i 0)).val

theorem ctx_mem (r : Fin 4) (h : Fin 8) (i : S1024x1024.Idx) : i ∈ (xvM.access (ctxR r h)).set ↔ ctxIdx i = 8 * r.val + h.val := by
  rw [show (xvM.access (ctxR r h)).set = _ from View.set_slice_whole cc0_scratch0 _]
  refine (rect_ctx i r h).trans ?_
  have key : ∀ a b : Fin 1024, ((rowOf a, headOf b) : Fin 4 × Fin 8) = (r, h) ↔ 8 * (rowOf a).val + (headOf b).val = 8 * r.val + h.val := fun a b => by
    simp only [Prod.mk.injEq, Fin.ext_iff]
    omega
  exact key (i 0) (i 1)
theorem ls_mem (r : Fin 4) (i : S4x256x8.Idx) : i ∈ (lsM.access (lsR r)).set ↔ lsIdx i = r.val := by
  rw [show (lsM.access (lsR r)).set = _ from View.set_slice_whole cc0_scratch11 _]
  exact (rect_ls i r).trans ⟨congrArg Fin.val, Fin.ext⟩
theorem rows_mem (r : Fin 4) (i : S1024x1024.Idx) : i ∈ (ovM.access (rowsR r)).set ↔ rowIdx i = r.val := by
  rw [show (ovM.access (rowsR r)).set = _ from View.set_slice_whole cc0_scratch3 _]
  exact (rect_rows i r).trans ⟨congrArg Fin.val, Fin.ext⟩

theorem emb_ctxR (r : Fin 4) (h : Fin 8) (a : Fin 256) (b : Fin 128) :
    (ctxR r h).emb (ix2 a b) = ix2 (⟨256 * r.val + a.val, by omega⟩ : Fin 1024) (⟨128 * h.val + b.val, by omega⟩ : Fin 1024) :=
  unit_emb _ _ _ _ _ fun k => match k with
  | ⟨0, _⟩ => rfl
  | ⟨1, _⟩ => rfl
theorem emb_lsR (r : Fin 4) (a : Fin 256) (b : Fin 8) : (lsR r).emb (ix3 0 a b) = ix3 r a b :=
  unit_emb _ _ _ _ _ fun k => match k with
  | ⟨0, _⟩ => by show r.val + 0 = r.val; omega
  | ⟨1, _⟩ => by show 0 + a.val = a.val; omega
  | ⟨2, _⟩ => by show 0 + b.val = b.val; omega
theorem emb_rowsR (r : Fin 4) (a : Fin 256) (b : Fin 1024) : (rowsR r).emb (ix2 a b) = ix2 (⟨256 * r.val + a.val, by omega⟩ : Fin 1024) b :=
  unit_emb _ _ _ _ _ fun k => match k with
  | ⟨0, _⟩ => rfl
  | ⟨1, _⟩ => by show 0 + b.val = b.val; omega
theorem emb_psR (r : Fin 4) (a : Fin 256) (b : Fin 1024) : (psR r).emb (ix3 0 a b) = ix3 r a b :=
  unit_emb _ _ _ _ _ fun k => match k with
  | ⟨0, _⟩ => by show r.val + 0 = r.val; omega
  | ⟨1, _⟩ => by show 0 + a.val = a.val; omega
  | ⟨2, _⟩ => by show 0 + b.val = b.val; omega

/-- An array of 256×128 blocks. -/
def ofBlk (g : Fin 4 → Fin 8 → FVec F S256x128 .f32) : S1024x1024.Idx → Elt F .f32 := fun i => g (rowOf (i 0)) (headOf (i 1)) (ix2 (inRow (i 0)) (inHead (i 1)))
theorem ofBlk_read (g : Fin 4 → Fin 8 → FVec F S256x128 .f32) (r : Fin 4) (h : Fin 8) :
    shapeCast S256x128 (g r h) shapeCasts_S256x128_S256x128 = (xvM.access (ctxR r h)).read (Elt F) (ofBlk g) := by
  rw [shapeCast_self]
  funext j
  obtain ⟨a, b, rfl⟩ : ∃ (a : Fin 256) (b : Fin 128), j = ix2 a b := ⟨_, _, eq_ix2 j⟩
  refine Eq.trans ?_ (congrArg (ofBlk g) (emb_ctxR r h a b)).symm
  have e1 : rowOf (⟨256 * r.val + a.val, by omega⟩ : Fin 1024) = r := Fin.ext (by show (256 * r.val + a.val) / 256 = r.val; omega)
  have e2 : headOf (⟨128 * h.val + b.val, by omega⟩ : Fin 1024) = h := Fin.ext (by show (128 * h.val + b.val) / 128 = h.val; omega)
  have e3 : inRow (⟨256 * r.val + a.val, by omega⟩ : Fin 1024) = a := Fin.ext (by show (256 * r.val + a.val) % 256 = a.val; omega)
  have e4 : inHead (⟨128 * h.val + b.val, by omega⟩ : Fin 1024) = b := Fin.ext (by show (128 * h.val + b.val) % 128 = b.val; omega)
  show g r h (ix2 a b) = g (rowOf (⟨256 * r.val + a.val, by omega⟩ : Fin 1024)) (headOf (⟨128 * h.val + b.val, by omega⟩ : Fin 1024)) (ix2 (inRow _) (inHead _))
  rw [e1, e2, e3, e4]
/-- An array of 256×8 blocks. -/
def ofLs (g : Fin 4 → FVec F S256x8 .f32) : S4x256x8.Idx → Elt F .f32 := fun i => g (i 0) (ix2 (i 1) (i 2))
theorem ofLs_read (g : Fin 4 → FVec F S256x8 .f32) (r : Fin 4) :
    shapeCast S1x256x8 (g r) shapeCasts_S256x8_S1x256x8 = (lsM.access (lsR r)).read (Elt F) (ofLs g) := by
  funext j
  obtain ⟨u, a, b, rfl⟩ : ∃ (u : Fin 1) (a : Fin 256) (b : Fin 8), j = ix3 u a b := ⟨_, _, _, eq_ix3 j⟩
  obtain rfl : u = 0 := Subsingleton.elim _ _
  rw [shapeCast_ab_1ab_apply]
  exact (congrArg (ofLs g) (emb_lsR r a b)).symm

/-- The weighted values with the first `n` blocks new; the row sums with the first `n`. -/
def xvP (c : Dev nD) (f g : S1024x1024.Idx → Elt F .f32) (n : ℕ) : sProp 𝕄 := xvM.view.loc (c : Thread nD τ) ↦{fullShare} mix ctxIdx f g n
def lsP (c : Dev nD) (f g : S4x256x8.Idx → Elt F .f32) (n : ℕ) : sProp 𝕄 := lsM.view.loc (c : Thread nD τ) ↦{fullShare} mix lsIdx f g n

theorem st_ldX {Q : PUnit.{1} → sProp 𝕄} (c : Dev nD) (r : Rect S1024x1024) (h : xvM.view.LoadsAt r.toLoadRect) {f g : S1024x1024.Idx → Elt F .f32} {n : ℕ}
    {kk : (r.toLoadRect.shape.Idx → Elt F .f32) → PR F} :
    xvP c f g n ⊢ iprop((xvP c f g n -∗ W c (kk (xvM.view.readAt (Elt F) r.toLoadRect (mix ctxIdx f g n))) Q) -∗ W c (ld xvM r h kk) Q) :=
  st_ld c xvM r h (Finset.subset_univ _)
theorem st_ldL {Q : PUnit.{1} → sProp 𝕄} (c : Dev nD) (r : Rect S4x256x8) (h : lsM.view.LoadsAt r.toLoadRect) {f g : S4x256x8.Idx → Elt F .f32} {n : ℕ}
    {kk : (r.toLoadRect.shape.Idx → Elt F .f32) → PR F} :
    lsP c f g n ⊢ iprop((lsP c f g n -∗ W c (kk (lsM.view.readAt (Elt F) r.toLoadRect (mix lsIdx f g n))) Q) -∗ W c (ld lsM r h kk) Q) :=
  st_ld c lsM r h (Finset.subset_univ _)

theorem st_stCtx {Q : PUnit.{1} → sProp 𝕄} (c : Dev nD) (r : Fin 4) (h : Fin 8) (f : S1024x1024.Idx → Elt F .f32) (g : Fin 4 → Fin 8 → FVec F S256x128 .f32)
    (v : FVec F S256x128 .f32) (hv : v = g r h) {kk : PR F} :
    xvP c f (ofBlk g) (8 * r.val + h.val) ⊢ iprop((xvP c f (ofBlk g) (8 * r.val + h.val + 1) -∗ W c kk Q) -∗ W c (stCtx r h v kk) Q) := by
  subst hv
  have e : ((xvM.access (ctxR r h)).loc (c : Thread nD τ) ↦{fullShare} (xvM.access (ctxR r h)).write (Elt F) (mix ctxIdx f (ofBlk g) (8 * r.val + h.val))
        (shapeCast S256x128 (g r h) shapeCasts_S256x128_S256x128) Finset.univ : sProp 𝕄)
      ⊢ (xvM.view.loc (c : Thread nD τ) ↦{fullShare} mix ctxIdx f (ofBlk g) (8 * r.val + h.val + 1)) :=
    Entails.of_eq (congrArg (fun f => (xvM.view.loc (c : Thread nD τ) ↦{fullShare} f : sProp 𝕄))
      (mix_write (xvM.access (ctxR r h)) ctxIdx f (ofBlk g) (8 * r.val + h.val) _ (ofBlk_read g r h) (ctx_mem r h)))
  unfold xvP
  iintro H Hk
  unfold stCtx
  iapply (st_st c xvM (ctxR r h)) $$ H; iintro H
  iapply Hk
  iapply e $$ H

theorem st_stLs {Q : PUnit.{1} → sProp 𝕄} (c : Dev nD) (r : Fin 4) (f : S4x256x8.Idx → Elt F .f32) (g : Fin 4 → FVec F S256x8 .f32)
    (v : FVec F S256x8 .f32) (hv : v = g r) {kk : PR F} :
    lsP c f (ofLs g) r.val ⊢ iprop((lsP c f (ofLs g) (r.val + 1) -∗ W c kk Q) -∗ W c (stLs r v kk) Q) := by
  subst hv
  have e : ((lsM.access (lsR r)).loc (c : Thread nD τ) ↦{fullShare} (lsM.access (lsR r)).write (Elt F) (mix lsIdx f (ofLs g) r.val)
        (shapeCast S1x256x8 (g r) shapeCasts_S256x8_S1x256x8) Finset.univ : sProp 𝕄)
      ⊢ (lsM.view.loc (c : Thread nD τ) ↦{fullShare} mix lsIdx f (ofLs g) (r.val + 1)) :=
    Entails.of_eq (congrArg (fun f => (lsM.view.loc (c : Thread nD τ) ↦{fullShare} f : sProp 𝕄))
      (mix_write (lsM.access (lsR r)) lsIdx f (ofLs g) r.val _ (ofLs_read g r) (ls_mem r)))
  unfold lsP
  iintro H Hk
  unfold stLs
  iapply (st_st c lsM (lsR r)) $$ H; iintro H
  iapply Hk
  iapply e $$ H

/-! ## The passes -/

/-- Eight heads in turn. -/
theorem heads_wp {Q : PUnit.{1} → sProp 𝕄} (c : Dev nD) (I : ℕ → sProp 𝕄) (s : Fin 8 → FVec F S256x1 .f32) (f : Fin 8 → (FVec F S256x1 .f32 → PR F) → PR F) (kk : FVec F S256x8 .f32 → PR F)
    (step : ∀ (h : Fin 8) (n n' : ℕ) (kk : FVec F S256x1 .f32 → PR F), n = h.val → n' = h.val + 1 → I n ⊢ iprop((I n' -∗ W c (kk (s h)) Q) -∗ W c (f h kk) Q)) :
    I 0 ⊢ iprop((I 8 -∗ W c (kk (cols (s 0) (s 1) (s 2) (s 3) (s 4) (s 5) (s 6) (s 7))) Q) -∗ W c (heads f kk) Q) := by
  iintro H Hk
  unfold heads
  iapply (step 0 0 1 _ rfl rfl) $$ H; iintro H
  iapply (step 1 1 2 _ rfl rfl) $$ H; iintro H
  iapply (step 2 2 3 _ rfl rfl) $$ H; iintro H
  iapply (step 3 3 4 _ rfl rfl) $$ H; iintro H
  iapply (step 4 4 5 _ rfl rfl) $$ H; iintro H
  iapply (step 5 5 6 _ rfl rfl) $$ H; iintro H
  iapply (step 6 6 7 _ rfl rfl) $$ H; iintro H
  iapply (step 7 7 8 _ rfl rfl) $$ H; iintro H
  iapply Hk
  iexact H

/-- What the first pass reads. -/
def readA (c : Dev nD) : sProp 𝕄 := iprop(qP m c ∗ slots m false c ∗ slots m true c)
/-- What the second pass reads. -/
def readB (c : Dev nD) : sProp 𝕄 := iprop(qP m c ∗ landS m false c 1 ∗ landS m true c 1)

theorem headA_wp {Q : PUnit.{1} → sProp 𝕄} (c : Dev nD) (r : Fin 4) (h : Fin 8) (f : S1024x1024.Idx → Elt F .f32) {kk : FVec F S256x1 .f32 → PR F} :
    iprop(readA m c ∗ xvP c f (ctxA m c) (8 * r.val + h.val))
      ⊢ iprop(((readA m c ∗ xvP c f (ctxA m c) (8 * r.val + h.val + 1)) -∗ W c (kk (sumA m c r h)) Q) -∗ W c (headA r h kk) Q) := by
  have hst := st_stCtx (Q := Q) c r h f (blkA m c) (pv12 (ew12 (qv m c r h) (kv12 m false c r h)) (kv12 m true c r h)) rfl
    (kk := kk (sum12 (ew12 (qv m c r h) (kv12 m false c r h))))
  rw [show ofBlk (blkA m c) = ctxA m c from rfl] at hst
  unfold readA
  iintro ⟨⟨Hq, Hs, Hs'⟩, Hx⟩ Hk
  unfold headA
  iapply (st_ldQ m c r h) $$ Hq; iintro Hq
  iapply (st_ld12 m false c h r) $$ Hs; iintro Hs
  iapply (st_ld12 m true c h r) $$ Hs'; iintro Hs'
  iapply (st_ldX c (ctxR r h) _) $$ Hx; iintro Hx
  iapply hst $$ Hx; iintro Hx
  iapply Hk
  isplitl [Hq Hs Hs']
  · isplitl [Hq]; · iexact Hq
    isplitl [Hs]; · iexact Hs
    iexact Hs'
  iexact Hx

theorem ctx_old (c : Dev nD) (r : Fin 4) (h : Fin 8) (f g : S1024x1024.Idx → Elt F .f32) :
    xvM.view.readAt (Elt F) (ctxR r h).toLoadRect (mix ctxIdx f g (8 * r.val + h.val)) = xvM.view.readAt (Elt F) (ctxR r h).toLoadRect f :=
  mix_read (xvM.access (ctxR r h)) ctxIdx f g (8 * r.val + h.val) (ctx_mem r h)
theorem ls_old (c : Dev nD) (r : Fin 4) (f g : S4x256x8.Idx → Elt F .f32) :
    lsM.view.readAt (Elt F) (lsR r).toLoadRect (mix lsIdx f g r.val) = lsM.view.readAt (Elt F) (lsR r).toLoadRect f :=
  mix_read (lsM.access (lsR r)) lsIdx f g r.val (ls_mem r)

theorem headB_wp {Q : PUnit.{1} → sProp 𝕄} (c : Dev nD) (r : Fin 4) (h : Fin 8) {kk : FVec F S256x1 .f32 → PR F} :
    iprop(readB m c ∗ xvP c (ctxA m c) (ctxB m c) (8 * r.val + h.val))
      ⊢ iprop(((readB m c ∗ xvP c (ctxA m c) (ctxB m c) (8 * r.val + h.val + 1)) -∗ W c (kk (sumB m c r h)) Q) -∗ W c (headB r h kk) Q) := by
  have hst := st_stCtx (Q := Q) c r h (ctxA m c) (blkB m c)
    (addf (xvM.view.readAt (Elt F) (ctxR r h).toLoadRect (mix ctxIdx (ctxA m c) (ctxB m c) (8 * r.val + h.val)) : FVec F S256x128 .f32)
      (pv4 (ew4 (qv m c r h) (kv4 m false c r h)) (kv4 m true c r h))) (by rw [ctx_old c r h]; rfl)
    (kk := kk (sum4 (ew4 (qv m c r h) (kv4 m false c r h))))
  rw [show ofBlk (blkB m c) = ctxB m c from rfl] at hst
  unfold readB
  iintro ⟨⟨Hq, Hs, Hs'⟩, Hx⟩ Hk
  unfold headB
  iapply (st_ldQ m c r h) $$ Hq; iintro Hq
  iapply (st_ld4 m false c h r) $$ Hs; iintro Hs
  iapply (st_ld4 m true c h r) $$ Hs'; iintro Hs'
  iapply (st_ldX c (ctxR r h) _) $$ Hx; iintro Hx
  iapply (st_ldX c (ctxR r h) _) $$ Hx; iintro Hx
  iapply hst $$ Hx; iintro Hx
  iapply Hk
  isplitl [Hq Hs Hs']
  · isplitl [Hq]; · iexact Hq
    isplitl [Hs]; · iexact Hs
    iexact Hs'
  iexact Hx

theorem passA_wp {Q : PUnit.{1} → sProp 𝕄} (c : Dev nD) (r : Fin 4) (f : S1024x1024.Idx → Elt F .f32) (f' : S4x256x8.Idx → Elt F .f32) {kk : PR F} :
    iprop(readA m c ∗ xvP c f (ctxA m c) (8 * r.val) ∗ lsP c f' (lsA m c) r.val)
      ⊢ iprop(((readA m c ∗ xvP c f (ctxA m c) (8 * (r.val + 1)) ∗ lsP c f' (lsA m c) (r.val + 1)) -∗ W c kk Q) -∗ W c (passA r kk) Q) := by
  have hh := heads_wp (Q := Q) c (fun n => iprop(readA m c ∗ xvP c f (ctxA m c) (8 * r.val + n))) (sumA m c r) (headA r)
    (fun v => ld lsM (lsR r) (View.loadsAt_vmem h_S1x256x8) fun _ => stLs r v kk) (fun h n n' kk hn hn' => by subst hn hn'; exact headA_wp m c r h f)
  have hst := st_stLs (Q := Q) c r f' (lsBlkA m c)
    (cols (sumA m c r 0) (sumA m c r 1) (sumA m c r 2) (sumA m c r 3) (sumA m c r 4) (sumA m c r 5) (sumA m c r 6) (sumA m c r 7)) rfl (kk := kk)
  rw [show ofLs (lsBlkA m c) = lsA m c from rfl] at hst
  iintro ⟨HR, Hx, Hl⟩ Hk
  unfold passA
  iapply hh $$ [HR Hx]
  · isplitl [HR]; · iexact HR
    iexact Hx
  iintro ⟨HR, Hx⟩
  iapply (st_ldL c (lsR r) _) $$ Hl; iintro Hl
  iapply hst $$ Hl; iintro Hl
  iapply Hk
  isplitl [HR]; · iexact HR
  isplitl [Hx]; · iexact Hx
  iexact Hl

theorem passB_wp {Q : PUnit.{1} → sProp 𝕄} (c : Dev nD) (r : Fin 4) {kk : PR F} :
    iprop(readB m c ∗ xvP c (ctxA m c) (ctxB m c) (8 * r.val) ∗ lsP c (lsA m c) (lsB m c) r.val)
      ⊢ iprop(((readB m c ∗ xvP c (ctxA m c) (ctxB m c) (8 * (r.val + 1)) ∗ lsP c (lsA m c) (lsB m c) (r.val + 1)) -∗ W c kk Q) -∗ W c (passB r kk) Q) := by
  have hh := heads_wp (Q := Q) c (fun n => iprop(readB m c ∗ xvP c (ctxA m c) (ctxB m c) (8 * r.val + n))) (sumB m c r) (headB r)
    (fun v => ld lsM (lsR r) (View.loadsAt_vmem h_S1x256x8) fun a =>
      ld lsM (lsR r) (View.loadsAt_vmem h_S1x256x8) fun _ => stLs r (addf (shapeCast S256x8 a shapeCasts_S1x256x8_S256x8) v) kk) (fun h n n' kk hn hn' => by subst hn hn'; exact headB_wp m c r h)
  have hst := st_stLs (Q := Q) c r (lsA m c) (lsBlkB m c)
    (addf (shapeCast S256x8 (lsM.view.readAt (Elt F) (lsR r).toLoadRect (mix lsIdx (lsA m c) (lsB m c) r.val)) shapeCasts_S1x256x8_S256x8 : FVec F S256x8 .f32)
      (cols (sumB m c r 0) (sumB m c r 1) (sumB m c r 2) (sumB m c r 3) (sumB m c r 4) (sumB m c r 5) (sumB m c r 6) (sumB m c r 7)))
    (by rw [ls_old c r]; rfl) (kk := kk)
  rw [show ofLs (lsBlkB m c) = lsB m c from rfl] at hst
  iintro ⟨HR, Hx, Hl⟩ Hk
  unfold passB
  iapply hh $$ [HR Hx]
  · isplitl [HR]; · iexact HR
    iexact Hx
  iintro ⟨HR, Hx⟩
  iapply (st_ldL c (lsR r) _) $$ Hl; iintro Hl
  iapply (st_ldL c (lsR r) _) $$ Hl; iintro Hl
  iapply hst $$ Hl; iintro Hl
  iapply Hk
  isplitl [HR]; · iexact HR
  isplitl [Hx]; · iexact Hx
  iexact Hl

theorem ctx_full (f g : S1024x1024.Idx → Elt F .f32) : mix ctxIdx f g 32 = g := mix_all _ _ _ _ fun i => by
  have := (rowOf (i 0)).isLt
  have := (headOf (i 1)).isLt
  show 8 * (rowOf (i 0)).val + (headOf (i 1)).val < 32
  omega
theorem ls_full (f g : S4x256x8.Idx → Elt F .f32) : mix lsIdx f g 4 = g := mix_all _ _ _ _ fun i => (i 0).isLt

theorem passesA_wp {Q : PUnit.{1} → sProp 𝕄} (c : Dev nD) {kk : PR F} :
    iprop(readA m c ∗ (∃ f, xvM.view.loc (c : Thread nD τ) ↦{fullShare} f) ∗ (∃ f, lsM.view.loc (c : Thread nD τ) ↦{fullShare} f))
      ⊢ iprop(((readA m c ∗ xvP c (ctxA m c) (ctxB m c) 0 ∗ lsP c (lsA m c) (lsB m c) 0) -∗ W c kk Q) -∗ W c (each all4 passA kk) Q) := by
  have h := fun (f : S1024x1024.Idx → Elt F .f32) (f' : S4x256x8.Idx → Elt F .f32) => each_wp (Q := Q) c iprop(emp)
    (fun n => iprop(readA m c ∗ xvP c f (ctxA m c) (8 * n) ∗ lsP c f' (lsA m c) n)) passA (fun r => r.val) kk all4 0 all4_num
    (fun r _ kk => (by
      have h := passA_wp (Q := Q) m c r f f' (kk := kk)
      iintro ⟨-, H⟩
      iapply h
      iexact H))
  have hx : ∀ (f g : S1024x1024.Idx → Elt F .f32) (f' g' : S4x256x8.Idx → Elt F .f32), xvP (F := F) c f g (8 * (0 + all4.length)) = xvP c g (ctxB m c) 0 := fun f g f' g' => by
    unfold xvP; rw [mix_zero]; exact congrArg (fun g => (xvM.view.loc (c : Thread nD τ) ↦{fullShare} g : sProp 𝕄)) (ctx_full f g)
  have hl : ∀ f' g' : S4x256x8.Idx → Elt F .f32, lsP (F := F) c f' g' (0 + all4.length) = lsP c g' (lsB m c) 0 := fun f' g' => by
    unfold lsP; rw [mix_zero]; exact congrArg (fun g => (lsM.view.loc (c : Thread nD τ) ↦{fullShare} g : sProp 𝕄)) (ls_full f' g')
  have hx0 : ∀ f g : S1024x1024.Idx → Elt F .f32, (xvM.view.loc (c : Thread nD τ) ↦{fullShare} f : sProp 𝕄) ⊢ xvP c f g (8 * 0) := fun f g => by unfold xvP; rw [mix_zero]
  have hl0 : ∀ f g : S4x256x8.Idx → Elt F .f32, (lsM.view.loc (c : Thread nD τ) ↦{fullShare} f : sProp 𝕄) ⊢ lsP c f g 0 := fun f g => by unfold lsP; rw [mix_zero]
  iintro ⟨HR, ⟨%f, Hx⟩, ⟨%f', Hl⟩⟩ Hk
  iapply (h f f') $$ [HR Hx Hl]
  · isplitr; · iempintro
    isplitl [HR]; · iexact HR
    isplitl [Hx]; · iapply (hx0 f (ctxA m c)) $$ Hx
    iapply (hl0 f' (lsA m c)) $$ Hl
  iintro ⟨HR, Hx, Hl⟩
  iapply Hk
  isplitl [HR]; · iexact HR
  isplitl [Hx]; · iapply (Entails.of_eq (hx f (ctxA m c) f' f')) $$ Hx
  iapply (Entails.of_eq (hl f' (lsA m c))) $$ Hl

theorem passesB_wp {Q : PUnit.{1} → sProp 𝕄} (c : Dev nD) {kk : PR F} :
    iprop(readB m c ∗ xvP c (ctxA m c) (ctxB m c) 0 ∗ lsP c (lsA m c) (lsB m c) 0)
      ⊢ iprop(((readB m c ∗ (xvM.view.loc (c : Thread nD τ) ↦{fullShare} ctxB m c) ∗ (lsM.view.loc (c : Thread nD τ) ↦{fullShare} lsB m c)) -∗ W c kk Q)
        -∗ W c (each all4 passB kk) Q) := by
  have h := each_wp (Q := Q) c iprop(emp)
    (fun n => iprop(readB m c ∗ xvP c (ctxA m c) (ctxB m c) (8 * n) ∗ lsP c (lsA m c) (lsB m c) n)) passB (fun r => r.val) kk all4 0 all4_num
    (fun r _ kk => (by
      have h := passB_wp (Q := Q) m c r (kk := kk)
      iintro ⟨-, H⟩
      iapply h
      iexact H))
  have hx : xvP (F := F) c (ctxA m c) (ctxB m c) (8 * (0 + all4.length)) ⊢ (xvM.view.loc (c : Thread nD τ) ↦{fullShare} ctxB m c : sProp 𝕄) := by
    unfold xvP; exact Entails.of_eq (congrArg (fun g => (xvM.view.loc (c : Thread nD τ) ↦{fullShare} g : sProp 𝕄)) (ctx_full _ _))
  have hl : lsP (F := F) c (lsA m c) (lsB m c) (0 + all4.length) ⊢ (lsM.view.loc (c : Thread nD τ) ↦{fullShare} lsB m c : sProp 𝕄) := by
    unfold lsP; exact Entails.of_eq (congrArg (fun g => (lsM.view.loc (c : Thread nD τ) ↦{fullShare} g : sProp 𝕄)) (ls_full _ _))
  iintro H Hk
  iapply h $$ [H]
  · isplitr; · iempintro
    iexact H
  iintro ⟨HR, Hx, Hl⟩
  iapply Hk
  isplitl [HR]; · iexact HR
  isplitl [Hx]; · iapply hx $$ Hx
  iapply hl $$ Hl

end Cert.KProg

end
-- ==== Proof.PartC.lean ====
/- The output projection, its exchange, and the result. -/
module

public import proofs.«01_k».proof.Proof.Passes

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## One row block of the device's share of the result -/

/-- An outgoing block holding anything. -/
def psE (c : Dev nD) (r : Fin 4) : sProp 𝕄 := iprop(∃ f, (pOut r).view.loc (c : Thread nD τ) ↦[(pOut r).view.set]{fullShare} f)

omit [FloatOps F] in
theorem psE_ex (c : Dev nD) :
    (iprop(∃ f, psM.view.loc (c : Thread nD τ) ↦{fullShare} f) : sProp 𝕄) ⊢ BI.bigSep Finset.univ (fun r : Fin 4 => psE (F := F) c r) :=
  pts_by_key_ex (ℓ := (c : Thread nD τ).loc cc0_scratch9) (ι := Fin 4) (fun r => (pOut r).view.set) keyPs mem_pOut _

theorem psP_three (c : Dev nD) (r : Fin 4) : psP m c fullShare r ⊣⊢ BI.bigSep Finset.univ (fun d : Fin 3 => psP m c (shr d) r) := by
  rw [bs_three]
  have h1 : psP m c fullShare r ⊣⊢ iprop(psP m c fullShare.left r ∗ psP m c fullShare.right r) := pointsTo_share (PosShare.mem_left_op_right _)
  have h2 : psP m c fullShare.right r ⊣⊢ iprop(psP m c fullShare.right.left r ∗ psP m c fullShare.right.right r) := pointsTo_share (PosShare.mem_left_op_right _)
  constructor
  · iintro H
    ihave H := h1.1 $$ H
    icases H with ⟨H0, H⟩
    ihave H := h2.1 $$ H
    icases H with ⟨H1, H2⟩
    isplitl [H0]; · iexact H0
    isplitl [H1]; · iexact H1
    iexact H2
  · iintro ⟨H0, H1, H2⟩
    iapply h1.2
    isplitl [H0]; · iexact H0
    iapply h2.2
    isplitl [H1]; · iexact H1
    iexact H2

theorem ps_acc_set (r : Fin 4) : (psM.access (psR r)).set = (pOut r).view.set := by
  rw [show (pOut r).view.set = _ from set_blk cc0_scratch9 _ _ _ squeezes_S1x256x1024_S256x1024]
  exact View.set_slice_whole cc0_scratch9 _

theorem ps_read (c : Dev nD) (r : Fin 4) :
    shapeCast S1x256x1024 (truncf .bf16 (poBlk m c r) bitsLt_bf16_f32 : FVec F S256x1024 .bf16) shapeCasts_S256x1024_S1x256x1024
      = (psM.access (psR r)).read (Elt F) (psA m c) := by
  funext j
  obtain ⟨u, a, b, rfl⟩ : ∃ (u : Fin 1) (a : Fin 256) (b : Fin 1024), j = ix3 u a b := ⟨_, _, _, eq_ix3 j⟩
  obtain rfl : u = 0 := Subsingleton.elim _ _
  rw [shapeCast_ab_1ab_apply]
  exact (congrArg (psA m c) (emb_psR r a b)).symm

theorem ps_stored (c : Dev nD) (r : Fin 4) (f : S4x256x1024.Idx → Elt F .bf16) :
    ((psM.access (psR r)).loc (c : Thread nD τ) ↦[(pOut r).view.set]{fullShare} (psM.access (psR r)).write (Elt F) f
        (shapeCast S1x256x1024 (truncf .bf16 (poBlk m c r) bitsLt_bf16_f32 : FVec F S256x1024 .bf16) shapeCasts_S256x1024_S1x256x1024) Finset.univ : sProp 𝕄)
      ⊢ psP m c fullShare r := by
  have h := pts_write c (psM.access (psR r)) fullShare f (psA m c) _ (ps_read m c r)
  rw [ps_acc_set] at h
  exact Entails.of_eq h

theorem row_read (c : Dev nD) (r : Fin 4) :
    shapeCast S256x1024 (poBlk m c r) shapeCasts_S256x1024_S256x1024 = (ovM.access (rowsR r)).read (Elt F) (poA m c) := by
  rw [shapeCast_self]
  funext j
  obtain ⟨a, b, rfl⟩ : ∃ (a : Fin 256) (b : Fin 1024), j = ix2 a b := ⟨_, _, eq_ix2 j⟩
  refine Eq.trans ?_ (congrArg (poA m c) (emb_rowsR r a b)).symm
  have e1 : rowOf (⟨256 * r.val + a.val, by omega⟩ : Fin 1024) = r := Fin.ext (by show (256 * r.val + a.val) / 256 = r.val; omega)
  have e3 : inRow (⟨256 * r.val + a.val, by omega⟩ : Fin 1024) = a := Fin.ext (by show (256 * r.val + a.val) % 256 = a.val; omega)
  show poBlk m c r (ix2 a b) = poBlk m c (rowOf (⟨256 * r.val + a.val, by omega⟩ : Fin 1024)) (ix2 (inRow _) b)
  rw [e1, e3]

/-- The result with its first `n` row blocks in. -/
def ovR (c : Dev nD) (n : ℕ) : sProp 𝕄 := iprop(∃ f : S1024x1024.Idx → Elt F .f32, ovM.view.loc (c : Thread nD τ) ↦{fullShare} mix rowIdx f (poA m c) n)

theorem row_stored (c : Dev nD) (r : Fin 4) (f : S1024x1024.Idx → Elt F .f32) :
    ((ovM.access (rowsR r)).loc (c : Thread nD τ) ↦{fullShare} (ovM.access (rowsR r)).write (Elt F) (mix rowIdx f (poA m c) r.val)
        (shapeCast S256x1024 (poBlk m c r) shapeCasts_S256x1024_S256x1024) Finset.univ : sProp 𝕄)
      ⊢ ovR m c (r.val + 1) := by
  unfold ovR
  iintro H
  iexists f
  iapply (Entails.of_eq (congrArg (fun f => (ovM.view.loc (c : Thread nD τ) ↦{fullShare} f : sProp 𝕄))
      (mix_write (ovM.access (rowsR r)) rowIdx f (poA m c) r.val _ (row_read m c r) (rows_mem r)))) $$ H

/-- What the sends of a row block take beside the block, and give. -/
def psendB (c : Dev nD) (r : Fin 4) (d : Fin 3) : sProp 𝕄 :=
  iprop(prE (F := F) (dstDev c d) d r ∗ dutyTok ER (kcell c (.psend d)) 0 (u4 r) ∗ dutyTok ER (kcell (dstDev c d) (.precv d)) 0 (u4 r))
def pcrd (c : Dev nD) (n : ℕ) : sProp 𝕄 := BI.bigSep Finset.univ (fun d : Fin 3 => crd (F := F) c (.psend d) n)

theorem duesR_drop (c : Dev nD) (l : List (Dev nD × Ce)) (d : Fin 3) : (duesR c).drop d.val ++ l = (dstDev c d, .precv d) :: ((duesR c).drop (d.val + 1) ++ l) := by
  fin_cases d <;> rfl

theorem psends {Q : PUnit.{1} → sProp 𝕄} (c : Dev nD) (r : Fin 4) (l : List (Dev nD × Ce)) {kk : PR F} :
    iprop(recs m K ∗ own c (duesR c ++ l) ∗ psP m c fullShare r ∗ BI.bigSep Finset.univ (psendB (F := F) c r) ∗ pcrd (F := F) c r.val)
      ⊢ iprop(((own c l ∗ pcrd (F := F) c (r.val + 1)) -∗ W c kk Q) -∗ W c (each all3 (psend c r) kk) Q) := by
  have h := each_sweep (Q := Q) c (recs m K) (fun n => own (F := F) c ((duesR c).drop n ++ l))
    (fun d : Fin 3 => iprop(psP m c (shr d) r ∗ psendB (F := F) c r d ∗ crd (F := F) c (.psend d) r.val)) (fun d => crd (F := F) c (.psend d) (r.val + 1)) (psend c r) kk all3 all3_num rfl
    (fun d k => by
      unfold psendB
      rw [duesR_drop]
      iintro ⟨#HR, HO, Hp, ⟨He, Ht1, Ht2⟩, Hc⟩ Hk
      iapply (st_psend m K c r d ((duesR c).drop (d.val + 1) ++ l)) $$ [HO Hp He Ht1 Ht2]
      · isplitr; · iexact HR
        isplitl [HO]; · iexact HO
        isplitl [Hp]; · iexact Hp
        isplitl [He]; · iexact He
        isplitl [Ht1]; · iexact Ht1
        iexact Ht2
      iintro ⟨HO, Hc'⟩
      iapply Hk
      isplitl [HO]; · iexact HO
      iapply (crd_succ (F := F) c (.psend d) r.val)
      isplitl [Hc]; · iexact Hc
      iexact Hc')
  have hj : iprop(BI.bigSep Finset.univ (fun d : Fin 3 => psP m c (shr d) r) ∗ BI.bigSep Finset.univ (psendB (F := F) c r) ∗ pcrd (F := F) c r.val)
      ⊢ BI.bigSep Finset.univ (fun d : Fin 3 => iprop(psP m c (shr d) r ∗ psendB (F := F) c r d ∗ crd (F := F) c (.psend d) r.val)) := by
    unfold pcrd
    rw [← bigSep_sep', ← bigSep_sep']
  have hq : BI.bigSep Finset.univ (fun d : Fin 3 => crd (F := F) c (.psend d) (r.val + 1)) ⊢ pcrd (F := F) c (r.val + 1) := .rfl
  iintro ⟨#HR, HO, Hp, Hs, Hc⟩ Hk
  iapply h $$ [HO Hp Hs Hc]
  · isplitr; · iexact HR
    isplitl [HO]; · iexact HO
    iapply hj
    isplitl [Hp]; · iapply (psP_three m c r).1 $$ Hp
    isplitl [Hs]; · iexact Hs
    iexact Hc
  iintro ⟨HO, Hc⟩
  iapply Hk
  isplitl [HO]; · iexact HO
  iapply hq $$ Hc

theorem st_row {Q : PUnit.{1} → sProp 𝕄} (c : Dev nD) (r : Fin 4) (v : FVec F S256x1024 .f32) (hv : v = poBlk m c r)
    {hx hm hx' hm'} {h1 h2} {kk : PR F} :
    iprop(ovR m c r.val ∗ psE (F := F) c r)
      ⊢ iprop(((ovR m c (r.val + 1) ∗ psP m c fullShare r) -∗ W c kk Q) -∗ W c
        (ld ovM (rowsR r) h1 fun _ => .op (.store ovM (rowsR r) (shapeCast S256x1024 v shapeCasts_S256x1024_S256x1024) Finset.univ hx hm) fun _ =>
          ld psM (psR r) h2 fun _ => .op (.store psM (psR r) (shapeCast S1x256x1024 (truncf .bf16 v bitsLt_bf16_f32 : FVec F S256x1024 .bf16) shapeCasts_S256x1024_S1x256x1024)
            Finset.univ hx' hm') fun _ => kk) Q) := by
  subst hv
  have hset : psM.view.setOn (psR r).toLoadRect.set ⊆ (pOut r).view.set := by
    rw [← ps_acc_set]; exact fun x hx => (View.set_slice _ _ : (psM.access (psR r)).set = _) ▸ hx
  have hset' : (psM.access (psR r)).setOn Finset.univ ⊆ (pOut r).view.set := by rw [View.setOn_univ, ps_acc_set]; exact fun _ h => h
  have hst := fun (f : S1024x1024.Idx → Elt F .f32) => row_stored m c r f
  unfold psE
  rw [show ovR m c r.val = iprop(∃ f : S1024x1024.Idx → Elt F .f32, ovM.view.loc (c : Thread nD τ) ↦{fullShare} mix rowIdx f (poA m c) r.val) from rfl]
  iintro ⟨⟨%f, Ho⟩, ⟨%g, Hp⟩⟩ Hk
  iapply (st_ld c ovM (rowsR r) _ (Finset.subset_univ _)) $$ Ho; iintro Ho
  iapply (st_st c ovM (rowsR r)) $$ Ho; iintro Ho
  iapply (show ((pOut r).view.loc (c : Thread nD τ) ↦[(pOut r).view.set]{fullShare} g : sProp 𝕄) ⊢ _ from
    st_ld (Q := Q) c psM (psR r) h2 (S := (pOut r).view.set) (q := fullShare) (f := g) hset) $$ Hp
  iintro Hp
  iapply (show (psM.view.loc (c : Thread nD τ) ↦[(pOut r).view.set]{fullShare} g : sProp 𝕄) ⊢ _ from
    wp_store 𝒱₀ (c : Thread nD τ) none Set.univ (m := psM) (r := psR r) (S := (pOut r).view.set) (f := g) hset') $$ Hp
  iintro Hp
  iapply Hk
  isplitl [Ho]; · iapply (hst f) $$ Ho
  iapply (ps_stored m c r g) $$ Hp

/-- What the output projection reads. -/
def readO (c : Dev nD) : sProp 𝕄 :=
  iprop((xvM.view.loc (c : Thread nD τ) ↦{fullShare} ctxB m c) ∗ (lsM.view.loc (c : Thread nD τ) ↦{fullShare} lsB m c) ∗ (wvM.view.loc (c : Thread nD τ) ↦{fullShare} woA m c))

theorem outRow_wp {Q : PUnit.{1} → sProp 𝕄} (c : Dev nD) (r : Fin 4) (l : List (Dev nD × Ce)) {kk : PR F} :
    iprop(recs m K ∗ own c (duesR c ++ l) ∗ readO m c ∗ ovR m c r.val ∗ psE (F := F) c r ∗ BI.bigSep Finset.univ (psendB (F := F) c r) ∗ pcrd (F := F) c r.val)
      ⊢ iprop(((own c l ∗ readO m c ∗ ovR m c (r.val + 1) ∗ pcrd (F := F) c (r.val + 1)) -∗ W c kk Q) -∗ W c (outRow c r kk) Q) := by
  have hrow := st_row (Q := Q) m c r (oProj (ctx (xvM.view.readAt (Elt F) (ctxR r 0).toLoadRect (ctxB m c)) (xvM.view.readAt (Elt F) (ctxR r 1).toLoadRect (ctxB m c))
      (xvM.view.readAt (Elt F) (ctxR r 2).toLoadRect (ctxB m c)) (xvM.view.readAt (Elt F) (ctxR r 3).toLoadRect (ctxB m c))
      (xvM.view.readAt (Elt F) (ctxR r 4).toLoadRect (ctxB m c)) (xvM.view.readAt (Elt F) (ctxR r 5).toLoadRect (ctxB m c))
      (xvM.view.readAt (Elt F) (ctxR r 6).toLoadRect (ctxB m c)) (xvM.view.readAt (Elt F) (ctxR r 7).toLoadRect (ctxB m c))
      (shapeCast S256x8 (lsM.view.readAt (Elt F) (lsR r).toLoadRect (lsB m c)) shapeCasts_S1x256x8_S256x8)) (wvM.view.readAt (Elt F) fullR.toLoadRect (woA m c)))
    (by rw [full_read1]; rfl) (h1 := View.loadsAt_vmem h_S256x1024) (h2 := View.loadsAt_vmem h_S1x256x1024)
    (hx := View.stores_vmem_bits_univ h_S256x1024 rfl) (hm := .inl rfl)
    (hx' := View.stores_vmem h_S1x256x1024 ((Memref.isWhole_whole cc0_scratch9).storeExact_slice rfl _ (packed_psend r)) (fun _ => rfl)) (hm' := .inl rfl)
    (kk := each all3 (psend c r) kk)
  unfold readO
  iintro ⟨#HR, HO, ⟨Hx, Hl, Hw⟩, Ho, Hp, Hs, Hc⟩ Hk
  unfold outRow ldCtx
  iapply (st_ld c lsM (lsR r) _ (Finset.subset_univ _)) $$ Hl; iintro Hl
  iapply (st_ld c xvM (ctxR r 0) _ (Finset.subset_univ _)) $$ Hx; iintro Hx
  iapply (st_ld c xvM (ctxR r 1) _ (Finset.subset_univ _)) $$ Hx; iintro Hx
  iapply (st_ld c xvM (ctxR r 2) _ (Finset.subset_univ _)) $$ Hx; iintro Hx
  iapply (st_ld c xvM (ctxR r 3) _ (Finset.subset_univ _)) $$ Hx; iintro Hx
  iapply (st_ld c xvM (ctxR r 4) _ (Finset.subset_univ _)) $$ Hx; iintro Hx
  iapply (st_ld c xvM (ctxR r 5) _ (Finset.subset_univ _)) $$ Hx; iintro Hx
  iapply (st_ld c xvM (ctxR r 6) _ (Finset.subset_univ _)) $$ Hx; iintro Hx
  iapply (st_ld c xvM (ctxR r 7) _ (Finset.subset_univ _)) $$ Hx; iintro Hx
  iapply (st_ld c wvM fullR _ (Finset.subset_univ _)) $$ Hw; iintro Hw
  iapply hrow $$ [Ho Hp]
  · isplitl [Ho]; · iexact Ho
    iexact Hp
  iintro ⟨Ho, Hp⟩
  iapply (psends m K c r l) $$ [HO Hp Hs Hc]
  · isplitr; · iexact HR
    isplitl [HO]; · iexact HO
    isplitl [Hp]; · iexact Hp
    isplitl [Hs]; · iexact Hs
    iexact Hc
  iintro ⟨HO, Hc⟩
  iapply Hk
  isplitl [HO]; · iexact HO
  isplitl [Hx Hl Hw]
  · isplitl [Hx]; · iexact Hx
    isplitl [Hl]; · iexact Hl
    iexact Hw
  isplitl [Ho]; · iexact Ho
  iexact Hc

theorem row_full (f g : S1024x1024.Idx → Elt F .f32) : mix rowIdx f g 4 = g := mix_all _ _ _ _ fun i => (rowOf (i 0)).isLt

def duesQ (c : Dev nD) (n : ℕ) : List (Dev nD × Ce) := ((List.replicate (4 - n) (duesR c)).flatten)
theorem duesQ_zero (c : Dev nD) : duesQ c 0 = duesP c := by simp [duesQ, duesP, List.replicate, List.flatten]
theorem duesQ_step (c : Dev nD) (r : Fin 4) : duesQ c r.val = duesR c ++ duesQ c (r.val + 1) := by
  unfold duesQ
  rw [show 4 - r.val = (4 - (r.val + 1)) + 1 by omega, List.replicate_succ, List.flatten_cons]

theorem outRows_wp {Q : PUnit.{1} → sProp 𝕄} (c : Dev nD) {kk : PR F} :
    iprop(recs m K ∗ own c (duesP c) ∗ readO m c ∗ (∃ f, ovM.view.loc (c : Thread nD τ) ↦{fullShare} f) ∗ BI.bigSep Finset.univ (fun r : Fin 4 => psE (F := F) c r)
        ∗ BI.bigSep Finset.univ (fun r : Fin 4 => BI.bigSep Finset.univ (psendB (F := F) c r)))
      ⊢ iprop(((own c [] ∗ readO m c ∗ (ovM.view.loc (c : Thread nD τ) ↦{fullShare} poA m c) ∗ pcrd (F := F) c 4) -∗ W c kk Q) -∗ W c (each all4 (outRow c) kk) Q) := by
  have h := each_sweep (Q := Q) c (recs m K) (fun n => iprop(own (F := F) c (duesQ c n) ∗ readO m c ∗ ovR m c n ∗ pcrd (F := F) c n))
    (fun r : Fin 4 => iprop(psE (F := F) c r ∗ BI.bigSep Finset.univ (psendB (F := F) c r))) (fun _ => iprop(emp)) (outRow c) kk all4 all4_num rfl
    (fun r k => by
      rw [duesQ_step]
      iintro ⟨#HR, ⟨HO, Hr, Ho, Hc⟩, Hp, Hs⟩ Hk
      iapply (outRow_wp m K c r (duesQ c (r.val + 1))) $$ [HO Hr Ho Hp Hs Hc]
      · isplitr; · iexact HR
        isplitl [HO]; · iexact HO
        isplitl [Hr]; · iexact Hr
        isplitl [Ho]; · iexact Ho
        isplitl [Hp]; · iexact Hp
        isplitl [Hs]; · iexact Hs
        iexact Hc
      iintro H
      iapply Hk
      isplitl [H]; · iexact H
      iempintro)
  rw [duesQ_zero, bigSep_sep', show duesQ c 4 = [] from rfl] at h
  have h0 : (iprop(∃ f, ovM.view.loc (c : Thread nD τ) ↦{fullShare} f) : sProp 𝕄) ⊢ ovR m c 0 := by
    unfold ovR
    iintro ⟨%f, H⟩
    iexists f
    iapply (Entails.of_eq (congrArg (fun f => (ovM.view.loc (c : Thread nD τ) ↦{fullShare} f : sProp 𝕄)) (mix_zero rowIdx f (poA m c)).symm)) $$ H
  have h4 : ovR m c 4 ⊢ (ovM.view.loc (c : Thread nD τ) ↦{fullShare} poA m c : sProp 𝕄) := by
    unfold ovR
    iintro ⟨%f, H⟩
    iapply (Entails.of_eq (congrArg (fun f => (ovM.view.loc (c : Thread nD τ) ↦{fullShare} f : sProp 𝕄)) (row_full f (poA m c)))) $$ H
  have hz : (iprop(emp) : sProp 𝕄) ⊢ pcrd (F := F) c 0 := by
    unfold pcrd; rw [bs_three]
    iintro -
    isplitr; · iapply (crd_zero (F := F) c _); iempintro
    isplitr; · iapply (crd_zero (F := F) c _); iempintro
    iapply (crd_zero (F := F) c _); iempintro
  iintro ⟨#HR, HO, Hr, Ho, Hp, Hs⟩ Hk
  iapply h $$ [HO Hr Ho Hp Hs]
  · isplitr; · iexact HR
    isplitl [HO Hr Ho]
    · isplitl [HO]; · iexact HO
      isplitl [Hr]; · iexact Hr
      isplitl [Ho]; · iapply h0 $$ Ho
      iapply hz; iempintro
    isplitl [Hp]; · iexact Hp
    iexact Hs
  iintro ⟨⟨HO, Hr, Ho, Hc⟩, -⟩
  iapply Hk
  isplitl [HO]; · iexact HO
  isplitl [Hr]; · iexact Hr
  isplitl [Ho]; · iapply h4 $$ Ho
  iexact Hc

/-! ## Waiting for the shares sent and received -/

theorem waitPs {Q : PUnit.{1} → sProp 𝕄} (c : Dev nD) (k : Fin 3 → Ce) (f : Fin 4 → Fin 3 → PR F → PR F)
    (step : ∀ (r : Fin 4) (d : Fin 3) (kk : PR F), iprop(recs m K ∗ own c [] ∗ wst m c (k d) r.val) ⊢ iprop(((own c [] ∗ wst m c (k d) (r.val + 1)) -∗ W c kk Q) -∗ W c (f r d kk) Q)) {kk : PR F} :
    iprop(recs m K ∗ own c [] ∗ BI.bigSep Finset.univ (fun d : Fin 3 => wst m c (k d) 0))
      ⊢ iprop(((own c [] ∗ BI.bigSep Finset.univ (fun d : Fin 3 => wst m c (k d) 4)) -∗ W c kk Q) -∗ W c (each all4 (fun r => each all3 (f r)) kk) Q) :=
  each_wp (Q := Q) c (recs m K) (fun n => iprop(own c [] ∗ BI.bigSep Finset.univ (fun d : Fin 3 => wst m c (k d) n))) (fun r => each all3 (f r)) (fun r => r.val) kk all4 0 all4_num
    (fun r _ kk => each_sweep (Q := Q) c (recs m K) (fun _ => own c []) (fun d : Fin 3 => wst m c (k d) r.val) (fun d : Fin 3 => wst m c (k d) (r.val + 1)) (f r) kk all3 all3_num rfl
      (fun d kk => step r d kk))

theorem no_dues (n : ℕ) : ∀ e ∈ ([] : List (Dev nD × Ce)), n < lvl e.2 := fun e he => absurd he List.not_mem_nil

theorem waitPSends {Q : PUnit.{1} → sProp 𝕄} (c : Dev nD) {kk : PR F} :
    iprop(recs m K ∗ own c [] ∗ BI.bigSep Finset.univ (fun d : Fin 3 => wst m c (.psend d) 0))
      ⊢ iprop(((own c [] ∗ BI.bigSep Finset.univ (fun d : Fin 3 => wst m c (.psend d) 4)) -∗ W c kk Q) -∗ W c (each all4 (fun r => each all3 (waitPSend r)) kk) Q) :=
  waitPs m K c (fun d => .psend d) waitPSend fun r d kk => by
    unfold waitPSend
    exact st_waitDma m K c (.psend d) r.val [] (kk := fun _ => kk) (dst := pOut r) rfl rfl r.isLt (no_dues _)
theorem waitPRecvs {Q : PUnit.{1} → sProp 𝕄} (c : Dev nD) {kk : PR F} :
    iprop(recs m K ∗ own c [] ∗ BI.bigSep Finset.univ (fun d : Fin 3 => wst m c (.precv d) 0))
      ⊢ iprop(((own c [] ∗ BI.bigSep Finset.univ (fun d : Fin 3 => wst m c (.precv d) 4)) -∗ W c kk Q) -∗ W c (each all4 (fun r => each all3 (waitPRecv r)) kk) Q) :=
  waitPs m K c (fun d => .precv d) waitPRecv fun r d kk => by
    unfold waitPRecv
    exact st_waitDma m K c (.precv d) r.val [] (kk := fun _ => kk) (dst := pLand d r) rfl rfl r.isLt (no_dues _)

/-! ## Adding up -/

def prAll (c : Dev nD) : sProp 𝕄 := prM.view.loc (c : Thread nD τ) ↦{fullShare} prA m c

theorem st_ldP {Q : PUnit.{1} → sProp 𝕄} (c : Dev nD) (d : Fin 3) {kk : FVec F S1024x1024 .f32 → PR F} :
    prAll m c ⊢ iprop((prAll m c -∗ W c (kk (prV m c d)) Q) -∗ W c (ldP d kk) Q) := by
  unfold prAll
  iintro H Hk
  unfold ldP
  iapply (st_ld c prM _ _ (Finset.subset_univ _)) $$ H; iintro H
  iapply Hk
  iexact H

theorem sum_stored (c : Dev nD) (f : S1024x1024.Idx → Elt F .f32) :
    ((ovM.access fullR).loc (c : Thread nD τ) ↦{fullShare} (ovM.access fullR).write (Elt F) f
        (shapeCast S1024x1024 (addf (addf (addf (ovM.view.readAt (Elt F) fullR.toLoadRect (poA m c) : FVec F S1024x1024 .f32) (prV m c 0)) (prV m c 1)) (prV m c 2)) shapeCasts_S1024x1024_S1024x1024) Finset.univ : sProp 𝕄)
      ⊢ (ovM.view.loc (c : Thread nD τ) ↦{fullShare} sumC m c) := by
  have e : shapeCast S1024x1024 (addf (addf (addf (ovM.view.readAt (Elt F) fullR.toLoadRect (poA m c) : FVec F S1024x1024 .f32) (prV m c 0)) (prV m c 1)) (prV m c 2)) shapeCasts_S1024x1024_S1024x1024 = sumC m c := by
    rw [full_read3]; exact shapeCast_self _ _
  exact Entails.of_eq (congrArg (fun g => (ovM.view.loc (c : Thread nD τ) ↦{fullShare} g : sProp 𝕄))
    ((congrArg (fun w => (ovM.access fullR).write (Elt F) f w Finset.univ) e).trans (Memref.write_access_unit_zero_univ (Elt F) cc0_scratch3 zeros2 _ f _)))

theorem addUp_wp {Q : PUnit.{1} → sProp 𝕄} (c : Dev nD) {kk : PR F} :
    iprop((ovM.view.loc (c : Thread nD τ) ↦{fullShare} poA m c) ∗ prAll m c)
      ⊢ iprop((((ovM.view.loc (c : Thread nD τ) ↦{fullShare} sumC m c) ∗ prAll m c) -∗ W c kk Q) -∗ W c (addUp kk) Q) := by
  iintro ⟨Ho, Hp⟩ Hk
  unfold addUp
  iapply (st_ld c ovM fullR _ (Finset.subset_univ _)) $$ Ho; iintro Ho
  iapply (st_ldP m c 0) $$ Hp; iintro Hp
  iapply (st_ldP m c 1) $$ Hp; iintro Hp
  iapply (st_ldP m c 2) $$ Hp; iintro Hp
  iapply (st_ld c ovM fullR _ (Finset.subset_univ _)) $$ Ho; iintro Ho
  iapply (st_st c ovM fullR) $$ Ho; iintro Ho
  iapply Hk
  isplitl [Ho]; · iapply (sum_stored m c (poA m c)) $$ Ho
  iexact Hp

/-! ## Writing the result out -/

def giveB (c : Dev nD) (r i : Fin 4) : sProp 𝕄 := iprop(resE (F := F) c r i ∗ dutyTok ER (kcell c .give) 0 (u16 r i))

theorem gives_wp {Q : PUnit.{1} → sProp 𝕄} (c : Dev nD) {kk : PR F} :
    iprop(recs m K ∗ BI.bigSep Finset.univ (fun r : Fin 4 => BI.bigSep Finset.univ (fun i : Fin 4 => iprop(ovP m c r i ∗ giveB (F := F) c r i))))
      ⊢ iprop((crd (F := F) c .give 16 -∗ W c kk Q) -∗ W c (each all4 (fun r => each all4 (give r)) kk) Q) := by
  have h := each_sweep (Q := Q) c (recs m K) (fun n => crd (F := F) c .give (4 * n))
    (fun r : Fin 4 => BI.bigSep Finset.univ (fun i : Fin 4 => iprop(ovP m c r i ∗ giveB (F := F) c r i))) (fun _ => iprop(emp)) (fun r => each all4 (give r)) kk all4 all4_num rfl
    (fun r kk => by
      have h := each_sweep (Q := Q) c (recs m K) (fun n => crd (F := F) c .give (4 * r.val + n))
        (fun i : Fin 4 => iprop(ovP m c r i ∗ giveB (F := F) c r i)) (fun _ => iprop(emp)) (give r) kk all4 all4_num rfl
        (fun i kk => by
          unfold giveB
          iintro ⟨#HR, Hc, Ho, He, Ht⟩ Hk
          iapply (st_give m K c r i) $$ [Ho He Ht]
          · isplitr; · iexact HR
            isplitl [Ho]; · iexact Ho
            isplitl [He]; · iexact He
            iexact Ht
          iintro Hc'
          iapply Hk
          isplitl [Hc Hc']
          · iapply (crd_succ (F := F) c .give (4 * r.val + i.val))
            isplitl [Hc]; · iexact Hc
            iexact Hc'
          iempintro)
      iintro H Hk
      iapply h $$ H
      iintro ⟨Hc, -⟩
      iapply Hk
      isplitl [Hc]; · iexact Hc
      iempintro)
  iintro ⟨#HR, HA⟩ Hk
  iapply h $$ [HA]
  · isplitr; · iexact HR
    isplitr; · iapply (crd_zero (F := F) c .give); iempintro
    iexact HA
  iintro ⟨Hc, -⟩
  iapply Hk
  iexact Hc

theorem waitGives {Q : PUnit.{1} → sProp 𝕄} (c : Dev nD) {kk : PR F} :
    iprop(recs m K ∗ own c [] ∗ wst m c .give 0)
      ⊢ iprop(((own c [] ∗ wst m c .give 16) -∗ W c kk Q) -∗ W c (each all4 (fun r => each all4 (waitGive r)) kk) Q) :=
  each_wp (Q := Q) c (recs m K) (fun n => iprop(own c [] ∗ wst m c .give (4 * n))) (fun r => each all4 (waitGive r)) (fun r => r.val) kk all4 0 all4_num
    (fun r _ kk => each_wp (Q := Q) c (recs m K) (fun n => iprop(own c [] ∗ wst m c .give (4 * r.val + n))) (waitGive r) (fun i => i.val) kk all4 0 all4_num
      (fun i _ kk => by
        unfold waitGive
        exact st_waitDma m K c .give (4 * r.val + i.val) [] (kk := fun _ => kk) (dst := resRows r i) rfl rfl (by show 4 * r.val + i.val < 16; omega) (no_dues _)))

end Cert.KProg

end
-- ==== Proof.Parts.lean ====
/- The second, third and last parts of the kernel. -/
module

public import proofs.«01_k».proof.Proof.PartC

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## Keys and values alike -/

/-- Something for the keys and the same for the values. -/
def two (A : Bool → sProp 𝕄) : sProp 𝕄 := iprop(A false ∗ A true)

omit [FloatOps F] in
theorem two_mono {A B : Bool → sProp 𝕄} (h : ∀ t, A t ⊢ B t) : two A ⊢ two B := by
  unfold two
  iintro ⟨H0, H1⟩
  isplitl [H0]; · iapply (h false) $$ H0
  iapply (h true) $$ H1
omit [FloatOps F] in
theorem two_join (A B : Bool → sProp 𝕄) : iprop(two A ∗ two B) ⊢ two (fun t => iprop(A t ∗ B t)) := by
  unfold two
  iintro ⟨⟨H0, H1⟩, H2, H3⟩
  isplitl [H0 H2]
  · isplitl [H0]; · iexact H0
    iexact H2
  isplitl [H1]; · iexact H1
  iexact H3
omit [FloatOps F] in
theorem two_part (A B : Bool → sProp 𝕄) : two (fun t => iprop(A t ∗ B t)) ⊢ iprop(two A ∗ two B) := by
  unfold two
  iintro ⟨⟨H0, H2⟩, H1, H3⟩
  isplitl [H0 H1]
  · isplitl [H0]; · iexact H0
    iexact H1
  isplitl [H2]; · iexact H2
  iexact H3

theorem both_wp {Q : PUnit.{1} → sProp 𝕄} (c : Dev nD) (l : List (Dev nD × Ce)) (A B : Bool → sProp 𝕄) (f : Bool → Fin 8 → PR F → PR F)
    (step : ∀ (t : Bool) (kk : PR F), iprop(recs m K ∗ own c l ∗ A t) ⊢ iprop(((own c l ∗ B t) -∗ W c kk Q) -∗ W c (each all8 (f t) kk) Q)) {kk : PR F} :
    iprop(recs m K ∗ own c l ∗ two A) ⊢ iprop(((own c l ∗ two B) -∗ W c kk Q) -∗ W c (both f kk) Q) := by
  unfold two
  iintro ⟨#HR, HO, H0, H1⟩ Hk
  unfold both
  iapply (step false _) $$ [HO H0]
  · isplitr; · iexact HR
    isplitl [HO]; · iexact HO
    iexact H0
  iintro ⟨HO, H0⟩
  iapply (step true _) $$ [HO H1]
  · isplitr; · iexact HR
    isplitl [HO]; · iexact HO
    iexact H1
  iintro ⟨HO, H1⟩
  iapply Hk
  isplitl [HO]; · iexact HO
  isplitl [H0]; · iexact H0
  iexact H1

theorem bothSends {Q : PUnit.{1} → sProp 𝕄} (c : Dev nD) (d : Fin 3) (l : List (Dev nD × Ce)) (hl : ∀ e ∈ l, 0 < lvl e.2) {kk : PR F} :
    iprop(recs m K ∗ own c l ∗ two (fun t => wst m c (.send t d) 0)) ⊢ iprop(((own c l ∗ two (fun t => wst m c (.send t d) 8)) -∗ W c kk Q) -∗ W c (both (fun t => waitSend t c d) kk) Q) :=
  both_wp m K c l _ _ (fun t => waitSend t c d) fun t _ => waitSends m K t c d l hl
theorem bothRecvs {Q : PUnit.{1} → sProp 𝕄} (c : Dev nD) (d : Fin 3) (l : List (Dev nD × Ce)) (hl : ∀ e ∈ l, 1 < lvl e.2) {kk : PR F} :
    iprop(recs m K ∗ own c l ∗ two (fun t => wst m c (.recv t d) 0)) ⊢ iprop(((own c l ∗ two (fun t => wst m c (.recv t d) 8)) -∗ W c kk Q) -∗ W c (both (fun t => waitRecv t c d) kk) Q) :=
  both_wp m K c l _ _ (fun t => waitRecv t c d) fun t _ => waitRecvs m K t c d l hl
theorem bothKeeps {Q : PUnit.{1} → sProp 𝕄} (c : Dev nD) (l : List (Dev nD × Ce)) (hl : ∀ e ∈ l, 0 < lvl e.2) {kk : PR F} :
    iprop(recs m K ∗ own c l ∗ two (fun t => wst m c (.keep t) 0)) ⊢ iprop(((own c l ∗ two (fun t => wst m c (.keep t) 8)) -∗ W c kk Q) -∗ W c (both (fun t => waitKeep t c) kk) Q) :=
  both_wp m K c l _ _ (fun t => waitKeep t c) fun t _ => waitKeeps m K t c l hl

/-! ## What a semaphore's units have handed over -/

omit [FloatOps F] in
theorem dut8 (k : Ce) (hk : num k = 8) (Φ : Duty → sProp 𝕄) : BI.bigSep (dut k) Φ = BI.bigSep Finset.univ (fun h : Fin 8 => Φ (u8 h)) := by
  have e : dut k = Finset.univ.map ⟨u8, fun a b h => by have := congrArg j8 h; rwa [j8_u8, j8_u8] at this⟩ := by
    unfold dut; rw [hk]; decide +kernel
  rw [e, BI.bigSep_map]; rfl
omit [FloatOps F] in
theorem dut4 (k : Ce) (hk : num k = 4) (Φ : Duty → sProp 𝕄) : BI.bigSep (dut k) Φ = BI.bigSep Finset.univ (fun h : Fin 4 => Φ (u4 h)) := by
  have e : dut k = Finset.univ.map ⟨u4, fun a b h => by have := congrArg j4 h; rwa [j4_u4, j4_u4] at this⟩ := by
    unfold dut; rw [hk]; decide +kernel
  rw [e, BI.bigSep_map]; rfl
omit [FloatOps F] in
theorem dut3 (Φ : Duty → sProp 𝕄) : BI.bigSep (dut .bar) Φ = BI.bigSep Finset.univ (fun h : Fin 3 => Φ (u3 h)) := by
  have e : dut .bar = Finset.univ.map ⟨u3, fun a b h => by have := congrArg j3 h; rwa [j3_u3, j3_u3] at this⟩ := by decide +kernel
  rw [e, BI.bigSep_map]; rfl
omit [FloatOps F] in
theorem dut16 (Φ : Duty → sProp 𝕄) : BI.bigSep (dut .give) Φ = BI.bigSep Finset.univ (fun p : Fin 4 × Fin 4 => Φ (u16 p.1 p.2)) := by
  have e : dut .give = Finset.univ.map ⟨fun p : Fin 4 × Fin 4 => u16 p.1 p.2, fun a b h => by
    have h1 := congrArg jr h; have h2 := congrArg j4 h
    rw [jr_u16, jr_u16] at h1; rw [j4_u16, j4_u16] at h2
    exact Prod.ext h1 h2⟩ := by decide +kernel
  rw [e, BI.bigSep_map]; rfl

/-- A semaphore all whose units have come. -/
def fin (c : Dev nD) (k : Ce) : sProp 𝕄 := atPos ER (kcell c k) 1 ∅ 0

theorem send_done (t : Bool) (c : Dev nD) (d : Fin 3) : wst m c (.send t d) 8 ⊢ iprop(fin (F := F) c (.send t d) ∗ bfG m t c (dstDev c d)) := by
  have h := wst_done m c (.send t d)
  rw [dut8 _ rfl] at h
  have e : ∀ j, pay m c (.send t d) (u8 j) = bfP m t c (hd (dstDev c d) j) := fun j => by
    show bfP m t c (hd (dstDev c d) (j8 (u8 j))) = _; rw [j8_u8]
  simp only [e] at h
  exact h
theorem recv_done (t : Bool) (c : Dev nD) (d : Fin 3) (s : Fin 4) (hs : s.val = d.val) : wst m c (.recv t d) 8 ⊢ iprop(fin (F := F) c (.recv t d) ∗ landS m t c s) := by
  have h := wst_done m c (.recv t d)
  rw [dut8 _ rfl] at h
  have e : ∀ j, pay m c (.recv t d) (u8 j) = landP m t c s j := fun j => by
    show landP m t c ⟨d.val, _⟩ (j8 (u8 j)) = _; rw [j8_u8]; congr 1; exact Fin.ext hs.symm
  simp only [e] at h
  exact h
theorem keep_done (t : Bool) (c : Dev nD) : wst m c (.keep t) 8 ⊢ iprop(fin (F := F) c (.keep t) ∗ landS m t c 3 ∗ bfG m t c c) := by
  have h := wst_done m c (.keep t)
  rw [dut8 _ rfl] at h
  have e : ∀ j, pay m c (.keep t) (u8 j) = iprop(landP m t c 3 j ∗ bfP m t c (hd c j)) := fun j => by
    show iprop(landP m t c 3 (j8 (u8 j)) ∗ bfP m t c (hd c (j8 (u8 j)))) = _; rw [j8_u8]
  simp only [e] at h
  rw [bigSep_sep'] at h
  exact h
theorem precv_done (c : Dev nD) :
    BI.bigSep Finset.univ (fun d : Fin 3 => wst m c (.precv d) 4) ⊢ iprop(BI.bigSep Finset.univ (fun d : Fin 3 => fin (F := F) c (.precv d)) ∗ prAll m c) := by
  have h : ∀ d : Fin 3, wst m c (.precv d) 4 ⊢ iprop(fin (F := F) c (.precv d) ∗ BI.bigSep Finset.univ (fun r : Fin 4 => prP m c d r)) := fun d => by
    have h := wst_done m c (.precv d)
    rw [dut4 _ rfl] at h
    have e : ∀ j, pay m c (.precv d) (u4 j) = prP m c d j := fun j => by
      show prP m c d (j4 (u4 j)) = _; rw [j4_u4]
    simp only [e] at h
    exact h
  have hq : BI.bigSep Finset.univ (fun d : Fin 3 => BI.bigSep Finset.univ (fun r : Fin 4 => prP m c d r)) ⊢ prAll m c := by
    unfold prAll; rw [pr_split, bs_pair]
  have h' : BI.bigSep Finset.univ (fun d : Fin 3 => wst m c (.precv d) 4) ⊢ _ := BI.bigSep_mono fun d _ => h d
  rw [bigSep_sep'] at h'
  iintro H
  ihave H := h' $$ H
  icases H with ⟨H0, H1⟩
  isplitl [H0]; · iexact H0
  iapply hq $$ H1
theorem psend_done (c : Dev nD) :
    BI.bigSep Finset.univ (fun d : Fin 3 => wst m c (.psend d) 4)
      ⊢ iprop(BI.bigSep Finset.univ (fun d : Fin 3 => fin (F := F) c (.psend d)) ∗ (psM.view.loc (c : Thread nD τ) ↦{fullShare} psA m c)) := by
  have h : ∀ d : Fin 3, wst m c (.psend d) 4 ⊢ iprop(fin (F := F) c (.psend d) ∗ BI.bigSep Finset.univ (fun r : Fin 4 => psP m c (shr d) r)) := fun d => by
    have h := wst_done m c (.psend d)
    rw [dut4 _ rfl] at h
    have e : ∀ j, pay m c (.psend d) (u4 j) = psP m c (shr d) j := fun j => by
      show psP m c (shr d) (j4 (u4 j)) = _; rw [j4_u4]
    simp only [e] at h
    exact h
  have hq : BI.bigSep Finset.univ (fun d : Fin 3 => BI.bigSep Finset.univ (fun r : Fin 4 => psP m c (shr d) r))
      ⊢ (psM.view.loc (c : Thread nD τ) ↦{fullShare} psA m c) := by
    rw [ps_split]
    refine BIBase.Entails.trans (Entails.of_eq ?_) (BI.bigSep_mono fun r _ => (psP_three m c r).2)
    rw [bs_three, ← bigSep_sep', ← bigSep_sep']
    exact BI.bigSep_congr fun r _ => (bs_three fun d => psP m c (shr d) r).symm
  have h' : BI.bigSep Finset.univ (fun d : Fin 3 => wst m c (.psend d) 4) ⊢ _ := BI.bigSep_mono fun d _ => h d
  rw [bigSep_sep'] at h'
  iintro H
  ihave H := h' $$ H
  icases H with ⟨H0, H1⟩
  isplitl [H0]; · iexact H0
  iapply hq $$ H1
theorem give_done (c : Dev nD) :
    wst m c .give 16 ⊢ iprop(fin (F := F) c .give ∗ (outM.view.loc (c : Thread nD τ) ↦{fullShare} resC m c) ∗ (ovM.view.loc (c : Thread nD τ) ↦{fullShare} sumC m c)) := by
  have h := wst_done m c .give
  rw [dut16] at h
  have e : ∀ p : Fin 4 × Fin 4, pay m c .give (u16 p.1 p.2) = iprop(resP m c p.1 p.2 ∗ ovP m c p.1 p.2) := fun p => by
    show iprop(resP m c (jr (u16 p.1 p.2)) (j4 (u16 p.1 p.2)) ∗ ovP m c (jr (u16 p.1 p.2)) (j4 (u16 p.1 p.2))) = _; rw [jr_u16, j4_u16]
  simp only [e] at h
  rw [bigSep_sep', ← res_split, ← ov_split] at h
  exact h
theorem bar_done (c : Dev nD) : BI.bigSep (dut .bar) (fun j => right (F := F) c (opp (j3 j))) ⊢ iprop(right (F := F) c 0 ∗ right (F := F) c 1 ∗ right (F := F) c 2) := by
  rw [dut3, bs_three, j3_u3, j3_u3, j3_u3, show opp 0 = 2 from rfl, show opp 1 = 1 from rfl, show opp 2 = 0 from rfl]
  iintro ⟨H0, H1, H2⟩
  isplitl [H2]; · iexact H2
  isplitl [H1]; · iexact H1
  iexact H0

/-! ## The second part -/

theorem farSend {Q : PUnit.{1} → sProp 𝕄} (c : Dev nD) (l : List (Dev nD × Ce)) {kk : PR F} :
    iprop(recs m K ∗ own c (duesS false c 1 ++ (duesS true c 1 ++ l)) ∗ two (fun t => iprop(bfG m t c (dstDev c 1) ∗ sendB (F := F) t c 1)))
      ⊢ iprop(((own c l ∗ two (fun t => crd (F := F) c (.send t 1) 8)) -∗ W c kk Q) -∗ W c (both (fun t => send t c 1) kk) Q) := by
  unfold two
  iintro ⟨#HR, HO, H0, H1⟩ Hk
  unfold both
  iapply (sends m K false c 1 (duesS true c 1 ++ l)) $$ [HO H0]
  · isplitr; · iexact HR
    isplitl [HO]; · iexact HO
    iapply (sendA_join m false c 1) $$ H0
  iintro ⟨HO, H0⟩
  iapply (sends m K true c 1 l) $$ [HO H1]
  · isplitr; · iexact HR
    isplitl [HO]; · iexact HO
    iapply (sendA_join m true c 1) $$ H1
  iintro ⟨HO, H1⟩
  iapply Hk
  isplitl [HO]; · iexact HO
  isplitl [H0]; · iexact H0
  iexact H1

/-- What one side of the second part takes. -/
def midIn (t : Bool) (c : Dev nD) : sProp 𝕄 :=
  iprop(wst m c (.send t 0) 0 ∗ wst m c (.send t 2) 0 ∗ wst m c (.keep t) 0 ∗ wst m c (.recv t 0) 0 ∗ wst m c (.recv t 2) 0 ∗ bfG m t c (dstDev c 1) ∗ sendB (F := F) t c 1)
/-- What one side of the second part gives. -/
def midOut (t : Bool) (c : Dev nD) : sProp 𝕄 :=
  iprop((fin (F := F) c (.send t 0) ∗ fin (F := F) c (.send t 2) ∗ fin (F := F) c (.keep t) ∗ fin (F := F) c (.recv t 0) ∗ fin (F := F) c (.recv t 2))
    ∗ crd (F := F) c (.send t 1) 8 ∗ (bfG m t c (dstDev c 0) ∗ bfG m t c (dstDev c 2) ∗ bfG m t c c) ∗ slots m t c)

theorem mid_part (c : Dev nD) : two (fun t => midIn m t c)
    ⊢ iprop(two (fun t => wst m c (.send t 0) 0) ∗ two (fun t => wst m c (.send t 2) 0) ∗ two (fun t => wst m c (.keep t) 0) ∗ two (fun t => wst m c (.recv t 0) 0)
      ∗ two (fun t => wst m c (.recv t 2) 0) ∗ two (fun t => iprop(bfG m t c (dstDev c 1) ∗ sendB (F := F) t c 1))) := by
  unfold two midIn
  iintro ⟨⟨H0, H1, H2, H3, H4, H5⟩, G0, G1, G2, G3, G4, G5⟩
  isplitl [H0 G0]; · (isplitl [H0]; · iexact H0
                      iexact G0)
  isplitl [H1 G1]; · (isplitl [H1]; · iexact H1
                      iexact G1)
  isplitl [H2 G2]; · (isplitl [H2]; · iexact H2
                      iexact G2)
  isplitl [H3 G3]; · (isplitl [H3]; · iexact H3
                      iexact G3)
  isplitl [H4 G4]; · (isplitl [H4]; · iexact H4
                      iexact G4)
  isplitl [H5]; · iexact H5
  iexact G5

theorem mid_done (t : Bool) (c : Dev nD) :
    iprop(wst m c (.send t 0) 8 ∗ wst m c (.send t 2) 8 ∗ wst m c (.keep t) 8 ∗ wst m c (.recv t 0) 8 ∗ wst m c (.recv t 2) 8 ∗ crd (F := F) c (.send t 1) 8) ⊢ midOut m t c := by
  unfold midOut slots
  iintro ⟨H0, H1, H2, H3, H4, H5⟩
  ihave H0 := (send_done m t c 0) $$ H0
  icases H0 with ⟨H0, B0⟩
  ihave H1 := (send_done m t c 2) $$ H1
  icases H1 with ⟨H1, B1⟩
  ihave H2 := (keep_done m t c) $$ H2
  icases H2 with ⟨H2, L3, B2⟩
  ihave H3 := (recv_done m t c 0 0 rfl) $$ H3
  icases H3 with ⟨H3, L0⟩
  ihave H4 := (recv_done m t c 2 2 rfl) $$ H4
  icases H4 with ⟨H4, L2⟩
  isplitl [H0 H1 H2 H3 H4]
  · isplitl [H0]; · iexact H0
    isplitl [H1]; · iexact H1
    isplitl [H2]; · iexact H2
    isplitl [H3]; · iexact H3
    iexact H4
  isplitl [H5]; · iexact H5
  isplitl [B0 B1 B2]
  · isplitl [B0]; · iexact B0
    isplitl [B1]; · iexact B1
    iexact B2
  isplitl [L3]; · iexact L3
  isplitl [L0]; · iexact L0
  iexact L2

theorem mid_join (c : Dev nD) :
    iprop(two (fun t => wst m c (.send t 0) 8) ∗ two (fun t => wst m c (.send t 2) 8) ∗ two (fun t => wst m c (.keep t) 8) ∗ two (fun t => wst m c (.recv t 0) 8)
      ∗ two (fun t => wst m c (.recv t 2) 8) ∗ two (fun t => crd (F := F) c (.send t 1) 8)) ⊢ two (fun t => midOut m t c) := by
  refine BIBase.Entails.trans ?_ (two_mono fun t => mid_done m t c)
  unfold two
  iintro ⟨⟨H0, G0⟩, ⟨H1, G1⟩, ⟨H2, G2⟩, ⟨H3, G3⟩, ⟨H4, G4⟩, H5, G5⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [G0]; · iexact G0
  isplitl [G1]; · iexact G1
  isplitl [G2]; · iexact G2
  isplitl [G3]; · iexact G3
  isplitl [G4]; · iexact G4
  iexact G5

/-- The semaphores of the copies of the input and the weights, at rest. -/
def locs (c : Dev nD) : sProp 𝕄 :=
  iprop(semVal ((c : Thread nD τ), .dma (semLoc 2).sem) 0 ∗ semVal ((c : Thread nD τ), .dma (semLoc 3).sem) 0 ∗ semVal ((c : Thread nD τ), .dma (semLoc 4).sem) 0)

theorem pass_slots (c : Dev nD) : two (fun t => midOut m t c) ⊢ iprop(two (fun t => slots m t c) ∗ (two (fun t => slots m t c) -∗ two (fun t => midOut m t c))) := by
  unfold two midOut
  iintro ⟨⟨H0, H1, H2, H3⟩, G0, G1, G2, G3⟩
  isplitl [H3 G3]
  · isplitl [H3]; · iexact H3
    iexact G3
  iintro ⟨H3, G3⟩
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  iexact G3

theorem partB_wp {Q : PUnit.{1} → sProp 𝕄} (c : Dev nD) {kk : PR F} :
    iprop(recs m K ∗ own c (duesFar c) ∗ flX m c ∗ flWq m c ∗ (∃ f, qM.view.loc (c : Thread nD τ) ↦{fullShare} f) ∗ (woM.view.loc (c : Thread nD τ) ↦{fullShare.left} woA m c)
        ∗ semVal ((c : Thread nD τ), .dma (semLoc 4).sem) 0 ∗ (∃ f, lsM.view.loc (c : Thread nD τ) ↦{fullShare} f) ∗ two (fun t => midIn m t c))
      ⊢ iprop(((own c (duesP c) ∗ locs (F := F) c ∗ qP m c ∗ (wvM.view.loc (c : Thread nD τ) ↦{fullShare} woA m c) ∗ xvP c (ctxA m c) (ctxB m c) 0 ∗ lsP c (lsA m c) (lsB m c) 0
          ∗ two (fun t => midOut m t c)) -∗ W c kk Q) -∗ W c (partB c kk) Q) := by
  have hA := passesA_wp (Q := Q) m c (kk := kk)
  unfold readA at hA
  unfold locs
  iintro ⟨#HR, HO, HX, HWq, Hq, Hwo, Hv4, Hl, HM⟩ Hk
  ihave HM := (mid_part m c) $$ HM
  icases HM with ⟨M0, M2, M3, R0, R2, MF⟩
  unfold partB
  iapply (st_waitX m K c (duesFar c) (lvl_Far c)) $$ [HO HX]
  · isplitr; · iexact HR
    isplitl [HO]; · iexact HO
    iexact HX
  iintro ⟨HO, Hx, Hv2⟩
  iapply (st_waitWq m K c (duesFar c) (lvl_Far c)) $$ [HO HWq]
  · isplitr; · iexact HR
    isplitl [HO]; · iexact HO
    iexact HWq
  iintro ⟨HO, Hw, Hv3⟩
  iapply (st_project m c) $$ [Hx Hw Hq]
  · isplitl [Hx]; · iexact Hx
    isplitl [Hw]; · iexact Hw
    iexact Hq
  iintro Hx; iintro Hw; iintro Hq
  ihave Hq := (show (qM.view.loc (c : Thread nD τ) ↦{fullShare} qA m c) ⊢ qP m c from .rfl) $$ Hq
  iapply (st_startWo m c) $$ [Hwo Hw Hv4]
  · isplitl [Hwo]; · iexact Hwo
    isplitl [Hw]; · iexists _; iexact Hw
    iexact Hv4
  iintro HWo
  iapply (bothSends m K c 0 (duesFar c) (lvl_Far c)) $$ [HO M0]
  · isplitr; · iexact HR
    isplitl [HO]; · iexact HO
    iexact M0
  iintro ⟨HO, M0⟩
  iapply (bothSends m K c 2 (duesFar c) (lvl_Far c)) $$ [HO M2]
  · isplitr; · iexact HR
    isplitl [HO]; · iexact HO
    iexact M2
  iintro ⟨HO, M2⟩
  iapply (farSend m K c (duesP c)) $$ [HO MF]
  · isplitr; · iexact HR
    isplitl [HO]; · iexact HO
    iexact MF
  iintro ⟨HO, MF⟩
  iapply (bothKeeps m K c (duesP c) (lvl_P c)) $$ [HO M3]
  · isplitr; · iexact HR
    isplitl [HO]; · iexact HO
    iexact M3
  iintro ⟨HO, M3⟩
  iapply (st_waitWo m K c (duesP c) (lvl_P c)) $$ [HO HWo]
  · isplitr; · iexact HR
    isplitl [HO]; · iexact HO
    iexact HWo
  iintro ⟨HO, Hw, Hv4⟩
  iapply (bothRecvs m K c 0 (duesP c) (lvl_P1 c)) $$ [HO R0]
  · isplitr; · iexact HR
    isplitl [HO]; · iexact HO
    iexact R0
  iintro ⟨HO, R0⟩
  iapply (bothRecvs m K c 2 (duesP c) (lvl_P1 c)) $$ [HO R2]
  · isplitr; · iexact HR
    isplitl [HO]; · iexact HO
    iexact R2
  iintro ⟨HO, R2⟩
  ihave HM := (mid_join m c) $$ [M0 M2 M3 R0 R2 MF]
  · isplitl [M0]; · iexact M0
    isplitl [M2]; · iexact M2
    isplitl [M3]; · iexact M3
    isplitl [R0]; · iexact R0
    isplitl [R2]; · iexact R2
    iexact MF
  ihave HM := (pass_slots m c) $$ HM
  unfold two
  icases HM with ⟨⟨HS0, HS1⟩, HM⟩
  iapply hA $$ [Hq HS0 HS1 Hx Hl]
  · isplitl [Hq HS0 HS1]
    · isplitl [Hq]; · iexact Hq
      isplitl [HS0]; · iexact HS0
      iexact HS1
    isplitl [Hx]; · iexists _; iexact Hx
    iexact Hl
  iintro ⟨⟨Hq, HS0, HS1⟩, Hx, Hl⟩
  iapply Hk
  isplitl [HO]; · iexact HO
  isplitl [Hv2 Hv3 Hv4]
  · isplitl [Hv2]; · iexact Hv2
    isplitl [Hv3]; · iexact Hv3
    iexact Hv4
  isplitl [Hq]; · iexact Hq
  isplitl [Hw]; · iexact Hw
  isplitl [Hx]; · iexact Hx
  isplitl [Hl]; · iexact Hl
  iapply HM
  isplitl [HS0]; · iexact HS0
  iexact HS1

/-! ## The third part -/

/-- What one side of the third part takes. -/
def farIn (t : Bool) (c : Dev nD) : sProp 𝕄 := iprop(wst m c (.recv t 1) 0 ∗ wst m c (.send t 1) 0)
/-- What one side of the third part gives. -/
def farOut (t : Bool) (c : Dev nD) : sProp 𝕄 :=
  iprop((fin (F := F) c (.recv t 1) ∗ fin (F := F) c (.send t 1)) ∗ bfG m t c (dstDev c 1) ∗ landS m t c 1)

theorem far_join (c : Dev nD) :
    iprop(two (fun t => iprop(fin (F := F) c (.recv t 1) ∗ landS m t c 1)) ∗ two (fun t => wst m c (.send t 1) 8)) ⊢ two (fun t => farOut m t c) := by
  refine (two_join _ _).trans (two_mono fun t => ?_)
  unfold farOut
  iintro ⟨⟨H0, L⟩, H1⟩
  ihave H1 := (send_done m t c 1) $$ H1
  icases H1 with ⟨H1, B⟩
  isplitl [H0 H1]
  · isplitl [H0]; · iexact H0
    iexact H1
  isplitl [B]; · iexact B
  iexact L

def outsIn (c : Dev nD) : sProp 𝕄 :=
  iprop((∃ f, ovM.view.loc (c : Thread nD τ) ↦{fullShare} f) ∗ BI.bigSep Finset.univ (fun r : Fin 4 => psE (F := F) c r)
        ∗ BI.bigSep Finset.univ (fun r : Fin 4 => BI.bigSep Finset.univ (psendB (F := F) c r)))

/-- The positions of the semaphores of the shares. -/
def pat (c : Dev nD) (k : Fin 3 → Ce) : sProp 𝕄 := BI.bigSep Finset.univ (fun d : Fin 3 => atPos ER (kcell c (k d)) 0 ∅ 0)

theorem pwst (c : Dev nD) (k : Fin 3 → Ce) (hk : ∀ d, num (k d) = 4) :
    iprop(pat (F := F) c k ∗ BI.bigSep Finset.univ (fun d : Fin 3 => crd (F := F) c (k d) 4)) ⊢ BI.bigSep Finset.univ (fun d : Fin 3 => wst m c (k d) 0) := by
  unfold pat
  rw [← bigSep_sep']
  exact BI.bigSep_mono fun d _ => by
    have h := wst_start m c (k d) (by rw [hk]; decide)
    rw [hk d] at h
    exact h

theorem partC_wp {Q : PUnit.{1} → sProp 𝕄} (c : Dev nD) {kk : PR F} :
    iprop(recs m K ∗ own c (duesP c) ∗ qP m c ∗ (wvM.view.loc (c : Thread nD τ) ↦{fullShare} woA m c) ∗ xvP c (ctxA m c) (ctxB m c) 0 ∗ lsP c (lsA m c) (lsB m c) 0
        ∗ two (fun t => farIn m t c) ∗ outsIn (F := F) c ∗ pat (F := F) c (fun d => .psend d) ∗ BI.bigSep Finset.univ (fun d : Fin 3 => wst m c (.precv d) 0))
      ⊢ iprop(((own c [] ∗ qP m c ∗ readO m c ∗ two (fun t => farOut m t c) ∗ (ovM.view.loc (c : Thread nD τ) ↦{fullShare} poA m c)
          ∗ (psM.view.loc (c : Thread nD τ) ↦{fullShare} psA m c) ∗ prAll m c
          ∗ BI.bigSep Finset.univ (fun d : Fin 3 => fin (F := F) c (.psend d)) ∗ BI.bigSep Finset.univ (fun d : Fin 3 => fin (F := F) c (.precv d))) -∗ W c kk Q) -∗ W c (partC c kk) Q) := by
  have hB := fun kk : PR F => passesB_wp (Q := Q) m c (kk := kk)
  unfold readB at hB
  have hO := fun kk : PR F => outRows_wp (Q := Q) m K c (kk := kk)
  unfold readO at hO
  unfold outsIn readO
  iintro ⟨#HR, HO, Hq, Hw, Hx, Hl, HF, ⟨Ho, Hp, Hs⟩, Hat, Hrc⟩ Hk
  ihave HF := (show two (fun t => farIn m t c) ⊢ _ from two_part (fun t => wst m c (.recv t 1) 0) (fun t => wst m c (.send t 1) 0)) $$ HF
  icases HF with ⟨HF, HG⟩
  unfold partC
  iapply (bothRecvs m K c 1 (duesP c) (lvl_P1 c)) $$ [HO HF]
  · isplitr; · iexact HR
    isplitl [HO]; · iexact HO
    iexact HF
  iintro ⟨HO, HF⟩
  ihave HF := (two_mono fun t => recv_done m t c 1 1 rfl) $$ HF
  ihave HF := (two_part (fun t => fin (F := F) c (.recv t 1)) (fun t => landS m t c 1)) $$ HF
  icases HF with ⟨HF, HL⟩
  ihave HL := (show two (fun t => landS m t c 1) ⊢ iprop(landS m false c 1 ∗ landS m true c 1) from .rfl) $$ HL
  icases HL with ⟨HL0, HL1⟩
  iapply (hB _) $$ [Hq HL0 HL1 Hx Hl]
  · isplitl [Hq HL0 HL1]
    · isplitl [Hq]; · iexact Hq
      isplitl [HL0]; · iexact HL0
      iexact HL1
    isplitl [Hx]; · iexact Hx
    iexact Hl
  iintro ⟨⟨Hq, HL0, HL1⟩, Hx, Hl⟩
  iapply (hO _) $$ [HO Hx Hl Hw Ho Hp Hs]
  · isplitr; · iexact HR
    isplitl [HO]; · iexact HO
    isplitl [Hx Hl Hw]
    · isplitl [Hx]; · iexact Hx
      isplitl [Hl]; · iexact Hl
      iexact Hw
    isplitl [Ho]; · iexact Ho
    isplitl [Hp]; · iexact Hp
    iexact Hs
  iintro ⟨HO, Hr, Ho, Hc⟩
  iapply (bothSends m K c 1 [] (no_dues 0)) $$ [HO HG]
  · isplitr; · iexact HR
    isplitl [HO]; · iexact HO
    iexact HG
  iintro ⟨HO, HG⟩
  iapply (waitPRecvs m K c) $$ [HO Hrc]
  · isplitr; · iexact HR
    isplitl [HO]; · iexact HO
    iexact Hrc
  iintro ⟨HO, Hrc⟩
  iapply (waitPSends m K c) $$ [HO Hat Hc]
  · isplitr; · iexact HR
    isplitl [HO]; · iexact HO
    iapply (pwst m c (fun d => .psend d) fun _ => rfl)
    isplitl [Hat]; · iexact Hat
    iapply (show pcrd (F := F) c 4 ⊢ BI.bigSep Finset.univ (fun d : Fin 3 => crd (F := F) c (.psend d) 4) from .rfl) $$ Hc
  iintro ⟨HO, Hsd⟩
  ihave Hrc := (precv_done m c) $$ Hrc
  icases Hrc with ⟨Hfr, Hpr⟩
  ihave Hsd := (psend_done m c) $$ Hsd
  icases Hsd with ⟨Hfs, Hps⟩
  iapply Hk
  isplitl [HO]; · iexact HO
  isplitl [Hq]; · iexact Hq
  isplitl [Hr]; · iexact Hr
  isplitl [HF HL0 HL1 HG]
  · iapply (far_join m c)
    isplitl [HF HL0 HL1]
    · iapply (two_join (fun t => fin (F := F) c (.recv t 1)) (fun t => landS m t c 1))
      isplitl [HF]; · iexact HF
      unfold two
      isplitl [HL0]; · iexact HL0
      iexact HL1
    iexact HG
  isplitl [Ho]; · iexact Ho
  isplitl [Hps]; · iexact Hps
  isplitl [Hpr]; · iexact Hpr
  isplitl [Hfs]; · iexact Hfs
  iexact Hfr

/-! ## The last part -/

def giveT (c : Dev nD) : sProp 𝕄 := BI.bigSep Finset.univ (fun p : Fin 4 × Fin 4 => dutyTok ER (kcell c .give) 0 (u16 p.1 p.2))

theorem gives_join (c : Dev nD) :
    iprop((ovM.view.loc (c : Thread nD τ) ↦{fullShare} sumC m c) ∗ (∃ f, outM.view.loc (c : Thread nD τ) ↦{fullShare} f) ∗ giveT (F := F) c)
      ⊢ BI.bigSep Finset.univ (fun r : Fin 4 => BI.bigSep Finset.univ (fun i : Fin 4 => iprop(ovP m c r i ∗ giveB (F := F) c r i))) := by
  have h : iprop(BI.bigSep Finset.univ (fun p : Fin 4 × Fin 4 => ovP m c p.1 p.2) ∗ BI.bigSep Finset.univ (fun p : Fin 4 × Fin 4 => resE (F := F) c p.1 p.2) ∗ giveT (F := F) c)
      ⊢ BI.bigSep Finset.univ (fun r : Fin 4 => BI.bigSep Finset.univ (fun i : Fin 4 => iprop(ovP m c r i ∗ giveB (F := F) c r i))) := by
    unfold giveT giveB
    rw [← bigSep_sep', ← bigSep_sep', bs_pair]
  rw [ov_split]
  iintro ⟨Ho, Hr, Ht⟩
  iapply h
  isplitl [Ho]; · iexact Ho
  isplitl [Hr]; · iapply (res_ex (F := F) c) $$ Hr
  iexact Ht

theorem partD_wp {Q : PUnit.{1} → sProp 𝕄} (c : Dev nD) {kk : PR F} :
    iprop(recs m K ∗ own c [] ∗ (ovM.view.loc (c : Thread nD τ) ↦{fullShare} poA m c) ∗ prAll m c ∗ (∃ f, outM.view.loc (c : Thread nD τ) ↦{fullShare} f)
        ∗ giveT (F := F) c ∗ atPos ER (kcell c .give) 0 ∅ 0)
      ⊢ iprop(((own c [] ∗ (outM.view.loc (c : Thread nD τ) ↦{fullShare} resC m c) ∗ (ovM.view.loc (c : Thread nD τ) ↦{fullShare} sumC m c) ∗ prAll m c ∗ fin (F := F) c .give)
          -∗ W c kk Q) -∗ W c (partD c kk) Q) := by
  iintro ⟨#HR, HO, Ho, Hp, Hm, Ht, Hat⟩ Hk
  unfold partD
  iapply (addUp_wp m c) $$ [Ho Hp]
  · isplitl [Ho]; · iexact Ho
    iexact Hp
  iintro ⟨Ho, Hp⟩
  iapply (gives_wp m K c) $$ [Ho Hm Ht]
  · isplitr; · iexact HR
    iapply (gives_join m c)
    isplitl [Ho]; · iexact Ho
    isplitl [Hm]; · iexact Hm
    iexact Ht
  iintro Hc
  iapply (waitGives m K c) $$ [HO Hat Hc]
  · isplitr; · iexact HR
    isplitl [HO]; · iexact HO
    iapply (wst_start m c .give (by decide))
    isplitl [Hat]; · iexact Hat
    iexact Hc
  iintro ⟨HO, Hg⟩
  ihave Hg := (give_done m c) $$ Hg
  icases Hg with ⟨Hf, Hm, Ho⟩
  iapply Hk
  isplitl [HO]; · iexact HO
  isplitl [Hm]; · iexact Hm
  isplitl [Ho]; · iexact Ho
  isplitl [Hp]; · iexact Hp
  iexact Hf

end Cert.KProg

end
-- ==== Proof.Body.lean ====
/- The kernel on one device, from what it starts with to what it ends with. -/
module

public import proofs.«01_k».proof.Proof.Parts

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## One assertion for each semaphore -/

/-- Those of the keys, or of the values. -/
def ceSide (Φ : Ce → sProp 𝕄) (t : Bool) : sProp 𝕄 :=
  iprop((Φ (.send t 0) ∗ Φ (.send t 1) ∗ Φ (.send t 2)) ∗ (Φ (.recv t 0) ∗ Φ (.recv t 1) ∗ Φ (.recv t 2)) ∗ Φ (.keep t))

omit [FloatOps F] in
theorem ce_all (Φ : Ce → sProp 𝕄) :
    BI.bigSep Finset.univ Φ = iprop(two (ceSide Φ) ∗ BI.bigSep Finset.univ (fun d : Fin 3 => Φ (.psend d)) ∗ BI.bigSep Finset.univ (fun d : Fin 3 => Φ (.precv d)) ∗ Φ .give ∗ Φ .bar) := by
  unfold two ceSide
  have sepA : ∀ P Q R : sProp 𝕄, iprop((P ∗ Q) ∗ R) = iprop(P ∗ Q ∗ R) := fun _ _ _ => equiv_iff.mp ⟨BI.sep_assoc, BI.sep_assoc'⟩
  rw [bs_three, bs_three]
  simp only [sepA]
  rw [bigSep_univ_eq_bigSepL [Ce.send false 0, .send false 1, .send false 2, .recv false 0, .recv false 1, .recv false 2, .keep false,
    .send true 0, .send true 1, .send true 2, .recv true 0, .recv true 1, .recv true 2, .keep true, .psend 0, .psend 1, .psend 2, .precv 0, .precv 1, .precv 2, .give, .bar]
    (by decide +kernel) (by decide +kernel)]
  simp only [bigSepL_cons_cons, bigSepL_singleton]
  rfl

/-! ## What a device starts with and ends with -/

/-- The units a device raises, by the semaphore. -/
def tokS (t : Bool) (c : Dev nD) (d : Fin 3) : sProp 𝕄 :=
  BI.bigSep Finset.univ (fun h : Fin 8 => iprop(dutyTok ER (kcell c (.send t d)) 0 (u8 h) ∗ dutyTok ER (kcell (dstDev c d) (.recv t d)) 0 (u8 h)))
def tokK (t : Bool) (c : Dev nD) : sProp 𝕄 := BI.bigSep Finset.univ (fun h : Fin 8 => dutyTok ER (kcell c (.keep t)) 0 (u8 h))
def tokSide (t : Bool) (c : Dev nD) : sProp 𝕄 := iprop(tokS (F := F) t c 0 ∗ tokS (F := F) t c 1 ∗ tokS (F := F) t c 2 ∗ tokK (F := F) t c)
def tokP (c : Dev nD) (r : Fin 4) (d : Fin 3) : sProp 𝕄 :=
  iprop(dutyTok ER (kcell c (.psend d)) 0 (u4 r) ∗ dutyTok ER (kcell (dstDev c d) (.precv d)) 0 (u4 r))
def tokB (c : Dev nD) (d : Fin 3) : sProp 𝕄 := dutyTok ER (kcell (dstDev c d) .bar) 0 (u3 d)
def toks (c : Dev nD) : sProp 𝕄 :=
  iprop(two (fun t => tokSide (F := F) t c) ∗ BI.bigSep Finset.univ (fun r : Fin 4 => BI.bigSep Finset.univ (tokP (F := F) c r)) ∗ giveT (F := F) c
    ∗ BI.bigSep Finset.univ (tokB (F := F) c))

/-- The credit for what the others raise. -/
def crSide (t : Bool) (c : Dev nD) : sProp 𝕄 := iprop(crd (F := F) c (.recv t 0) 8 ∗ crd (F := F) c (.recv t 1) 8 ∗ crd (F := F) c (.recv t 2) 8)
def crs (c : Dev nD) : sProp 𝕄 :=
  iprop(two (fun t => crSide (F := F) t c) ∗ BI.bigSep Finset.univ (fun d : Fin 3 => crd (F := F) c (.precv d) 4) ∗ cred (tallyAt (kcell c .bar) () 3))

/-- Half of each input, the other half being left outside, and room for the result. -/
def hbm (c : Dev nD) : sProp 𝕄 :=
  iprop((xM.view.loc (c : Thread nD τ) ↦{fullShare.left} m ((c : Thread nD τ).loc main_arg0)) ∗ (wqM.view.loc (c : Thread nD τ) ↦{fullShare.left} wqA m c) ∗ kvs m c
    ∗ (woM.view.loc (c : Thread nD τ) ↦{fullShare.left} woA m c) ∗ (∃ f, outM.view.loc (c : Thread nD τ) ↦{fullShare} f))

/-- The device's own memory, holding anything. -/
def scr (c : Dev nD) : sProp 𝕄 :=
  iprop((∃ f, xvM.view.loc (c : Thread nD τ) ↦{fullShare} f) ∗ (∃ f, wvM.view.loc (c : Thread nD τ) ↦{fullShare} f) ∗ (∃ f, qM.view.loc (c : Thread nD τ) ↦{fullShare} f)
    ∗ (∃ f, ovM.view.loc (c : Thread nD τ) ↦{fullShare} f) ∗ (∃ f, stageM.view.loc (c : Thread nD τ) ↦{fullShare} f)
    ∗ two (fun t => iprop(∃ f, (bfM t).view.loc (c : Thread nD τ) ↦{fullShare} f)) ∗ two (fun t => iprop(∃ f, (allM t).view.loc (c : Thread nD τ) ↦{fullShare} f))
    ∗ (∃ f, psM.view.loc (c : Thread nD τ) ↦{fullShare} f) ∗ (∃ f, prM.view.loc (c : Thread nD τ) ↦{fullShare} f) ∗ (∃ f, lsM.view.loc (c : Thread nD τ) ↦{fullShare} f))

def convs (c : Dev nD) : sProp 𝕄 :=
  iprop(semVal ((c : Thread nD τ), .dma (semConv 0).sem) 0 ∗ semVal ((c : Thread nD τ), .dma (semConv 1).sem) 0)

def at0 (c : Dev nD) (k : Ce) : sProp 𝕄 := atPos ER (kcell c k) 0 ∅ 0

def bodyIn (c : Dev nD) : sProp 𝕄 :=
  iprop(hbm m c ∗ scr (F := F) c ∗ convs (F := F) c ∗ locs (F := F) c ∗ BI.bigSep Finset.univ (at0 (F := F) c) ∗ crs (F := F) c ∗ toks (F := F) c)
def bodyOut (c : Dev nD) : sProp 𝕄 :=
  iprop((outM.view.loc (c : Thread nD τ) ↦{fullShare} resC m c) ∗ scr (F := F) c ∗ convs (F := F) c ∗ locs (F := F) c ∗ BI.bigSep Finset.univ (fin (F := F) c))

/-! ## Rearranging -/

/-- The blocks for what a device keeps itself. -/
def landK (t : Bool) (c : Dev nD) : sProp 𝕄 := BI.bigSep Finset.univ (fun h : Fin 8 => landE (F := F) t c 3 h)
def landD (t : Bool) (c : Dev nD) (s : Fin 4) : sProp 𝕄 := BI.bigSep Finset.univ (fun h : Fin 8 => landE (F := F) t c s h)

omit [FloatOps F] in
theorem land_four (t : Bool) (c : Dev nD) :
    (iprop(∃ f, (allM t).view.loc (c : Thread nD τ) ↦{fullShare} f) : sProp 𝕄)
      ⊢ iprop(landD (F := F) t c 0 ∗ landD (F := F) t c 1 ∗ landD (F := F) t c 2 ∗ landK (F := F) t c) := by
  have h := all_ex (F := F) t c
  rw [bs_pair, bs_four] at h
  exact h

omit [FloatOps F] in
theorem right_of (c : Dev nD) (d : Fin 3) (s : Fin 4) (hs : s.val = 2 - d.val) :
    iprop(landD (F := F) false c s ∗ landD (F := F) true c s ∗ BI.bigSep Finset.univ (fun r : Fin 4 => prE (F := F) c (opp d) r)) ⊢ right (F := F) (dstDev c d) (opp d) := by
  unfold right landD
  rw [show dstDev (dstDev c d) (opp d) = c from dst_dst c d, show (⟨(opp d).val, by omega⟩ : Fin 4) = s from Fin.ext hs.symm]

omit [FloatOps F] in
theorem give_away (c : Dev nD) :
    iprop(two (fun t => iprop(∃ f, (allM t).view.loc (c : Thread nD τ) ↦{fullShare} f)) ∗ (∃ f, prM.view.loc (c : Thread nD τ) ↦{fullShare} f))
      ⊢ iprop(two (fun t => landK (F := F) t c) ∗ right (F := F) (dstDev c 0) (opp 0) ∗ right (F := F) (dstDev c 1) (opp 1) ∗ right (F := F) (dstDev c 2) (opp 2)) := by
  have hp : (iprop(∃ f, prM.view.loc (c : Thread nD τ) ↦{fullShare} f) : sProp 𝕄)
      ⊢ iprop(BI.bigSep Finset.univ (fun r : Fin 4 => prE (F := F) c 0 r) ∗ BI.bigSep Finset.univ (fun r : Fin 4 => prE (F := F) c 1 r) ∗ BI.bigSep Finset.univ (fun r : Fin 4 => prE (F := F) c 2 r)) := by
    have h := pr_ex (F := F) c
    rw [bs_pair, bs_three] at h
    exact h
  unfold two
  iintro ⟨⟨A, B⟩, P⟩
  ihave A := (land_four (F := F) false c) $$ A
  icases A with ⟨A0, A1, A2, A3⟩
  ihave B := (land_four (F := F) true c) $$ B
  icases B with ⟨B0, B1, B2, B3⟩
  ihave P := hp $$ P
  icases P with ⟨P0, P1, P2⟩
  isplitl [A3 B3]
  · isplitl [A3]; · iexact A3
    iexact B3
  isplitl [A2 B2 P2]
  · iapply (right_of (F := F) c 0 2 rfl)
    isplitl [A2]; · iexact A2
    isplitl [B2]; · iexact B2
    iapply (show BI.bigSep Finset.univ (fun r : Fin 4 => prE (F := F) c 2 r) ⊢ BI.bigSep Finset.univ (fun r : Fin 4 => prE (F := F) c (opp 0) r) from .rfl) $$ P2
  isplitl [A1 B1 P1]
  · iapply (right_of (F := F) c 1 1 rfl)
    isplitl [A1]; · iexact A1
    isplitl [B1]; · iexact B1
    iapply (show BI.bigSep Finset.univ (fun r : Fin 4 => prE (F := F) c 1 r) ⊢ BI.bigSep Finset.univ (fun r : Fin 4 => prE (F := F) c (opp 1) r) from .rfl) $$ P1
  iapply (right_of (F := F) c 2 0 rfl)
  isplitl [A0]; · iexact A0
  isplitl [B0]; · iexact B0
  iapply (show BI.bigSep Finset.univ (fun r : Fin 4 => prE (F := F) c 0 r) ⊢ BI.bigSep Finset.univ (fun r : Fin 4 => prE (F := F) c (opp 2) r) from .rfl) $$ P0

/-- Where the copies of `c`'s keys or values land. -/
def landTo (t : Bool) (c : Dev nD) (d : Fin 3) : sProp 𝕄 := landD (F := F) t (dstDev c d) ⟨d.val, by omega⟩
def prTo (c : Dev nD) (d : Fin 3) : sProp 𝕄 := BI.bigSep Finset.univ (fun r : Fin 4 => prE (F := F) (dstDev c d) d r)

omit [FloatOps F] in
theorem right_eq (c : Dev nD) (d : Fin 3) : right (F := F) c d ⊢ iprop(landTo (F := F) false c d ∗ landTo (F := F) true c d ∗ prTo (F := F) c d) := .rfl

omit [FloatOps F] in
theorem rights (c : Dev nD) : iprop(right (F := F) c 0 ∗ right (F := F) c 1 ∗ right (F := F) c 2)
    ⊢ iprop(two (fun t => iprop(landTo (F := F) t c 0 ∗ landTo (F := F) t c 1 ∗ landTo (F := F) t c 2)) ∗ BI.bigSep Finset.univ (fun d : Fin 3 => prTo (F := F) c d)) := by
  rw [bs_three]
  unfold two
  iintro ⟨A, B, C⟩
  ihave A := (right_eq (F := F) c 0) $$ A
  icases A with ⟨A0, A1, A2⟩
  ihave B := (right_eq (F := F) c 1) $$ B
  icases B with ⟨B0, B1, B2⟩
  ihave C := (right_eq (F := F) c 2) $$ C
  icases C with ⟨C0, C1, C2⟩
  isplitl [A0 B0 C0 A1 B1 C1]
  · isplitl [A0 B0 C0]
    · isplitl [A0]; · iexact A0
      isplitl [B0]; · iexact B0
      iexact C0
    isplitl [A1]; · iexact A1
    isplitl [B1]; · iexact B1
    iexact C1
  isplitl [A2]; · iexact A2
  isplitl [B2]; · iexact B2
  iexact C2

theorem psend_join (c : Dev nD) :
    iprop(BI.bigSep Finset.univ (fun d : Fin 3 => prTo (F := F) c d) ∗ BI.bigSep Finset.univ (fun r : Fin 4 => BI.bigSep Finset.univ (tokP (F := F) c r)))
      ⊢ BI.bigSep Finset.univ (fun r : Fin 4 => BI.bigSep Finset.univ (psendB (F := F) c r)) := by
  have h : BI.bigSep Finset.univ (fun d : Fin 3 => prTo (F := F) c d) ⊢ BI.bigSep Finset.univ (fun r : Fin 4 => BI.bigSep Finset.univ (fun d : Fin 3 => prE (F := F) (dstDev c d) d r)) := by
    unfold prTo
    rw [bs_three, ← bigSep_sep', ← bigSep_sep']
    exact BI.bigSep_mono fun r _ => Entails.of_eq (bs_three fun d => prE (F := F) (dstDev c d) d r).symm
  have h2 : BI.bigSep Finset.univ (fun r : Fin 4 => BI.bigSep Finset.univ (psendB (F := F) c r))
      = iprop(BI.bigSep Finset.univ (fun r : Fin 4 => BI.bigSep Finset.univ (fun d : Fin 3 => prE (F := F) (dstDev c d) d r))
        ∗ BI.bigSep Finset.univ (fun r : Fin 4 => BI.bigSep Finset.univ (tokP (F := F) c r))) := by
    rw [← bigSep_sep']
    exact BI.bigSep_congr fun r _ => by rw [← bigSep_sep']; rfl
  rw [h2]
  iintro ⟨H, G⟩
  isplitl [H]; · iapply h $$ H
  iexact G

theorem bfR_zero (t : Bool) (c : Dev nD) : (iprop(∃ f, (bfM t).view.loc (c : Thread nD τ) ↦{fullShare} f) : sProp 𝕄) ⊢ bfR m t c 0 := by
  unfold bfR
  iintro ⟨%f, H⟩
  iexists f
  iapply (Entails.of_eq (congrArg (fun f => ((bfM t).view.loc (c : Thread nD τ) ↦{fullShare} f : sProp 𝕄)) (mix_zero (bfIdx t) f (bfC m t c)).symm)) $$ H

/-- What one side of the first part starts from. -/
def side0 (t : Bool) (c : Dev nD) : sProp 𝕄 :=
  iprop((∃ f, (bfM t).view.loc (c : Thread nD τ) ↦{fullShare} f) ∗ landK (F := F) t c ∗ (landTo (F := F) t c 0 ∗ landTo (F := F) t c 1 ∗ landTo (F := F) t c 2) ∗ tokSide (F := F) t c)

theorem near_join (t : Bool) (c : Dev nD) : side0 (F := F) t c ⊢ iprop(nearIn m t c ∗ sendB (F := F) t c 1) := by
  have hs : ∀ d : Fin 3, iprop(landTo (F := F) t c d ∗ tokS (F := F) t c d) ⊢ sendB (F := F) t c d := fun d => .rfl
  have hk : iprop(landK (F := F) t c ∗ tokK (F := F) t c) ⊢ keepB (F := F) t c := .rfl
  unfold side0 tokSide nearIn
  iintro ⟨Hb, Hk, ⟨L0, L1, L2⟩, ⟨T0, T1, T2, TK⟩⟩
  isplitl [Hb Hk L0 L2 T0 T2 TK]
  · isplitl [Hb]; · iapply (bfR_zero m t c) $$ Hb
    isplitl [L0 T0]
    · iapply (hs 0)
      isplitl [L0]; · iexact L0
      iexact T0
    isplitl [L2 T2]
    · iapply (hs 2)
      isplitl [L2]; · iexact L2
      iexact T2
    iapply hk
    isplitl [Hk]; · iexact Hk
    iexact TK
  iapply (hs 1)
  isplitl [L1]; · iexact L1
  iexact T1

/-- What is left for the third part. -/
def late (t : Bool) (c : Dev nD) : sProp 𝕄 := iprop(wst m c (.recv t 1) 0 ∗ at0 (F := F) c (.send t 1))

theorem mid_open (t : Bool) (c : Dev nD) :
    iprop(nearOut m t c ∗ sendB (F := F) t c 1 ∗ ceSide (at0 (F := F) c) t ∗ crSide (F := F) t c) ⊢ iprop(midIn m t c ∗ late m t c) := by
  have hw : ∀ k, num k = 8 → iprop(at0 (F := F) c k ∗ crd (F := F) c k 8) ⊢ wst m c k 0 := fun k hk => by
    have h := wst_start m c k (by rw [hk]; decide)
    rw [hk] at h
    exact h
  unfold nearOut ceSide crSide midIn late
  iintro ⟨⟨Hb, C0, C2, CK⟩, Hs, ⟨⟨S0, S1, S2⟩, ⟨R0, R1, R2⟩, HK⟩, ⟨D0, D1, D2⟩⟩
  isplitl [Hb C0 C2 CK Hs S0 S2 R0 R2 HK D0 D2]
  · isplitl [S0 C0]
    · iapply (hw (.send t 0) rfl)
      isplitl [S0]; · iexact S0
      iexact C0
    isplitl [S2 C2]
    · iapply (hw (.send t 2) rfl)
      isplitl [S2]; · iexact S2
      iexact C2
    isplitl [HK CK]
    · iapply (hw (.keep t) rfl)
      isplitl [HK]; · iexact HK
      iexact CK
    isplitl [R0 D0]
    · iapply (hw (.recv t 0) rfl)
      isplitl [R0]; · iexact R0
      iexact D0
    isplitl [R2 D2]
    · iapply (hw (.recv t 2) rfl)
      isplitl [R2]; · iexact R2
      iexact D2
    isplitl [Hb]; · iexact Hb
    iexact Hs
  isplitl [R1 D1]
  · iapply (hw (.recv t 1) rfl)
    isplitl [R1]; · iexact R1
    iexact D1
  iexact S1

/-- What the second part leaves for the end. -/
def midLeft (t : Bool) (c : Dev nD) : sProp 𝕄 :=
  iprop((fin (F := F) c (.send t 0) ∗ fin (F := F) c (.send t 2) ∗ fin (F := F) c (.keep t) ∗ fin (F := F) c (.recv t 0) ∗ fin (F := F) c (.recv t 2))
    ∗ (bfG m t c (dstDev c 0) ∗ bfG m t c (dstDev c 2) ∗ bfG m t c c) ∗ slots m t c)

theorem far_open (t : Bool) (c : Dev nD) : iprop(midOut m t c ∗ late m t c) ⊢ iprop(farIn m t c ∗ midLeft m t c) := by
  unfold midOut late farIn midLeft
  iintro ⟨⟨Hf, Hc, Hb, Hl⟩, Hr, Ha⟩
  isplitl [Hc Hr Ha]
  · isplitl [Hr]; · iexact Hr
    iapply (show iprop(at0 (F := F) c (.send t 1) ∗ crd (F := F) c (.send t 1) 8) ⊢ wst m c (.send t 1) 0 from wst_start m c (.send t 1) (show 0 < 8 by decide))
    isplitl [Ha]; · iexact Ha
    iexact Hc
  isplitl [Hf]; · iexact Hf
  isplitl [Hb]; · iexact Hb
  iexact Hl

theorem side_end (t : Bool) (c : Dev nD) : iprop(midLeft m t c ∗ farOut m t c)
    ⊢ iprop(ceSide (fin (F := F) c) t ∗ (∃ f, (bfM t).view.loc (c : Thread nD τ) ↦{fullShare} f) ∗ (∃ f, (allM t).view.loc (c : Thread nD τ) ↦{fullShare} f)) := by
  have ha : iprop(landS m t c 0 ∗ landS m t c 1 ∗ landS m t c 2 ∗ landS m t c 3) ⊢ ((allM t).view.loc (c : Thread nD τ) ↦{fullShare} allC m t c) := by
    rw [all_split, bs_pair, bs_four]; exact .rfl
  unfold midLeft farOut slots ceSide
  iintro ⟨⟨⟨S0, S2, SK, R0, R2⟩, ⟨B0, B2, B3⟩, L3, L0, L2⟩, ⟨R1, S1⟩, B1, L1⟩
  isplitl [S0 S2 SK R0 R2 R1 S1]
  · isplitl [S0 S1 S2]
    · isplitl [S0]; · iexact S0
      isplitl [S1]; · iexact S1
      iexact S2
    isplitl [R0 R1 R2]
    · isplitl [R0]; · iexact R0
      isplitl [R1]; · iexact R1
      iexact R2
    iexact SK
  isplitl [B0 B1 B2 B3]
  · iexists (bfC m t c)
    iapply (Entails.of_eq (bf_groups m t c).symm)
    isplitl [B0]; · iexact B0
    isplitl [B1]; · iexact B1
    isplitl [B2]; · iexact B2
    iexact B3
  iexists (allC m t c)
  iapply ha
  isplitl [L0]; · iexact L0
  isplitl [L1]; · iexact L1
  isplitl [L2]; · iexact L2
  iexact L3

omit [FloatOps F] in
theorem two_three (A B C : Bool → sProp 𝕄) : two (fun t => iprop(A t ∗ B t ∗ C t)) ⊢ iprop(two A ∗ two B ∗ two C) := by
  iintro H
  ihave H := (two_part A (fun t => iprop(B t ∗ C t))) $$ H
  icases H with ⟨HA, H⟩
  isplitl [HA]; · iexact HA
  iapply (two_part B C) $$ H

theorem sides0 (c : Dev nD) :
    iprop(two (fun t => iprop(∃ f, (bfM t).view.loc (c : Thread nD τ) ↦{fullShare} f)) ∗ two (fun t => landK (F := F) t c)
        ∗ two (fun t => iprop(landTo (F := F) t c 0 ∗ landTo (F := F) t c 1 ∗ landTo (F := F) t c 2)) ∗ two (fun t => tokSide (F := F) t c))
      ⊢ iprop(two (fun t => nearIn m t c) ∗ two (fun t => sendB (F := F) t c 1)) := by
  iintro ⟨A, B, C, D⟩
  iapply (two_part (fun t => nearIn m t c) (fun t => sendB (F := F) t c 1))
  iapply (two_mono (fun t => near_join m t c))
  iapply (show two (fun t => iprop((∃ f, (bfM t).view.loc (c : Thread nD τ) ↦{fullShare} f) ∗ landK (F := F) t c
      ∗ (landTo (F := F) t c 0 ∗ landTo (F := F) t c 1 ∗ landTo (F := F) t c 2) ∗ tokSide (F := F) t c)) ⊢ two (fun t => side0 (F := F) t c) from .rfl)
  iapply (two_join _ _)
  isplitl [A]; · iexact A
  iapply (two_join _ _)
  isplitl [B]; · iexact B
  iapply (two_join _ _)
  isplitl [C]; · iexact C
  iexact D

theorem sides1 (c : Dev nD) :
    iprop(two (fun t => nearOut m t c) ∗ two (fun t => sendB (F := F) t c 1) ∗ two (ceSide (at0 (F := F) c)) ∗ two (fun t => crSide (F := F) t c))
      ⊢ iprop(two (fun t => midIn m t c) ∗ two (fun t => late m t c)) := by
  iintro ⟨A, B, C, D⟩
  iapply (two_part (fun t => midIn m t c) (fun t => late m t c))
  iapply (two_mono (fun t => mid_open m t c))
  iapply (two_join _ _)
  isplitl [A]; · iexact A
  iapply (two_join _ _)
  isplitl [B]; · iexact B
  iapply (two_join _ _)
  isplitl [C]; · iexact C
  iexact D

theorem sides2 (c : Dev nD) : iprop(two (fun t => midOut m t c) ∗ two (fun t => late m t c)) ⊢ iprop(two (fun t => farIn m t c) ∗ two (fun t => midLeft m t c)) :=
  ((two_join _ _).trans (two_mono fun t => far_open m t c)).trans (two_part (fun t => farIn m t c) (fun t => midLeft m t c))

theorem sides3 (c : Dev nD) : iprop(two (fun t => midLeft m t c) ∗ two (fun t => farOut m t c))
    ⊢ iprop(two (ceSide (fin (F := F) c)) ∗ two (fun t => iprop(∃ f, (bfM t).view.loc (c : Thread nD τ) ↦{fullShare} f)) ∗ two (fun t => iprop(∃ f, (allM t).view.loc (c : Thread nD τ) ↦{fullShare} f))) :=
  ((two_join _ _).trans (two_mono fun t => side_end m t c)).trans
    (two_three (ceSide (fin (F := F) c)) (fun t => iprop(∃ f, (bfM t).view.loc (c : Thread nD τ) ↦{fullShare} f)) (fun t => iprop(∃ f, (allM t).view.loc (c : Thread nD τ) ↦{fullShare} f)))

/-! ## The kernel on one device -/

omit [FloatOps F] in
theorem stg_rest (c : Dev nD) : iprop((∃ f, stageM.view.loc (c : Thread nD τ) ↦{fullShare} f) ∗ convs (F := F) c) ⊢ iprop(rest (F := F) c 0 ∗ rest (F := F) c 1) := by
  have h : (iprop(∃ f, stageM.view.loc (c : Thread nD τ) ↦{fullShare} f) : sProp 𝕄) ⊢ iprop(stgE (F := F) c 0 ∗ stgE (F := F) c 1) := by
    have h := stg_ex (F := F) c
    rw [bigSep_univ_eq_bigSepL [0, 1] (by decide) (by decide), bigSepL_cons_cons, bigSepL_singleton] at h
    exact h
  unfold convs rest
  iintro ⟨H, V0, V1⟩
  ihave H := h $$ H
  icases H with ⟨H0, H1⟩
  isplitl [H0 V0]
  · isplitl [H0]; · iexact H0
    iexact V0
  isplitl [H1]; · iexact H1
  iexact V1
omit [FloatOps F] in
theorem rest_stg (c : Dev nD) : iprop(rest (F := F) c 0 ∗ rest (F := F) c 1) ⊢ iprop((∃ f, stageM.view.loc (c : Thread nD τ) ↦{fullShare} f) ∗ convs (F := F) c) := by
  unfold convs rest
  iintro ⟨⟨H0, V0⟩, H1, V1⟩
  isplitl [H0 H1]
  · iapply (stg_join (F := F) c)
    isplitl [H0]; · iexact H0
    iexact H1
  isplitl [V0]; · iexact V0
  iexact V1

/-- From the entry up to the first round of sends. -/
theorem enter_wp {Q : PUnit.{1} → sProp 𝕄} (c : Dev nD) {kk : PR F} :
    iprop(recs m K ∗ own c (dues c) ∗ (xM.view.loc (c : Thread nD τ) ↦{fullShare.left} m ((c : Thread nD τ).loc main_arg0)) ∗ (wqM.view.loc (c : Thread nD τ) ↦{fullShare.left} wqA m c)
        ∗ (∃ f, xvM.view.loc (c : Thread nD τ) ↦{fullShare} f) ∗ (∃ f, wvM.view.loc (c : Thread nD τ) ↦{fullShare} f)
        ∗ semVal ((c : Thread nD τ), .dma (semLoc 2).sem) 0 ∗ semVal ((c : Thread nD τ), .dma (semLoc 3).sem) 0
        ∗ (right (F := F) (dstDev c 0) (opp 0) ∗ right (F := F) (dstDev c 1) (opp 1) ∗ right (F := F) (dstDev c 2) (opp 2))
        ∗ BI.bigSep Finset.univ (tokB (F := F) c) ∗ at0 (F := F) c .bar ∗ cred (tallyAt (kcell c .bar) () 3))
      ⊢ iprop(((own c (duesK c) ∗ flX m c ∗ flWq m c ∗ fin (F := F) c .bar ∗ (right (F := F) c 0 ∗ right (F := F) c 1 ∗ right (F := F) c 2)) -∗ W c kk Q)
        -∗ W c (startX <| startWq <| signal c 0 <| signal c 1 <| signal c 2 <| waitBar kk) Q) := by
  rw [bs_three]
  unfold tokB at0
  iintro ⟨#HR, HO, Hx, Hw, Hxv, Hwv, Hv2, Hv3, ⟨R0, R1, R2⟩, ⟨T0, T1, T2⟩, Ha, Hc⟩ Hk
  iapply (st_startX m c) $$ [Hx Hxv Hv2]
  · isplitl [Hx]; · iexact Hx
    isplitl [Hxv]; · iexact Hxv
    iexact Hv2
  iintro HX
  iapply (st_startWq m c) $$ [Hw Hwv Hv3]
  · isplitl [Hw]; · iexact Hw
    isplitl [Hwv]; · iexact Hwv
    iexact Hv3
  iintro HW
  ihave HO := (show own (F := F) c (dues c) ⊢ own (F := F) c ((dstDev c 0, .bar) :: (dstDev c 1, .bar) :: (dstDev c 2, .bar) :: duesK c) from .rfl) $$ HO
  iapply (st_signal m K c 0 ((dstDev c 1, .bar) :: (dstDev c 2, .bar) :: duesK c)) $$ [HO T0 R0]
  · isplitr; · iexact HR
    isplitl [HO]; · iexact HO
    isplitl [T0]; · iexact T0
    iexact R0
  iintro HO
  iapply (st_signal m K c 1 ((dstDev c 2, .bar) :: duesK c)) $$ [HO T1 R1]
  · isplitr; · iexact HR
    isplitl [HO]; · iexact HO
    isplitl [T1]; · iexact T1
    iexact R1
  iintro HO
  iapply (st_signal m K c 2 (duesK c)) $$ [HO T2 R2]
  · isplitr; · iexact HR
    isplitl [HO]; · iexact HO
    isplitl [T2]; · iexact T2
    iexact R2
  iintro HO
  iapply (st_waitBar m K c (duesK c) (lvl_K c)) $$ [HO Ha Hc]
  · isplitr; · iexact HR
    isplitl [HO]; · iexact HO
    isplitl [Ha]; · iexact Ha
    iexact Hc
  iintro ⟨HO, Ha, Hp⟩
  ihave Hp := (bar_done (F := F) c) $$ Hp
  iapply Hk
  isplitl [HO]; · iexact HO
  isplitl [HX]; · iexact HX
  isplitl [HW]; · iexact HW
  isplitl [Ha]; · iapply (show atPos ER (kcell c .bar) 1 ∅ 0 ⊢ fin (F := F) c .bar from .rfl) $$ Ha
  iexact Hp

theorem device_wp {Q : PUnit.{1} → sProp 𝕄} (c : Dev nD) :
    iprop(recs m K ∗ own c (dues c) ∗ bodyIn m c)
      ⊢ iprop(((own c [] ∗ bodyOut m c) -∗ W c (.ret ⟨⟩) Q)
        -∗ W c (startX <| startWq <| signal c 0 <| signal c 1 <| signal c 2 <| waitBar <| partA c <| partB c <| partC c <| partD c <| .ret ⟨⟩) Q) := by
  have hA := fun kk : PR F => partA_wp (Q := Q) m K c (kk := kk)
  have hlocs : locs (F := F) c = iprop(semVal ((c : Thread nD τ), .dma (semLoc 2).sem) 0 ∗ semVal ((c : Thread nD τ), .dma (semLoc 3).sem) 0 ∗ semVal ((c : Thread nD τ), .dma (semLoc 4).sem) 0) := rfl
  have hin : two (fun t => nearIn m t c) ⊢ iprop(nearIn m false c ∗ nearIn m true c) := .rfl
  have hout : iprop(nearOut m false c ∗ nearOut m true c) ⊢ two (fun t => nearOut m t c) := .rfl
  have hread : readO m c ⊢ iprop((xvM.view.loc (c : Thread nD τ) ↦{fullShare} ctxB m c) ∗ (lsM.view.loc (c : Thread nD τ) ↦{fullShare} lsB m c) ∗ (wvM.view.loc (c : Thread nD τ) ↦{fullShare} woA m c)) := .rfl
  have hq : qP m c ⊢ (qM.view.loc (c : Thread nD τ) ↦{fullShare} qA m c) := .rfl
  have hp : prAll m c ⊢ (prM.view.loc (c : Thread nD τ) ↦{fullShare} prA m c) := .rfl
  have hpat : ∀ k : Fin 3 → Ce, BI.bigSep Finset.univ (fun d : Fin 3 => at0 (F := F) c (k d)) ⊢ pat (F := F) c k := fun _ => .rfl
  have hg : at0 (F := F) c .give ⊢ atPos ER (kcell c .give) 0 ∅ 0 := .rfl
  unfold bodyIn bodyOut hbm scr crs toks
  rw [ce_all (at0 (F := F) c), ce_all (fin (F := F) c)]
  iintro ⟨#HR, HO, ⟨Hx, Hwq, Hkv, Hwo, Hm⟩, ⟨Sxv, Swv, Sq, Sov, Sst, Sbf, Sall, Sps, Spr, Sls⟩, Hcv, Hlocs, ⟨As, Aps, Apr, Ag, Ab⟩, ⟨Cs, Cpr, Cb⟩, ⟨Ts, Tp, Tg, Tb⟩⟩ Hk
  ihave Hlocs := (Entails.of_eq hlocs) $$ Hlocs
  icases Hlocs with ⟨V2, V3, V4⟩
  ihave H := (give_away (F := F) c) $$ [Sall Spr]
  · isplitl [Sall]; · iexact Sall
    iexact Spr
  icases H with ⟨HLK, HG⟩
  iapply (enter_wp m K c) $$ [HO Hx Hwq Sxv Swv V2 V3 HG Tb Ab Cb]
  · isplitr; · iexact HR
    isplitl [HO]; · iexact HO
    isplitl [Hx]; · iexact Hx
    isplitl [Hwq]; · iexact Hwq
    isplitl [Sxv]; · iexact Sxv
    isplitl [Swv]; · iexact Swv
    isplitl [V2]; · iexact V2
    isplitl [V3]; · iexact V3
    isplitl [HG]; · iexact HG
    isplitl [Tb]; · iexact Tb
    isplitl [Ab]; · iexact Ab
    iexact Cb
  iintro ⟨HO, HX, HWq, Fb, HG⟩
  ihave HG := (rights (F := F) c) $$ HG
  icases HG with ⟨HLT, HPT⟩
  ihave H := (sides0 m c) $$ [Sbf HLK HLT Ts]
  · isplitl [Sbf]; · iexact Sbf
    isplitl [HLK]; · iexact HLK
    isplitl [HLT]; · iexact HLT
    iexact Ts
  icases H with ⟨HN, HS1⟩
  ihave HN := hin $$ HN
  icases HN with ⟨HN0, HN1⟩
  ihave H := (stg_rest (F := F) c) $$ [Sst Hcv]
  · isplitl [Sst]; · iexact Sst
    iexact Hcv
  icases H with ⟨HT0, HT1⟩
  iapply (hA _) $$ [HO Hkv HT0 HT1 HN0 HN1]
  · isplitr; · iexact HR
    isplitl [HO]; · iexact HO
    isplitl [Hkv]; · iexact Hkv
    isplitl [HT0]; · iexact HT0
    isplitl [HT1]; · iexact HT1
    isplitl [HN0]; · iexact HN0
    iexact HN1
  iintro ⟨HO, HT0, HT1, HN0, HN1⟩
  ihave HT := (rest_stg (F := F) c) $$ [HT0 HT1]
  · isplitl [HT0]; · iexact HT0
    iexact HT1
  icases HT with ⟨Sst, Hcv⟩
  ihave H := (sides1 m c) $$ [HN0 HN1 HS1 As Cs]
  · isplitl [HN0 HN1]
    · iapply hout
      isplitl [HN0]; · iexact HN0
      iexact HN1
    isplitl [HS1]; · iexact HS1
    isplitl [As]; · iexact As
    iexact Cs
  icases H with ⟨HM, HL⟩
  iapply (partB_wp m K c) $$ [HO HX HWq Sq Hwo V4 Sls HM]
  · isplitr; · iexact HR
    isplitl [HO]; · iexact HO
    isplitl [HX]; · iexact HX
    isplitl [HWq]; · iexact HWq
    isplitl [Sq]; · iexact Sq
    isplitl [Hwo]; · iexact Hwo
    isplitl [V4]; · iexact V4
    isplitl [Sls]; · iexact Sls
    iexact HM
  iintro ⟨HO, Hlocs, Hq, Hw, Hxv, Hls, HM⟩
  ihave H := (sides2 m c) $$ [HM HL]
  · isplitl [HM]; · iexact HM
    iexact HL
  icases H with ⟨HF, HML⟩
  iapply (partC_wp m K c) $$ [HO Hq Hw Hxv Hls HF Sov Sps HPT Tp Aps Apr Cpr]
  · isplitr; · iexact HR
    isplitl [HO]; · iexact HO
    isplitl [Hq]; · iexact Hq
    isplitl [Hw]; · iexact Hw
    isplitl [Hxv]; · iexact Hxv
    isplitl [Hls]; · iexact Hls
    isplitl [HF]; · iexact HF
    isplitl [Sov Sps HPT Tp]
    · unfold outsIn
      isplitl [Sov]; · iexact Sov
      isplitl [Sps]; · iapply (psE_ex (F := F) c) $$ Sps
      iapply (psend_join (F := F) c)
      isplitl [HPT]; · iexact HPT
      iexact Tp
    isplitl [Aps]; · iapply (hpat fun d => .psend d) $$ Aps
    iapply (pwst m c (fun d => .precv d) fun _ => rfl)
    isplitl [Apr]; · iapply (hpat fun d => .precv d) $$ Apr
    iexact Cpr
  iintro ⟨HO, Hq, Hr, HF, Hov, Hps, Hpr, Fs, Fr⟩
  iapply (partD_wp m K c) $$ [HO Hov Hpr Hm Tg Ag]
  · isplitr; · iexact HR
    isplitl [HO]; · iexact HO
    isplitl [Hov]; · iexact Hov
    isplitl [Hpr]; · iexact Hpr
    isplitl [Hm]; · iexact Hm
    isplitl [Tg]; · iexact Tg
    iapply hg $$ Ag
  iintro ⟨HO, Hm, Hov, Hpr, Fg⟩
  ihave H := (sides3 m c) $$ [HML HF]
  · isplitl [HML]; · iexact HML
    iexact HF
  icases H with ⟨FS, Sbf, Sall⟩
  ihave Hr := hread $$ Hr
  icases Hr with ⟨Hxv, Hls, Hw⟩
  ihave Hq := hq $$ Hq
  ihave Hpr := hp $$ Hpr
  iapply Hk
  isplitl [HO]; · iexact HO
  isplitl [Hm]; · iexact Hm
  isplitl [Hxv Hls Hw Hq Hpr Hov Sst Sbf Sall Hps]
  · isplitl [Hxv]; · iexists _; iexact Hxv
    isplitl [Hw]; · iexists _; iexact Hw
    isplitl [Hq]; · iexists _; iexact Hq
    isplitl [Hov]; · iexists _; iexact Hov
    isplitl [Sst]; · iexact Sst
    isplitl [Sbf]; · iexact Sbf
    isplitl [Sall]; · iexact Sall
    isplitl [Hps]; · iexists _; iexact Hps
    isplitl [Hpr]; · iexists _; iexact Hpr
    iexists _; iexact Hls
  isplitl [Hcv]; · iexact Hcv
  isplitl [Hlocs]; · iexact Hlocs
  isplitl [FS]; · iexact FS
  isplitl [Fs]; · iexact Fs
  isplitl [Fr]; · iexact Fr
  isplitl [Fg]; · iexact Fg
  iexact Fb

end Cert.KProg

end
-- ==== Proof.Ghost.lean ====
/- How the semaphores' protocols are set up before the kernel runs: every unit's raiser is given its permission, every wait its credit. -/
module

public import proofs.«01_k».proof.Proof.Body

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

/-! ## The kernel's semaphores, one by one -/

/-- Its own; the runtime's barrier semaphore is the one that isn't. -/
def ownL : List (SemLoc sig) :=
  [csem (.send false 0), csem (.send false 1), csem (.send false 2), csem (.recv false 0), csem (.recv false 1), csem (.recv false 2), csem (.keep false),
    csem (.send true 0), csem (.send true 1), csem (.send true 2), csem (.recv true 0), csem (.recv true 1), csem (.recv true 2), csem (.keep true),
    csem (.psend 0), csem (.psend 1), csem (.psend 2), csem (.precv 0), csem (.precv 1), csem (.precv 2), csem .give,
    .dma (semConv 0).sem, .dma (semConv 1).sem, .dma (semLoc 2).sem, .dma (semLoc 3).sem, .dma (semLoc 4).sem]
def osem (i : Fin 26) : SemLoc sig := ownL[i]

theorem ownSemFacts : Pipeline.OwnSemFacts cfg0.spec osem := by decide +kernel

abbrev ownS (c : Dev nD) : sProp 𝕄 := Pipeline.ownSems0 (Ix := Unit) (Name := ℕ) (U := UU) (Lvl := ℕ) (Val := Elt F) (τ := τ) osem c
abbrev otherS (c : Dev nD) : sProp 𝕄 := unscopedSems0 c

omit [FloatOps F] in
theorem other_eq (c : Dev nD) : (otherS (F := F) c : sProp 𝕄) = semVal (kcell c .bar) 0 := by
  show unscopedSems0 c = _
  unfold unscopedSems0; rw [bigSep_eq_bigSepL_of_eq [csem .bar] (by decide +kernel) (by decide)]; rfl

/-- The semaphores at zero. -/
def zeros (c : Dev nD) : sProp 𝕄 := BI.bigSep Finset.univ (fun k : Ce => semVal (kcell c k) 0)

omit [FloatOps F] in
theorem own_eq (c : Dev nD) : (ownS (F := F) c : sProp 𝕄)
    = iprop(two (ceSide fun k => semVal (kcell c k) 0) ∗ BI.bigSep Finset.univ (fun d : Fin 3 => semVal (kcell c (.psend d)) 0)
      ∗ BI.bigSep Finset.univ (fun d : Fin 3 => semVal (kcell c (.precv d)) 0) ∗ semVal (kcell c .give) 0 ∗ convs (F := F) c ∗ locs (F := F) c) := by
  unfold two ceSide convs locs
  have sepA : ∀ P Q R : sProp 𝕄, iprop((P ∗ Q) ∗ R) = iprop(P ∗ Q ∗ R) := fun _ _ _ => equiv_iff.mp ⟨BI.sep_assoc, BI.sep_assoc'⟩
  rw [bs_three, bs_three]
  simp only [sepA]
  show Pipeline.ownSems0 osem c = _
  rw [Pipeline.ownSems0_eq_of_list c osem [0, 1, 2, 3, 4, 5, 6, 7, 8, 9, 10, 11, 12, 13, 14, 15, 16, 17, 18, 19, 20, 21, 22, 23, 24, 25]
    (by decide +kernel) (by decide +kernel)]
  rfl

omit [FloatOps F] in
theorem sems_in (c : Dev nD) : iprop(ownS (F := F) c ∗ otherS (F := F) c) ⊢ iprop(zeros (F := F) c ∗ convs (F := F) c ∗ locs (F := F) c) := by
  unfold zeros
  rw [own_eq, other_eq, ce_all]
  iintro ⟨⟨H1, H2, H3, H4, H5, H6⟩, H7⟩
  isplitl [H1 H2 H3 H4 H7]
  · isplitl [H1]; · iexact H1
    isplitl [H2]; · iexact H2
    isplitl [H3]; · iexact H3
    isplitl [H4]; · iexact H4
    iexact H7
  isplitl [H5]; · iexact H5
  iexact H6

omit [FloatOps F] in
theorem sems_out (c : Dev nD) : iprop(zeros (F := F) c ∗ convs (F := F) c ∗ locs (F := F) c) ⊢ iprop(ownS (F := F) c ∗ otherS (F := F) c) := by
  unfold zeros
  rw [own_eq, other_eq, ce_all]
  iintro ⟨⟨H1, H2, H3, H4, H7⟩, H5, H6⟩
  isplitl [H1 H2 H3 H4 H5 H6]
  · isplitl [H1]; · iexact H1
    isplitl [H2]; · iexact H2
    isplitl [H3]; · iexact H3
    isplitl [H4]; · iexact H4
    isplitl [H5]; · iexact H5
    iexact H6
  iexact H7

/-! ## The units, and who raises them -/

theorem kc_inj : Function.Injective (fun p : Dev nD × Ce => kcell p.1 p.2) := fun p q h =>
  Prod.ext (kcell_inj (c := p.1) (c' := q.1) (k := p.2) (k' := q.2) h).1 (kcell_inj (c := p.1) (c' := q.1) (k := p.2) (k' := q.2) h).2

def cells : Finset (GSem nD τ sig) := Finset.univ.map ⟨fun p : Dev nD × Ce => kcell p.1 p.2, kc_inj⟩
def unitsOf (p : Dev nD × Ce) : Finset (GSem nD τ sig × ℕ × Duty) :=
  (dut p.2).map ⟨fun j => (kcell p.1 p.2, 0, j), fun _ _ h => (Prod.mk.inj (Prod.mk.inj h).2).2⟩
def units : Finset (GSem nD τ sig × ℕ × Duty) := Finset.univ.biUnion unitsOf

def tk (c : Dev nD) (k : Ce) (j : Duty) : sProp 𝕄 := dutyTok ER (kcell c k) 0 j

omit [FloatOps F] in
theorem cells_sep (Φ : GSem nD τ sig → sProp 𝕄) :
    BI.bigSep cells Φ = BI.bigSep Finset.univ (fun c : Dev nD => BI.bigSep Finset.univ (fun k : Ce => Φ (kcell c k))) := by
  unfold cells; rw [BI.bigSep_map, BI.bigSep_univ_prod]; rfl

omit [FloatOps F] in
theorem units_sep : BI.bigSep units (fun x => (dutyTok ER x.1 x.2.1 x.2.2 : sProp 𝕄))
    = BI.bigSep Finset.univ (fun c : Dev nD => BI.bigSep Finset.univ (fun k : Ce => BI.bigSep (dut k) (tk (F := F) c k))) := by
  unfold units
  rw [BI.bigSep_biUnion_eq, BI.bigSep_univ_prod]
  · refine BI.bigSep_congr fun c _ => BI.bigSep_congr fun k _ => ?_
    unfold unitsOf; rw [BI.bigSep_map]; rfl
  · intro p _ q _ hne
    rw [Finset.disjoint_left]
    intro x hx hx'
    unfold unitsOf at hx hx'
    obtain ⟨j, _, rfl⟩ := Finset.mem_map.mp hx
    obtain ⟨j', _, h⟩ := Finset.mem_map.mp hx'
    exact hne (kc_inj (Prod.mk.inj h).1.symm)

omit [FloatOps F] in
/-- Two products in either order. -/
theorem swap {I J : Type} [DecidableEq I] [DecidableEq J] (s : Finset I) (t : Finset J) (Φ : I → J → sProp 𝕄) :
    BI.bigSep s (fun i => BI.bigSep t (Φ i)) = BI.bigSep t (fun j => BI.bigSep s (fun i => Φ i j)) := by
  induction s using Finset.induction_on with
  | empty =>
    rw [BI.bigSep_empty]
    exact (BI.bigSep_emp_const t).symm
  | insert i s hi ih =>
    rw [BI.bigSep_insert hi, ih]
    exact (bigSep_sep' t (Φ i) (fun j => BI.bigSep s (fun i => Φ i j))).symm.trans (BI.bigSep_congr fun j _ => (bs_insert (fun i => Φ i j) hi).symm)

/-- A step around the mesh. -/
def turn (d : Fin 3) : Dev nD ≃ Dev nD := Equiv.ofBijective (fun c => dstDev c d) (Finite.injective_iff_bijective.mp (fun a b h => dst_inj d a b h))

/-- The device whose unit `j` of its semaphore `k` device `c` raises. -/
def raiser (k : Ce) (j : Duty) : Dev nD ≃ Dev nD :=
  match k with
  | .recv _ d | .precv d => turn d
  | .bar => turn (j3 j)
  | _ => Equiv.refl _

omit [FloatOps F] in
theorem deal (Φ : Dev nD → (k : Ce) → Duty → sProp 𝕄) :
    BI.bigSep Finset.univ (fun c : Dev nD => BI.bigSep Finset.univ (fun k : Ce => BI.bigSep (dut k) (Φ c k)))
      = BI.bigSep Finset.univ (fun c : Dev nD => BI.bigSep Finset.univ (fun k : Ce => BI.bigSep (dut k) (fun j => Φ (raiser k j c) k j))) := by
  rw [swap, swap Finset.univ Finset.univ (fun (c : Dev nD) (k : Ce) => BI.bigSep (dut k) (fun j => Φ (raiser k j c) k j))]
  refine BI.bigSep_congr fun k _ => ?_
  rw [swap, swap Finset.univ (dut k) (fun (c : Dev nD) (j : Duty) => Φ (raiser k j c) k j)]
  refine BI.bigSep_congr fun j _ => ?_
  exact BI.bigSep_univ_equiv (raiser k j) (fun c => Φ c k j)

/-- Device `c`'s. -/
def dealt (c : Dev nD) (k : Ce) : sProp 𝕄 := BI.bigSep (dut k) (fun j => tk (F := F) (raiser k j c) k j)

omit [FloatOps F] in
theorem dealt_side (t : Bool) (c : Dev nD) : ceSide (dealt (F := F) c) t ⊢ tokSide (F := F) t c := by
  have hS : ∀ d, tokS (F := F) t c d = iprop(dealt (F := F) c (.send t d) ∗ dealt (F := F) c (.recv t d)) := fun d => by
    unfold tokS dealt
    rw [bigSep_sep', dut8 _ rfl, dut8 _ rfl]; rfl
  have hK : tokK (F := F) t c = dealt (F := F) c (.keep t) := by unfold tokK dealt; rw [dut8 _ rfl]; rfl
  unfold ceSide tokSide
  rw [hS, hS, hS, hK]
  iintro ⟨⟨S0, S1, S2⟩, ⟨R0, R1, R2⟩, HK⟩
  isplitl [S0 R0]; · isplitl [S0] <;> iassumption
  isplitl [S1 R1]; · isplitl [S1] <;> iassumption
  isplitl [S2 R2]; · isplitl [S2] <;> iassumption
  iexact HK

omit [FloatOps F] in
theorem dealt_toks (c : Dev nD) : BI.bigSep Finset.univ (dealt (F := F) c) ⊢ toks (F := F) c := by
  have hP : BI.bigSep Finset.univ (fun r : Fin 4 => BI.bigSep Finset.univ (tokP (F := F) c r))
      = iprop(BI.bigSep Finset.univ (fun d : Fin 3 => dealt (F := F) c (.psend d)) ∗ BI.bigSep Finset.univ (fun d : Fin 3 => dealt (F := F) c (.precv d))) := by
    rw [swap, ← bigSep_sep']
    refine BI.bigSep_congr fun d _ => ?_
    unfold tokP dealt
    rw [bigSep_sep', dut4 _ rfl, dut4 _ rfl]; rfl
  have hG : giveT (F := F) c = dealt (F := F) c .give := by unfold giveT dealt; rw [dut16]; rfl
  have hB : BI.bigSep Finset.univ (tokB (F := F) c) = dealt (F := F) c .bar := by
    unfold dealt; rw [dut3]
    refine BI.bigSep_congr fun d _ => ?_
    unfold tokB tk
    rw [show raiser .bar (u3 d) c = dstDev c d from by show dstDev c (j3 (u3 d)) = _; rw [j3_u3]]
  unfold toks
  rw [ce_all, hP, hG, hB]
  iintro ⟨H1, H2, H3, H4, H5⟩
  isplitl [H1]; · iapply (two_mono fun t => dealt_side t c) $$ H1
  isplitl [H2 H3]; · isplitl [H2] <;> iassumption
  isplitl [H4]; · iexact H4
  iexact H5

/-! ## The protocols set up, on every device -/

/-- What the launch makes for device `c`. -/
def G (c : Dev nD) : sProp 𝕄 :=
  iprop(BI.bigSep Finset.univ (fun k : Ce => roundState ER (Rd m) (kcell c k) 0) ∗ BI.bigSep Finset.univ (fun k : Ce => reached ER (kcell c k) 0)
    ∗ BI.bigSep Finset.univ (at0 (F := F) c) ∗ BI.bigSep Finset.univ (fun k : Ce => BI.bigSep (dut k) (tk (F := F) c k)))

theorem fund_all : BI.own (ER (initOf cells units)) ⊢ (|==> BI.bigSep Finset.univ (G m) : sProp 𝕄) := by
  iintro HX
  imod (Rounds.fund ER (Rd m) cells units) $$ HX with ⟨Hst, Hr, Hat, Htok⟩
  imodintro
  ihave Hst' := (Entails.of_eq (cells_sep fun g => roundState ER (Rd m) g 0)) $$ Hst
  ihave Hat' := (Entails.of_eq (cells_sep (F := F) fun g => atPos ER g 0 ∅ 0)) $$ Hat
  ihave Hr' := (Entails.of_eq (cells_sep (F := F) fun g => reached ER g 0)) $$ Hr
  ihave Htok' := (Entails.of_eq (units_sep (F := F))) $$ Htok
  unfold G; simp only [bigSep_sep']
  isplitl [Hst']; · iexact Hst'
  isplitl [Hr']; · iexact Hr'
  isplitl [Hat']; · iexact Hat'
  iexact Htok'

/-- What stays with one device. -/
def mine (c : Dev nD) : sProp 𝕄 :=
  iprop(BI.bigSep Finset.univ (at0 (F := F) c) ∗ convs (F := F) c ∗ locs (F := F) c)

theorem core_alloc (c : Dev nD) :
    iprop(ownS (F := F) c ∗ otherS (F := F) c ∗ G m c)
      ⊢ |={Set.univ}=> iprop(BI.bigSep Finset.univ (fun k : Ce => iprop(∃ κ : ℕ, cellInv ER (Rd m) κ (kcell c k)))
          ∗ BI.bigSep Finset.univ (fun k : Ce => reached ER (kcell c k) 0) ∗ mine (F := F) c
          ∗ BI.bigSep Finset.univ (fun k : Ce => BI.bigSep (dut k) (tk (F := F) c k))) := by
  unfold G mine
  iintro ⟨Hos, Hus, Hst, Hr, Hat, Htok⟩
  ihave Hv := (sems_in (F := F) c) $$ [Hos Hus]
  · isplitl [Hos] <;> iassumption
  icases Hv with ⟨Hv, Hc, Hl⟩
  imod (show iprop(zeros (F := F) c ∗ BI.bigSep Finset.univ (fun k : Ce => roundState ER (Rd m) (kcell c k) 0))
      ⊢ (|={Set.univ}=> BI.bigSep Finset.univ (fun k : Ce => iprop(∃ κ : ℕ, cellInv ER (Rd m) κ (kcell c k))) : sProp 𝕄) from by
        unfold zeros
        rw [← bigSep_sep']
        exact (BI.bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hr]; · iexact Hr
  isplitl [Hat Hc Hl]
  · isplitl [Hat]; · iexact Hat
    isplitl [Hc] <;> iassumption
  iexact Htok

/-- What every device may be told of. -/
def known : sProp 𝕄 :=
  iprop(BI.bigSep Finset.univ (fun p : Dev nD × Ce => cellInv ER (Rd m) (K p) (kcell p.1 p.2))
    ∗ BI.bigSep Finset.univ (fun p : Dev nD × Ce => reached ER (kcell p.1 p.2) 0))
instance known_persistent : BI.Persistent (known m K) := by unfold known; infer_instance

def G' (c : Dev nD) : sProp 𝕄 := iprop(∃ K, known m K ∗ mine (F := F) c ∗ toks (F := F) c)

omit [FloatOps F] in
theorem share_out {I : Type} [DecidableEq I] {S : Finset I} {R : sProp 𝕄} [BI.Persistent R] {Φ Ψ : I → sProp 𝕄}
    (h : ∀ i ∈ S, iprop(R ∗ Φ i) ⊢ Ψ i) : iprop(R ∗ BI.bigSep S Φ) ⊢ BI.bigSep S Ψ :=
  BIBase.Entails.trans (sep_mono_left (BI.bigSep_of_persistent S R)) (by rw [← bigSep_sep']; exact BI.bigSep_mono h)

theorem regroup :
    (BI.bigSep Finset.univ (fun c : Dev nD => iprop(BI.bigSep Finset.univ (fun k : Ce => iprop(∃ κ : ℕ, cellInv ER (Rd m) κ (kcell c k)))
          ∗ BI.bigSep Finset.univ (fun k : Ce => reached ER (kcell c k) 0) ∗ mine (F := F) c
          ∗ BI.bigSep Finset.univ (fun k : Ce => BI.bigSep (dut k) (tk (F := F) c k)))) : sProp 𝕄)
      ⊢ BI.bigSep Finset.univ (G' m) := by
  rw [bigSep_sep', bigSep_sep', bigSep_sep', deal,
    ← BI.bigSep_univ_prod (fun p : Dev nD × Ce => iprop(∃ κ : ℕ, cellInv ER (Rd m) κ (kcell p.1 p.2))),
    ← BI.bigSep_univ_prod (fun p : Dev nD × Ce => (reached ER (kcell p.1 p.2) 0 : sProp 𝕄))]
  have ht : BI.bigSep Finset.univ (fun c : Dev nD => BI.bigSep Finset.univ (fun k : Ce => BI.bigSep (dut k) (fun j => tk (F := F) (raiser k j c) k j)))
      ⊢ BI.bigSep Finset.univ (toks (F := F)) := BI.bigSep_mono fun c _ => dealt_toks c
  iintro ⟨HI, #HR, Hm, Htok⟩
  ihave HK := (BI.bigSep_exists_pi Finset.univ (fun (p : Dev nD × Ce) (κ : ℕ) => (cellInv ER (Rd m) κ (kcell p.1 p.2) : sProp 𝕄))) $$ HI
  icases HK with ⟨%K, #HI⟩
  ihave Htk := ht $$ Htok
  iapply (share_out (R := known m K) (Φ := fun c => iprop(mine (F := F) c ∗ toks (F := F) c)) fun c _ => (show _ ⊢ G' m c from by
    unfold G'
    iintro ⟨H1, H2⟩
    iexists K
    isplitl [H1]; · iexact H1
    iexact H2))
  isplitr
  · unfold known; isplitl; · iexact HI
    iexact HR
  · iapply (Entails.of_eq (bigSep_sep' Finset.univ (fun c : Dev nD => mine (F := F) c) (fun c => toks (F := F) c)).symm)
    isplitl [Hm]; · iexact Hm
    iexact Htk

theorem glob : (BI.bigSep Finset.univ (fun c => iprop(ownS (F := F) c ∗ otherS (F := F) c ∗ G m c)) : sProp 𝕄) ⊢ |={Set.univ}=> BI.bigSep Finset.univ (G' m) :=
  BIBase.Entails.trans (BIBase.Entails.trans (BI.bigSep_mono fun c _ => core_alloc m c) (bigSep_fupd _ _)) (BI.fupd_mono (regroup m))

/-! ## The credit -/

def O₀ (c : Dev nD) : CellTallies nD τ sig Unit := owe (dues c)

/-- How many units of its semaphore `k` a device gets from the others. -/
def fromOthers : Ce → ℕ
  | .recv _ _ => 8
  | .precv _ => 4
  | .bar => 3
  | _ => 0

theorem owe_count (l : List (Dev nD × Ce)) (c : Dev nD) (k : Ce) : owe l (kcell c k) () = l.count (c, k) * amt k := by
  induction l with
  | nil => rw [List.count_nil, Nat.zero_mul]; rfl
  | cons e l ih =>
    rw [show e = (e.1, e.2) from rfl, owe_cons, Pi.add_apply, Finsupp.add_apply, tallyAt_apply, ih, List.count_cons]
    by_cases h : (e.1, e.2) = (c, k)
    · have h1 : e.1 = c := (Prod.mk.inj h).1
      have h2 : e.2 = k := (Prod.mk.inj h).2
      rw [if_pos (by rw [h1, h2]; exact ⟨rfl, rfl⟩), if_pos (by rw [h]; exact beq_self_eq_true _), h2, Nat.add_mul, Nat.one_mul]
    · rw [if_neg (fun hh => h (by rw [(kcell_inj hh.1).1, (kcell_inj hh.1).2])), if_neg (by rw [beq_iff_eq]; exact h), Nat.add_zero, Nat.add_zero]

theorem dues_count : ∀ (c : Dev nD) (k : Ce), ∑ d : Dev nD, (dues d).count (c, k) = fromOthers k := by decide +kernel

theorem credit_eq (c : Dev nD) (k : Ce) :
    tallyOn (kcell c k) (launchCredit (Pipeline.owing O₀) 0 (kcell c k)) = (tallyAt (kcell c k) () (fromOthers k * amt k) : CellTallies nD τ sig Unit) := by
  unfold tallyAt; refine congrArg _ (Finsupp.ext fun u => ?_); cases u
  rw [Pipeline.launchCredit_owing, Finsupp.single_eq_same, ← dues_count c k, Finset.sum_mul]
  exact Finset.sum_congr rfl fun d _ => owe_count (dues d) c k

omit [FloatOps F] in
theorem creds (c : Dev nD) : (Pipeline.launchCred O₀ c : sProp 𝕄) ⊢ crs (F := F) c := by
  have h1 : (Pipeline.launchCred O₀ c : sProp 𝕄) ⊢ BI.bigSep Finset.univ (fun k : Ce => crd (F := F) c k (fromOthers k)) := by
    unfold Pipeline.launchCred
    refine BIBase.Entails.trans (BI.bigSep_subset (Finset.subset_univ (Finset.univ.map ⟨csem, csem_inj⟩))) ?_
    rw [BI.bigSep_map]
    have h : ∀ k : Ce, (cred (tallyOn (kcell c k) (launchCredit (Pipeline.owing O₀) 0 (kcell c k))) : sProp 𝕄) = crd (F := F) c k (fromOthers k) :=
      fun k => by unfold crd; rw [credit_eq]
    exact BI.bigSep_mono fun k _ => by rw [← h]; exact BI.Entails.refl _
  refine BIBase.Entails.trans h1 ?_
  rw [ce_all]
  unfold crs
  have h3 : crd (F := F) c .bar (fromOthers .bar) ⊢ cred (tallyAt (kcell c .bar) () 3) := .rfl
  have h2 : ∀ t, ceSide (fun k => crd (F := F) c k (fromOthers k)) t ⊢ crSide (F := F) t c := fun t => by
    unfold ceSide crSide
    iintro ⟨-, H, -⟩
    iexact H
  iintro ⟨H1, -, H3, -, H5⟩
  isplitl [H1]; · iapply (two_mono h2) $$ H1
  isplitl [H3]; · iexact H3
  iapply h3 $$ H5

end Cert.KProg

end
-- ==== Proof.ProgEq.lean ====
/- The printed body of the kernel is the program of `Proof/Prog.lean`. -/
module

public import proofs.«01_k».proof.Proof.Prog
public import Idealize.ShloMosaic.Lib.Pipeline.Regions

@[expose] public section

noncomputable section

namespace Cert.KProg

open Cert.KernelIdeal Cert.KernelIdeal.Gen
open Idealize.ShloMosaic Idealize.SL.Sem

variable {F : FTy → Type} [FloatOps F]

/-- The printed body, on the arrays it is called on. -/
abbrev printed : PR F :=
  cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19

theorem printed_eq : (printed : PR F) = kernel := by
  chain_rfl

end Cert.KProg

end
-- ==== Proof.Launch.lean ====
/- The kernel on all four devices, up to the facts its run is put together from. -/
module

public import proofs.«01_k».proof.Proof.Ghost
public import proofs.«01_k».proof.Proof.ProgEq
public import Idealize.ShloMosaic.Lib.Pipeline.CollectiveSegs

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

variable (ρ : Dev nD → PrngReg)

/-! ## The one point of the pipeline -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The other half of the inputs. -/
def inp (c : Dev nD) : sProp 𝕄 :=
  iprop((((c : Thread nD τ).loc main_arg0) ↦{fullShare.right} m ((c : Thread nD τ).loc main_arg0)) ∗ (((c : Thread nD τ).loc main_arg1) ↦{fullShare.right} m ((c : Thread nD τ).loc main_arg1))
    ∗ (((c : Thread nD τ).loc main_arg2) ↦{fullShare.right} m ((c : Thread nD τ).loc main_arg2)) ∗ (((c : Thread nD τ).loc main_arg3) ↦{fullShare.right} m ((c : Thread nD τ).loc main_arg3))
    ∗ (((c : Thread nD τ).loc main_arg4) ↦{fullShare.right} m ((c : Thread nD τ).loc main_arg4)))

/-- What a device has before the kernel's own memory is made, -/
def begin0 (c : Dev nD) : sProp 𝕄 :=
  iprop(∃ K, recs m K ∗ hbm m c ∗ mine (F := F) c ∗ crs (F := F) c ∗ toks (F := F) c)
/-- with it, -/
def Φ₀ (c : Dev nD) : sProp 𝕄 := iprop(begin0 m c ∗ scr (F := F) c)
/-- and afterwards. -/
def Φ₁ (c : Dev nD) : sProp 𝕄 :=
  iprop(((outM.view.loc (c : Thread nD τ) ↦{fullShare} resC m c) ∗ otherS (F := F) c) ∗ ownS (F := F) c ∗ scr (F := F) c)

def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Pipeline.Dat.share; split <;> rfl

/-! ## Every semaphore back at zero -/

theorem all_close (c : Dev nD) : iprop(recs m K ∗ BI.bigSep Finset.univ (fin (F := F) c)) ⊢ |={Set.univ}=> zeros (F := F) c := by
  have h : iprop(recs m K ∗ BI.bigSep Finset.univ (fin (F := F) c)) ⊢ BI.bigSep Finset.univ (fun k : Ce => iprop(|={Set.univ}=> semVal (kcell c k) 0)) :=
    share_out fun k _ => by
      unfold fin
      iintro ⟨#HR, Ha⟩
      ihave HI := (recs_inv m K c k) $$ HR
      iapply (Rounds.cell_close ER (Rd m) (g := kcell c k) (Set.mem_univ (K (c, k))) (fun h => h) (R := 1) (Rd_later m (kcell c k)))
      isplitl [HI]; · iexact HI
      iexact Ha
  exact BIBase.Entails.trans h (bigSep_fupd _ _)

/-- The kernel on device `c`. -/
theorem body_run (c : Dev nD) :
    iprop(Φ₀ m c ∗ own (F := F) c (dues c)) ⊢ W c printed (fun _ => iprop(Φ₁ m c ∗ own (F := F) c [])) := by
  have hk : (printed : PR F) = .op .deviceId (fun c => startX <| startWq <| signal c 0 <| signal c 1 <| signal c 2 <| waitBar <|
      partA c <| partB c <| partC c <| partD c <| .ret ⟨⟩) := printed_eq
  have hb : iprop(hbm m c ∗ mine (F := F) c ∗ crs (F := F) c ∗ toks (F := F) c ∗ scr (F := F) c) ⊢ bodyIn m c := by
    unfold mine bodyIn
    iintro ⟨Hh, ⟨Ha, Hv, Hl⟩, Hc, Ht, Hs⟩
    isplitl [Hh]; · iexact Hh
    isplitl [Hs]; · iexact Hs
    isplitl [Hv]; · iexact Hv
    isplitl [Hl]; · iexact Hl
    isplitl [Ha]; · iexact Ha
    isplitl [Hc]; · iexact Hc
    iexact Ht
  have hret : iprop(|={Set.univ}=> (Φ₁ m c ∗ own (F := F) c [])) ⊢ W c (.ret ⟨⟩) (fun _ => iprop(Φ₁ m c ∗ own (F := F) c [])) := by
    unfold W; rw [wp_ret]
  have hphi : iprop(((outM.view.loc (c : Thread nD τ) ↦{fullShare} resC m c) ∗ otherS (F := F) c) ∗ ownS (F := F) c ∗ scr (F := F) c) ⊢ Φ₁ m c := .rfl
  unfold Φ₀ begin0 W
  rw [hk, wp_deviceId]
  iintro ⟨⟨⟨%K, #HR, Hh, Hm, Hc, Ht⟩, Hs⟩, HO⟩
  ihave Hin := hb $$ [Hh Hm Hc Ht Hs]
  · isplitl [Hh]; · iexact Hh
    isplitl [Hm]; · iexact Hm
    isplitl [Hc]; · iexact Hc
    isplitl [Ht]; · iexact Ht
    iexact Hs
  iapply (device_wp m K c) $$ [HO Hin]
  · isplitr; · iexact HR
    isplitl [HO]; · iexact HO
    iexact Hin
  unfold bodyOut
  iintro ⟨HO, Hout, Hs, Hv, Hl, Hf⟩
  imod (all_close m K c) $$ [Hf] with Hz
  · isplitr; · iexact HR
    iexact Hf
  ihave Hsem := (sems_out (F := F) c) $$ [Hz Hv Hl]
  · isplitl [Hz]; · iexact Hz
    isplitl [Hv]; · iexact Hv
    iexact Hl
  icases Hsem with ⟨Hos, Hot⟩
  iapply hret
  imodintro
  isplitl [Hout Hot Hos Hs]
  · iapply hphi
    isplitl [Hout Hot]
    · isplitl [Hout]; · iexact Hout
      iexact Hot
    isplitl [Hos]; · iexact Hos
    iexact Hs
  iexact HO

set_option maxRecDepth 100000 in
theorem body_obligation (c : Dev nD) : Pipeline.BodyObligation (dats (F := F) m 0 c) (defs₀ (F := F)) 𝒱₀ () Set.univ := fun t => by
  rw [fin_N t]
  haveI : IsEmpty (Fin cfg0.W) := inferInstanceAs (IsEmpty (Fin 0))
  rw [Finset.univ_eq_empty, BI.bigSep_empty, BI.bigSep_empty]
  have h0 : iprop((dats m 0 c).Φ t₀.castSucc ∗ (dats m 0 c).owesAt () t₀.castSucc ∗ emp) ⊢ iprop(Φ₀ m c ∗ own (F := F) c (dues c)) := by
    show iprop(Φ₀ m c ∗ (∃ W, ⌜_⌝ ∗ owes (c : Thread nD τ) (owe (dues c)) W) ∗ emp) ⊢ _
    unfold own
    iintro ⟨H, ⟨%w, -, HO⟩, -⟩
    isplitl [H]; · iexact H
    iexists w; iexact HO
  have h1 : ∀ _ : PUnit.{1}, iprop(Φ₁ m c ∗ own (F := F) c []) ⊢ iprop((dats m 0 c).Φ t₀.succ ∗ (dats m 0 c).owesAt () t₀.succ ∗ emp) := fun _ => by
    show _ ⊢ iprop(Φ₁ m c ∗ (∃ W : Waits sig Unit, ⌜(↑W : Set (SemLoc sig × Unit)) ⊆ (dats m 0 c).bound () t₀.succ⌝ ∗ owes (c : Thread nD τ) 0 W) ∗ emp)
    unfold own
    iintro ⟨H, ⟨%w, HO⟩⟩
    isplitl [H]; · iexact H
    isplitl [HO]
    · iexists w
      isplitr; · ipureintro; exact fun _ _ => Or.inl trivial
      iexact HO
    iempintro
  show _ ⊢ wp Idealize.ShloMosaic.frame (wpE (defs₀ (F := F)) 𝒱₀ (c : Thread nD τ) none) Set.univ (printed (F := F)) _
  refine BIBase.Entails.trans h0 ?_
  refine BIBase.Entails.trans (body_run m c) ?_
  unfold W
  refine wp_mono _ _ _ ?_
  exact h1

theorem waits (c : Dev nD) : (levAts L lv : sProp 𝕄) ⊢ Pipeline.cellsWaits cfgs (dats m) () 0 c :=
  Pipeline.cellsWaits_intro cfgs (dats m) () 0 c fun w _ _ => w.elim0

/-! ## Into the point and out of it -/

def u₀ : UU :=
  (initOf (Pipeline.cells cfgs cellOf_inj) (Pipeline.launchToks cfgs cellOf_inj), (initOf cells units, 1))

theorem known_recs : iprop(levAts L lv ∗ known m K) ⊢ recs m K := by unfold known recs; exact .rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin0 m c ∗ inp m c) := by
  have hu : Pipeline.unscopedRestP Pipeline.Prefetch.none cfg0.spec c (fun b => m ((c : Thread nD τ).loc b)) ⊢ iprop(hbm m c ∗ inp m c) := by
    have hs : ∀ (b : Ref sig .tc), (((c : Thread nD τ).loc b) ↦{fullShare} m ((c : Thread nD τ).loc b) : sProp 𝕄)
        ⊢ iprop((((c : Thread nD τ).loc b) ↦{fullShare.left} m ((c : Thread nD τ).loc b)) ∗ (((c : Thread nD τ).loc b) ↦{fullShare.right} m ((c : Thread nD τ).loc b))) :=
      fun b => (pointsTo_share (PosShare.mem_left_op_right _)).1
    have h := Entails.of_eq (unscopedRest0_eq (Ix := Unit) (Name := ℕ) (U := UU) (Lvl := ℕ) c (fun b => m ((c : Thread nD τ).loc b)))
    refine BIBase.Entails.trans h ?_
    unfold hbm kvs kvRO inp
    iintro ⟨H0, H1, H2, H3, H4, H5⟩
    ihave H0 := (hs main_arg0) $$ H0
    ihave H1 := (hs main_arg1) $$ H1
    ihave H2 := (hs main_arg2) $$ H2
    ihave H3 := (hs main_arg3) $$ H3
    ihave H4 := (hs main_arg4) $$ H4
    icases H0 with ⟨H0, G0⟩
    icases H1 with ⟨H1, G1⟩
    icases H2 with ⟨H2, G2⟩
    icases H3 with ⟨H3, G3⟩
    icases H4 with ⟨H4, G4⟩
    isplitr [G0 G1 G2 G3 G4]
    · isplitl [H0]; · iexact H0
      isplitl [H1]; · iexact H1
      isplitl [H2 H3]
      · isplitl [H2]
        · iexists fullShare.left; iexact H2
        · iexists fullShare.left; iexact H3
      isplitl [H4]; · iexact H4
      iexists _; iexact H5
    isplitl [G0]; · iexact G0
    isplitl [G1]; · iexact G1
    isplitl [G2]; · iexact G2
    isplitl [G3]; · iexact G3
    iexact G4
  unfold G' begin0
  iintro ⟨Hu, Hlev, Hcr, -, ⟨%K, Hkn, Hm, Ht⟩⟩
  ihave Hh := hu $$ Hu
  icases Hh with ⟨Hh, Hi⟩
  ihave Hc := (creds (F := F) c) $$ Hcr
  ihave HR := (known_recs m K) $$ [Hlev Hkn]
  · isplitl [Hlev] <;> iassumption
  imodintro
  isplitr [Hi]
  · iexists K
    isplitl [HR]; · iexact HR
    isplitl [Hh]; · iexact Hh
    isplitl [Hm]; · iexact Hm
    isplitl [Hc]; · iexact Hc
    iexact Ht
  · iexact Hi

omit [FloatOps F] in
theorem scr_eq (c : Dev nD) : (Pipeline.scopedRest cfg0.spec c : sProp 𝕄) = scr (F := F) c := by
  have sepA : ∀ P Q R : sProp 𝕄, iprop((P ∗ Q) ∗ R) = iprop(P ∗ Q ∗ R) := fun _ _ _ => equiv_iff.mp ⟨BI.sep_assoc, BI.sep_assoc'⟩
  unfold scr two
  simp only [sepA]
  exact scopedRest0_eq c

theorem phi0_intro (c : Dev nD) :
    iprop(begin0 m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

/-- What the run is read off at the end. -/
def end0 (c : Dev nD) : sProp 𝕄 := iprop((outM.view.loc (c : Thread nD τ) ↦{fullShare} resC m c) ∗ otherS (F := F) c)

theorem phi1_exit (c : Dev nD) :
    (dats m 0 c).Φ (Fin.last cfg0.N) ⊢ iprop(end0 m c ∗ Pipeline.ownSems0 osem c ∗ Pipeline.scopedRest cfg0.spec c) := by
  rw [show (dats m 0 c).Φ (Fin.last cfg0.N) = Φ₁ m c from rfl, scr_eq]
  unfold Φ₁ end0
  exact .rfl

/-- That the inputs are as they were. -/
abbrev Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

omit [FloatOps F] in
theorem read_one (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  have h := pointsTo_read_all (Ix := Unit) (Name := ℕ) (U := UU) (Lvl := ℕ) (Finset.univ : Finset (Fin 1)) (fun _ => ℓ) (fun _ => f) s' q
  rw [show (Finset.univ : Finset (Fin 1)) = {0} from rfl, BI.bigSep_singleton] at h
  refine BIBase.Entails.trans h ?_
  iintro ⟨%h, H⟩
  isplitr; · ipureintro; exact h 0 (Finset.mem_singleton_self _)
  iexact H

theorem end_read (c : Dev nD) (s' : Phys nD τ sig (Elt F)) :
    iprop(end0 m c ∗ inp m c ∗ SI s') ⊢ |={Set.univ}=> (iprop(⌜s'.mem.mem ((c : Thread nD τ).loc main_v1) = resC m c ∧ Kept m c s'.mem
      ∧ ∀ sm : SemLoc sig, sm.isScoped .tc = false → s'.mem.sem ((c : Thread nD τ), sm) = 0⌝ ∗ SI s') : sProp 𝕄) := by
  unfold end0 inp
  iintro ⟨⟨Ho, Hs⟩, ⟨G0, G1, G2, G3, G4⟩, HSI⟩
  ihave H := (read_one (outM.view.loc (c : Thread nD τ)) fullShare (resC m c) s') $$ [Ho HSI]
  · isplitl [Ho] <;> iassumption
  icases H with ⟨%h, HSI⟩
  ihave H := (read_one _ _ _ s') $$ [G0 HSI]
  · isplitl [G0] <;> iassumption
  icases H with ⟨%h0, HSI⟩
  ihave H := (read_one _ _ _ s') $$ [G1 HSI]
  · isplitl [G1] <;> iassumption
  icases H with ⟨%h1, HSI⟩
  ihave H := (read_one _ _ _ s') $$ [G2 HSI]
  · isplitl [G2] <;> iassumption
  icases H with ⟨%h2, HSI⟩
  ihave H := (read_one _ _ _ s') $$ [G3 HSI]
  · isplitl [G3] <;> iassumption
  icases H with ⟨%h3, HSI⟩
  ihave H := (read_one _ _ _ s') $$ [G4 HSI]
  · isplitl [G4] <;> iassumption
  icases H with ⟨%h4, HSI⟩
  imod (Pipeline.unscopedSems0_read (X := otherS (F := F) c) (c := c) fupd_intro s') $$ [Hs HSI] with ⟨%h5, HSI⟩
  · isplitl [Hs] <;> iassumption
  imodintro
  isplitr; · ipureintro; exact ⟨h, ⟨h0, h1, h2, h3, h4⟩, h5⟩
  iexact HSI

end Cert.KProg

end
-- ==== Proof.Run.lean ====
/- The kernel on all four devices: from any memory it ends, every device's result array holding what it should and every semaphore back at zero. -/
module

public import proofs.«01_k».proof.Proof.Launch

@[expose] public section

noncomputable section

namespace Cert.KProg

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
variable (m : (ℓ : Loc nD τ sig) → Buf (Elt F) ℓ)
variable (K : Dev nD × Ce → ℕ)

local notation "𝕄" => MT nD τ sig Unit (Elt F) ℕ UU ℕ

variable (ρ : Dev nD → PrngReg)

theorem fund₀ : (ownU (u₀ : UU) : sProp 𝕄)
    ⊢ |={Set.univ}=> iprop(BI.own (EP (initOf (Pipeline.cells cfgs cellOf_inj) (Pipeline.launchToks cfgs cellOf_inj))) ∗ BI.bigSep Finset.univ (G m)) := by
  have h3 : (BI.own ((embR : Emb (UB × Counters) 𝕄) (initOf cells units, (1 : Counters))) : sProp 𝕄) ⊢ BI.own (ER (initOf cells units)) := .rfl
  unfold u₀
  iintro Hu
  ihave H := (ownU_pair _ _) $$ Hu
  icases H with ⟨HP, HX⟩
  ihave HX := h3 $$ HX
  imod (fund_all m) $$ HX with HG
  imodintro
  isplitl [HP] <;> iassumption

set_option maxRecDepth 8000 in
/-- On the mesh of four devices, for any float values, from any memory with every semaphore at zero: every weakly fair execution of the kernel ends, with
    each device's result array at `resC`, its inputs as they were and every semaphore at zero again. -/
theorem run_main : θ_run defs (onTc (τ := τ) (main (F := F))) ⟨m, fun _ => 0, ρ⟩
    (fun r => (∀ c : Dev nD, r.2.mem ((c : Thread nD τ).loc main_v1) = resC m c ∧ Kept m c r.2) ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := fun w => w.elim0) (harr := arr_whole0) (hstage := stage_whole0) (hshare := ?hshare)
    (hdistinct := winFacts0.arr_inj)
    (O₀ := O₀) (howed₀ := ?ho) (howedN := ?hon)
    (L := L) (lv := lv) (hL := L_of_ne) (hwaits := ?hw)
    (G := G m) (G' := G' m) (u₀ := u₀)
    (hu₀ := ?hu)
    (hglob := ?hglob)
    (hA := ?hA) (hpf := ?hpf)
    (X := begin0 m) (Y := end0 m) (Z := inp m)
    (hX := ?hX) (hin := ?hin) (hout := ?hout)
    (QY := fun c s => s.mem ((c : Thread nD τ).loc main_v1) = resC m c ∧ Kept m c s ∧ ∀ sm : SemLoc sig, sm.isScoped .tc = false → s.sem ((c : Thread nD τ), sm) = 0)
    (hY := ?hY)
    (hQ := ?hQ)
  case hmain => exact fun _ => rfl
  case hbody => exact fun c => (body_obligation m c).loose
  case hshare => exact share_eq m
  case ho => exact fun _ => rfl
  case hon => exact fun _ => rfl
  case hw => exact waits m
  case hu => exact fund₀ m
  case hglob => exact glob m
  case hA => exact fun _ _ => rfl
  case hpf => exact fun _ k => k.elim0
  case hX => exact start_intro m ρ
  case hin => exact phi0_intro m
  case hout => exact phi1_exit m
  case hY => exact end_read m
  case hQ => exact fun _ h hs => ⟨fun c => ⟨(h c).2.2.1, (h c).2.2.2.1⟩, sem_eq_zero hs fun c => (h c).2.2.2.2⟩

end Cert.KProg

end
-- ==== Proof.Soft.lean ====
/- Sums of weights over the extended reals: the weights of a masked row, shifted by the row's greatest score and divided by
   their sum, weigh as the plain exponentials of the row's unmasked scores do. -/
module

public import Idealize.ShloMosaic.PureOps.Ideal.Laws

@[expose] public section

noncomputable section

namespace Cert.Soft

open Idealize.ShloMosaic

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {J : Type} (s : Finset J) (f : J → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsReal.sum {J : Type} {s : Finset J} {f : J → EReal} (h : ∀ j, IsReal (f j)) : IsReal (∑ j ∈ s, f j) := by
  choose r hr using h
  exact ⟨∑ j ∈ s, r j, by rw [← coe_sum]; exact Finset.sum_congr rfl fun j _ => hr j⟩

theorem isReal_of_abs_lt {x : EReal} (h : max x (-x) < ⊤) : IsReal x := by
  induction x with
  | bot => simp at h
  | top => simp at h
  | coe r => exact ⟨r, rfl⟩

/-- A nonnegative real factor goes into a sum. -/
theorem sum_mul_coe {J : Type} (s : Finset J) (f : J → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem div_coe (x : EReal) {c : ℝ} (hc : 0 < c) : Ideal.div x (c : EReal) = x * ((c⁻¹ : ℝ) : EReal) := by
  unfold Ideal.div
  rw [if_neg (by simpa using hc.ne'), ← EReal.coe_inv]

/-- A masked score: minus infinity off the mask. -/
def masked {J : Type} (p : J → Prop) [DecidablePred p] (s : J → EReal) (j : J) : EReal := if p j then s j else ⊥

/-- The greatest of the masked scores is a real number when some score is unmasked and all scores are real. -/
theorem isReal_fold_max {J : Type} (t : Finset J) (p : J → Prop) [DecidablePred p] (s : J → EReal) (hs : ∀ j, IsReal (s j)) :
    (∃ j ∈ t, p j) → IsReal (t.fold max ⊥ (masked p s)) := by
  classical
  have key : (IsReal (t.fold max ⊥ (masked p s)) ∨ (t.fold max ⊥ (masked p s) = ⊥ ∧ ∀ j ∈ t, ¬ p j)) := by
    induction t using Finset.induction_on with
    | empty => exact .inr ⟨by simp, by simp⟩
    | insert a t ha ih =>
      rw [Finset.fold_insert ha]
      by_cases hp : p a
      · left
        have e : masked p s a = s a := if_pos hp
        rw [e]
        rcases ih with h | ⟨h, _⟩
        · rcases max_choice (s a) (t.fold max ⊥ (masked p s)) with q | q <;> rw [q]
          · exact hs a
          · exact h
        · rw [h, max_bot_right]; exact hs a
      · have e : masked p s a = ⊥ := if_neg hp
        rw [e, max_bot_left]
        rcases ih with h | ⟨h, h'⟩
        · exact .inl h
        · refine .inr ⟨h, fun j hj => ?_⟩
          rcases Finset.mem_insert.mp hj with rfl | hj
          · exact hp
          · exact h' j hj
  rintro ⟨j, hj, hp⟩
  rcases key with h | ⟨_, h⟩
  · exact h
  · exact absurd hp (h j hj)

/-- The weights of a masked row. -/
theorem weights {J : Type} [Fintype J] (p : J → Prop) [DecidablePred p] (s V : J → EReal) (hs : ∀ j, IsReal (s j)) (hp : ∃ j, p j) :
    ∑ j, V j * Ideal.div (Ideal.exp (masked p s j - Finset.univ.fold max ⊥ (masked p s)))
        (∑ i, Ideal.exp (masked p s i - Finset.univ.fold max ⊥ (masked p s)))
      = Ideal.div (∑ j with p j, Ideal.exp (s j) * V j) (∑ j with p j, Ideal.exp (s j)) := by
  classical
  obtain ⟨μ, hμ⟩ := isReal_fold_max Finset.univ p s hs (by obtain ⟨j, hj⟩ := hp; exact ⟨j, Finset.mem_univ _, hj⟩)
  rw [hμ]
  choose r hr using hs
  have hw : ∀ j, Ideal.exp (masked p s j - (μ : EReal)) = ((if p j then Real.exp (r j - μ) else 0 : ℝ) : EReal) := by
    intro j
    by_cases h : p j
    · rw [if_pos h, masked, if_pos h, hr j, ← EReal.coe_sub]; rfl
    · rw [if_neg h, masked, if_neg h, EReal.bot_sub]; rfl
  have he : ∀ j, Ideal.exp (s j) = ((Real.exp (r j) : ℝ) : EReal) := fun j => by rw [hr j]; rfl
  have hS : ∑ i, Ideal.exp (masked p s i - (μ : EReal)) = ((∑ j with p j, Real.exp (r j - μ) : ℝ) : EReal) := by
    rw [Finset.sum_filter, ← coe_sum]; exact Finset.sum_congr rfl fun j _ => hw j
  have hT : (∑ j with p j, Ideal.exp (s j)) = ((∑ j with p j, Real.exp (r j) : ℝ) : EReal) := by
    rw [← coe_sum]; exact Finset.sum_congr rfl fun j _ => he j
  have ne : (Finset.univ.filter fun j => p j).Nonempty := by obtain ⟨j, hj⟩ := hp; exact ⟨j, by simpa using hj⟩
  have pS : 0 < ∑ j with p j, Real.exp (r j - μ) := Finset.sum_pos (fun _ _ => Real.exp_pos _) ne
  have pT : 0 < ∑ j with p j, Real.exp (r j) := Finset.sum_pos (fun _ _ => Real.exp_pos _) ne
  have eS : ∑ j with p j, Real.exp (r j - μ) = (∑ j with p j, Real.exp (r j)) * Real.exp (-μ) := by
    rw [Finset.sum_mul]; exact Finset.sum_congr rfl fun j _ => by rw [← Real.exp_add]; rfl
  rw [hS, hT, div_coe _ pT, sum_mul_coe _ _ (inv_nonneg.mpr pT.le),
    Finset.sum_filter (s := Finset.univ) (p := p) fun j => Ideal.exp (s j) * V j * (((∑ j with p j, Real.exp (r j))⁻¹ : ℝ) : EReal)]
  refine Finset.sum_congr rfl fun j _ => ?_
  rw [hw j, div_coe _ pS, ← EReal.coe_mul]
  by_cases h : p j
  · have ec : Real.exp (r j - μ) * (∑ j with p j, Real.exp (r j - μ))⁻¹ = Real.exp (r j) * (∑ j with p j, Real.exp (r j))⁻¹ := by
      rw [eS, mul_inv, sub_eq_add_neg, Real.exp_add]
      have := (Real.exp_pos (-μ)).ne'
      field_simp
    rw [if_pos h, if_pos h, ec, he j, EReal.coe_mul, ← mul_assoc, mul_comm (V j)]
  · rw [if_neg h, if_neg h, zero_mul, EReal.coe_zero, mul_zero]

end Cert.Soft

end
-- ==== Proof.KerPieces.lean ====
/- The kernel's arrays read at an index, at the exact values: what stacks, products and row sums hold. -/
module

public import proofs.«01_k».proof.Proof.Passes
public import proofs.«01_k».proof.Proof.Soft
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.KProg

open Cert.KernelIdeal Cert.KernelIdeal.Gen
open Idealize.ShloMosaic Idealize.ShloMosaic.TcCoe Idealize.SL.Sem Idealize.ShloMosaic.ValueIdx

/-! ## Stacks -/

theorem stack4 {α : Type} (f : Fin 4 → S64x128.Idx → α) (h : Shape.Concatenates [S64x128, S64x128, S64x128, S64x128] S256x128 0) (y : Fin 256) (d : Fin 128) :
    concatenate S256x128 0 [⟨S64x128, f 0⟩, ⟨S64x128, f 1⟩, ⟨S64x128, f 2⟩, ⟨S64x128, f 3⟩] h (ix2 y d)
      = f ⟨y.val / 64, by omega⟩ (ix2 ⟨y.val % 64, by omega⟩ d) :=
  concatenate_ofFn_apply 0 f h rfl 64 rfl (ix2 y d) ⟨y.val / 64, by omega⟩ rfl (ix2 ⟨y.val % 64, by omega⟩ d) rfl
    (fun b hb => by match b with | ⟨0, _⟩ => exact absurd rfl hb | ⟨1, _⟩ => rfl)

theorem stack12 {α : Type} (a0 a1 a2 a3 a4 a5 a6 a7 a8 a9 a10 a11 : S64x128.Idx → α)
    (h : Shape.Concatenates [S64x128, S64x128, S64x128, S64x128, S64x128, S64x128, S64x128, S64x128, S64x128, S64x128, S64x128, S64x128] S768x128 0)
    (y : Fin 768) (d : Fin 128) :
    concatenate S768x128 0 [⟨S64x128, a0⟩, ⟨S64x128, a1⟩, ⟨S64x128, a2⟩, ⟨S64x128, a3⟩, ⟨S64x128, a4⟩, ⟨S64x128, a5⟩, ⟨S64x128, a6⟩, ⟨S64x128, a7⟩, ⟨S64x128, a8⟩, ⟨S64x128, a9⟩, ⟨S64x128, a10⟩, ⟨S64x128, a11⟩] h (ix2 y d)
      = (![a0, a1, a2, a3, a4, a5, a6, a7, a8, a9, a10, a11] : Fin 12 → S64x128.Idx → α) ⟨y.val / 64, by omega⟩ (ix2 ⟨y.val % 64, by omega⟩ d) :=
  concatenate_ofFn_apply 0 ![a0, a1, a2, a3, a4, a5, a6, a7, a8, a9, a10, a11] h rfl 64 rfl (ix2 y d) ⟨y.val / 64, by omega⟩ rfl (ix2 ⟨y.val % 64, by omega⟩ d) rfl
    (fun b hb => by match b with | ⟨0, _⟩ => exact absurd rfl hb | ⟨1, _⟩ => rfl)

theorem cols_apply (f : Fin 8 → FVec Ideal S256x1 .f32) (y : Fin 256) (h : Fin 8) :
    cols (f 0) (f 1) (f 2) (f 3) (f 4) (f 5) (f 6) (f 7) (ix2 y h) = f h (ix2 y 0) :=
  concatenate_ofFn_unit_apply 1 f concatenates_S256x1_S256x1_S256x1_S256x1_S256x1_S256x1_S256x1_S256x1_S256x8_d1 rfl rfl (ix2 y h) h rfl (ix2 y 0)
    (fun b hb => by match b with | ⟨0, _⟩ => rfl | ⟨1, _⟩ => exact absurd rfl hb)

theorem quot_apply (h : Fin 8) (a : FVec Ideal S256x128 .f32) (l : FVec Ideal S256x8 .f32) (y : Fin 256) (d : Fin 128) :
    quot h a l (ix2 y d) = Ideal.div (a (ix2 y d)) (l (ix2 y h)) := by
  have e : quot h a l (ix2 y d) = Ideal.div (a (ix2 y d))
      (broadcastTo S256x128 (extractStridedSlice S256x1 ![0, h.val] l (slices_col h) : FVec Ideal S256x1 .f32) broadcasts_S256x1_S256x128 (ix2 y d)) := rfl
  rw [e]
  refine congrArg (Ideal.div _) (congrArg l (funext fun a => Fin.ext ?_))
  match a with
  | ⟨0, _⟩ => show 0 + y.val = y.val; omega
  | ⟨1, _⟩ => show h.val + 0 = h.val; omega

theorem ctx_apply (f : Fin 8 → FVec Ideal S256x128 .f32) (l : FVec Ideal S256x8 .f32) (y : Fin 256) (t : Fin 1024) :
    ctx (f 0) (f 1) (f 2) (f 3) (f 4) (f 5) (f 6) (f 7) l (ix2 y t)
      = Ideal.div (f ⟨t.val / 128, by omega⟩ (ix2 y ⟨t.val % 128, by omega⟩)) (l (ix2 y ⟨t.val / 128, by omega⟩)) := by
  rw [← quot_apply]
  exact concatenate_ofFn_apply 1 (fun h => quot h (f h) l) concatenates_S256x128_S256x128_S256x128_S256x128_S256x128_S256x128_S256x128_S256x128_S256x1024_d1
    rfl 128 rfl (ix2 y t) ⟨t.val / 128, by omega⟩ rfl (ix2 y ⟨t.val % 128, by omega⟩) rfl
    (fun b hb => by match b with | ⟨0, _⟩ => rfl | ⟨1, _⟩ => exact absurd rfl hb)

/-! ## Products and row sums -/

/-- The factor of the scores. -/
def scaleK : EReal := Ideal.ofBits .f32 0x3DB504F3#32

theorem qProj_apply (x w : FVec Ideal S1024x1024 .f32) (i t : Fin 1024) :
    (qProj (F := Ideal) x w (ix2 i t) : EReal) = ∑ n : Fin 1024, x (ix2 i n) * w (ix2 n t) := by
  have e0 : qProj x w = truncf .bf16 (matmul dot_S1024x1024_S1024x1024_S1024x1024_1_0_0_1_n_n none x w (constant S1024x1024 .f32 0x00000000#32)) bitsLt_bf16_f32 :=
    shapeCast_self _ _
  rw [e0]
  refine Eq.trans (Ideal.matmul_plain_apply none x w (constant S1024x1024 .f32 0x00000000#32) i t) ?_
  have e1 : (constant (F := Ideal) S1024x1024 .f32 0x00000000#32) (ix2 i t) = (0 : EReal) := Ideal.ofBits_zero_f32
  rw [e1, zero_add]

theorem ew12_apply (q : FVec Ideal S256x128 .bf16) (k : FVec Ideal S768x128 .bf16) (y : Fin 256) (j : Fin 768) :
    ew12 q k (ix2 y j) = Ideal.exp ((∑ d : Fin 128, q (ix2 y d) * k (ix2 j d)) * scaleK) := by
  have e0 : ew12 q k (ix2 y j) = Ideal.exp ((matmul dot_S256x128_S768x128_S256x768_1_1_0_0_n_n none q k (constant S256x768 .f32 0x00000000#32)) (ix2 y j) * scaleK) := rfl
  have e1 : (constant (F := Ideal) S256x768 .f32 0x00000000#32) (ix2 y j) = (0 : EReal) := Ideal.ofBits_zero_f32
  have e2 : (matmul dot_S256x128_S768x128_S256x768_1_1_0_0_n_n none q k (constant S256x768 .f32 0x00000000#32)) (ix2 y j) = _ :=
    Ideal.matmul_transposedRhs_apply none q k (constant S256x768 .f32 0x00000000#32) y j
  rw [e0, e2, e1, zero_add]
theorem ew4_apply (q : FVec Ideal S256x128 .bf16) (k : FVec Ideal S256x128 .bf16) (y j : Fin 256) :
    ew4 q k (ix2 y j) = Ideal.exp ((∑ d : Fin 128, q (ix2 y d) * k (ix2 j d)) * scaleK) := by
  have e0 : ew4 q k (ix2 y j) = Ideal.exp ((matmul dot_S256x128_S256x128_S256x256_1_1_0_0_n_n none q k (constant S256x256 .f32 0x00000000#32)) (ix2 y j) * scaleK) := rfl
  have e1 : (constant (F := Ideal) S256x256 .f32 0x00000000#32) (ix2 y j) = (0 : EReal) := Ideal.ofBits_zero_f32
  have e2 : (matmul dot_S256x128_S256x128_S256x256_1_1_0_0_n_n none q k (constant S256x256 .f32 0x00000000#32)) (ix2 y j) = _ :=
    Ideal.matmul_transposedRhs_apply none q k (constant S256x256 .f32 0x00000000#32) y j
  rw [e0, e2, e1, zero_add]

theorem pv12_apply (e : FVec Ideal S256x768 .f32) (v : FVec Ideal S768x128 .bf16) (y : Fin 256) (d : Fin 128) :
    pv12 e v (ix2 y d) = ∑ j : Fin 768, e (ix2 y j) * v (ix2 j d) := by
  have e2 : pv12 e v (ix2 y d) = _ :=
    Ideal.matmul_plain_apply none (truncf .bf16 e bitsLt_bf16_f32) v (constant S256x128 .f32 0x00000000#32) y d
  have e1 : (constant (F := Ideal) S256x128 .f32 0x00000000#32) (ix2 y d) = (0 : EReal) := Ideal.ofBits_zero_f32
  rw [e2, e1, zero_add]; rfl
theorem pv4_apply (e : FVec Ideal S256x256 .f32) (v : FVec Ideal S256x128 .bf16) (y : Fin 256) (d : Fin 128) :
    pv4 e v (ix2 y d) = ∑ j : Fin 256, e (ix2 y j) * v (ix2 j d) := by
  have e2 : pv4 e v (ix2 y d) = _ :=
    Ideal.matmul_plain_apply none (truncf .bf16 e bitsLt_bf16_f32) v (constant S256x128 .f32 0x00000000#32) y d
  have e1 : (constant (F := Ideal) S256x128 .f32 0x00000000#32) (ix2 y d) = (0 : EReal) := Ideal.ofBits_zero_f32
  rw [e2, e1, zero_add]; rfl
theorem oProj_apply (c : FVec Ideal S256x1024 .f32) (w : FVec Ideal S1024x1024 .f32) (y : Fin 256) (n : Fin 1024) :
    oProj c w (ix2 y n) = ∑ t : Fin 1024, c (ix2 y t) * w (ix2 t n) := by
  have e2 : oProj c w (ix2 y n) = _ := Ideal.matmul_plain_apply none c w (constant S256x1024 .f32 0x00000000#32) y n
  have e1 : (constant (F := Ideal) S256x1024 .f32 0x00000000#32) (ix2 y n) = (0 : EReal) := Ideal.ofBits_zero_f32
  rw [e2, e1, zero_add]

theorem sum12_apply (e : FVec Ideal S256x768 .f32) (y : Fin 256) : sum12 e (ix2 y 0) = ∑ j : Fin 768, e (ix2 y j) := by
  have e0 : sum12 e (ix2 y 0) = _ := shapeCast_a_a1_apply
    (multiReduction .add [1] S256 e 0x00000000#32 reduces_S256x768_S256 (.inl rfl) rfl : FVec Ideal S256 .f32) shapeCasts_S256_S256x1 y 0
  refine e0.trans ((Ideal.multiReduction_add_single _ _ _ _ _ _).trans ?_)
  refine Finset.sum_congr rfl fun j _ => congrArg e (funext fun a => ?_)
  match a with
  | ⟨0, _⟩ => rfl
  | ⟨1, _⟩ => rfl
theorem sum4_apply (e : FVec Ideal S256x256 .f32) (y : Fin 256) : sum4 e (ix2 y 0) = ∑ j : Fin 256, e (ix2 y j) := by
  have e0 : sum4 e (ix2 y 0) = _ := shapeCast_a_a1_apply
    (multiReduction .add [1] S256 e 0x00000000#32 reduces_S256x256_S256 (.inl rfl) rfl : FVec Ideal S256 .f32) shapeCasts_S256_S256x1 y 0
  refine e0.trans ((Ideal.multiReduction_add_single _ _ _ _ _ _).trans ?_)
  refine Finset.sum_congr rfl fun j _ => congrArg e (funext fun a => ?_)
  match a with
  | ⟨0, _⟩ => rfl
  | ⟨1, _⟩ => rfl

end Cert.KProg

end
-- ==== Proof.KerValue.lean ====
/- The kernel's result read at an index, at the exact values. -/
module

public import proofs.«01_k».proof.Proof.KerPieces

@[expose] public section

noncomputable section

namespace Cert.KProg

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Row `y` of row block `r`. -/
abbrev rowRes (r : Fin 4) (y : Fin 256) : Fin 1024 := ⟨64 * r.val + 256 * (y.val / 64) + y.val % 64, by omega⟩
/-- Column `d` of head `h`. -/
abbrev colK (h : Fin 8) (d : Fin 128) : Fin 1024 := ⟨128 * h.val + d.val, by omega⟩

/-! ## The loads -/

theorem rows_apply (t : Bool) (c : Dev nD) (s : Fin 4) (h : Fin 8) (r i : Fin 4) (a : Fin 64) (d : Fin 128) :
    (rows m t c s h r i (ix2 a d) : EReal) = kvA m t (src c s) (ix4 0 ⟨64 * r.val + 256 * i.val + a.val, by omega⟩ (hd c h) d) := by
  unfold rows
  refine (shapeCast_apply _ _ (ix2 a d) (ix4 0 0 a d) ?_).trans ?_
  · rw [Shape.rowMajor_val_four, Shape.rowMajor_val_two]
    show ((0 * 1 + 0) * 64 + a.val) * 128 + d.val = a.val * 128 + d.val
    omega
  · have e : (kvR s h r i).emb (ix4 0 0 a d) = ix4 s h ⟨64 * r.val + 256 * i.val + a.val, by omega⟩ d :=
      unit_emb _ _ _ _ _ fun k => match k with
      | ⟨0, _⟩ => by show s.val + 0 = s.val; omega
      | ⟨1, _⟩ => by show h.val + 0 = h.val; omega
      | ⟨2, _⟩ => rfl
      | ⟨3, _⟩ => by show 0 + d.val = d.val; omega
    cases t
    · exact congrArg (allA m false c) e
    · exact congrArg (allA m true c) e

theorem kv4_apply (t : Bool) (c : Dev nD) (r : Fin 4) (h : Fin 8) (y : Fin 256) (d : Fin 128) :
    (kv4 m t c r h (ix2 y d) : EReal) = kvA m t (src c 1) (ix4 0 (rowRes r y) (hd c h) d) :=
  (stack4 (fun i => rows m t c 1 h r i) _ y d).trans (rows_apply m t c 1 h r _ _ d)

/-- The slots of the first pass, in the order stacked. -/
def slot : Fin 3 → Fin 4 := ![3, 0, 2]

theorem kv12_apply (t : Bool) (c : Dev nD) (r : Fin 4) (h : Fin 8) (s : Fin 3) (y : Fin 256) (d : Fin 128) :
    (kv12 m t c r h (ix2 (⟨256 * s.val + y.val, by omega⟩ : Fin 768) d) : EReal) = kvA m t (src c (slot s)) (ix4 0 (rowRes r y) (hd c h) d) := by
  have key : ∀ k : Fin 12, (![rows m t c 3 h r 0, rows m t c 3 h r 1, rows m t c 3 h r 2, rows m t c 3 h r 3,
      rows m t c 0 h r 0, rows m t c 0 h r 1, rows m t c 0 h r 2, rows m t c 0 h r 3,
      rows m t c 2 h r 0, rows m t c 2 h r 1, rows m t c 2 h r 2, rows m t c 2 h r 3] : Fin 12 → FVec Ideal S64x128 .bf16) k
        = rows m t c (slot ⟨k.val / 4, by omega⟩) h r ⟨k.val % 4, by omega⟩ := by
    intro k
    fin_cases k <;> exact congrArg₂ (fun s i => rows m t c s h r i) (by decide) (by decide)
  refine (stack12 _ _ _ _ _ _ _ _ _ _ _ _ _ ⟨256 * s.val + y.val, by omega⟩ d).trans ?_
  rw [key]
  refine (rows_apply m t c _ h r _ _ d).trans ?_
  have e1 : (⟨(256 * s.val + y.val) / 64 / 4, by omega⟩ : Fin 3) = s := Fin.ext (by show (256 * s.val + y.val) / 64 / 4 = s.val; omega)
  have e2 : (⟨64 * r.val + 256 * ((256 * s.val + y.val) / 64 % 4) + (256 * s.val + y.val) % 64, by omega⟩ : Fin 1024) = rowRes r y :=
    Fin.ext (by show 64 * r.val + 256 * ((256 * s.val + y.val) / 64 % 4) + (256 * s.val + y.val) % 64 = 64 * r.val + 256 * (y.val / 64) + y.val % 64; omega)
  show kvA m t (src c (slot ⟨(256 * s.val + y.val) / 64 / 4, _⟩)) (ix4 0 ⟨64 * r.val + 256 * ((256 * s.val + y.val) / 64 % 4) + (256 * s.val + y.val) % 64, _⟩ (hd c h) d) = _
  rw [e1, e2]

theorem qv_apply (c : Dev nD) (r : Fin 4) (h : Fin 8) (y : Fin 256) (d : Fin 128) :
    (qv m c r h (ix2 y d) : EReal) = ∑ n : Fin 1024, xA m c (ix2 (rowRes r y) n) * wqA m c (ix2 n (colK h d)) := by
  refine (stack4 (fun i => qM.view.readAt (Elt Ideal) (qR r h i).toLoadRect (qA m c)) _ y d).trans ?_
  have e : (qR r h ⟨y.val / 64, by omega⟩).emb (ix2 ⟨y.val % 64, by omega⟩ d) = ix2 (rowRes r y) (colK h d) :=
    unit_emb _ _ _ _ _ fun k => match k with
    | ⟨0, _⟩ => rfl
    | ⟨1, _⟩ => rfl
  exact (congrArg (qA m c) e).trans (qProj_apply _ _ _ _)

/-! ## The weights -/

/-- The exponential of the score of query `i` of device `c` and key `j` of device `d`, for head `h` of device `c`. -/
def sK (c : Dev nD) (h : Fin 8) (i : Fin 1024) (d : Dev nD) (j : Fin 1024) : EReal :=
  (∑ k : Fin 128, (∑ n : Fin 1024, xA m c (ix2 i n) * wqA m c (ix2 n (colK h k))) * kvA m false d (ix4 0 j (hd c h) k)) * scaleK

theorem e4_apply (c : Dev nD) (r : Fin 4) (h : Fin 8) (y j : Fin 256) :
    (ew4 (qv m c r h) (kv4 m false c r h) (ix2 y j) : EReal) = Ideal.exp (sK m c h (rowRes r y) (src c 1) (rowRes r j)) := by
  rw [ew4_apply, sK]
  simp only [qv_apply, kv4_apply]
theorem e12_apply (c : Dev nD) (r : Fin 4) (h : Fin 8) (y : Fin 256) (s : Fin 3) (j : Fin 256) :
    (ew12 (qv m c r h) (kv12 m false c r h) (ix2 y (⟨256 * s.val + j.val, by omega⟩ : Fin 768)) : EReal)
      = Ideal.exp (sK m c h (rowRes r y) (src c (slot s)) (rowRes r j)) := by
  rw [ew12_apply, sK]
  simp only [qv_apply, kv12_apply]

/-- A sum over 768 in three runs of 256. -/
theorem sum_768 (f : Fin 768 → EReal) : ∑ j, f j = ∑ s : Fin 3, ∑ y : Fin 256, f ⟨256 * s.val + y.val, by omega⟩ := by
  rw [← Equiv.sum_comp (finProdFinEquiv (m := 3) (n := 256)) f, Fintype.sum_prod_type]
  refine Finset.sum_congr rfl fun s _ => Finset.sum_congr rfl fun y _ => congrArg f (Fin.ext ?_)
  show y.val + 256 * s.val = 256 * s.val + y.val
  omega

/-- The four slots hold the four devices' rows. -/
theorem sum_src (c : Dev nD) (g : Dev nD → EReal) : (∑ s : Fin 3, g (src c (slot s))) + g (src c 1) = ∑ d, g d := by
  have e : ∀ d : Dev nD, d = 0 ∨ d = 1 ∨ d = 2 ∨ d = 3 := by decide
  have e3 : ∀ f : Fin 3 → EReal, ∑ s, f s = f 0 + f 1 + f 2 := Fin.sum_univ_three
  have e4 : (∑ d : Dev nD, g d) = g 0 + g 1 + g 2 + g 3 := Fin.sum_univ_four (f := g)
  rw [e3, e4]
  rcases e c with rfl | rfl | rfl | rfl
  · show g 0 + g 3 + g 1 + g 2 = _; ac_rfl
  · show g 1 + g 0 + g 2 + g 3 = _; ac_rfl
  · show g 2 + g 1 + g 3 + g 0 = _; ac_rfl
  · show g 3 + g 2 + g 0 + g 1 = _; ac_rfl

/-- The weighted values of query row `i`, row block `r`, head `h`, coordinate `d`; and the sum of the weights. -/
def numK (c : Dev nD) (r : Fin 4) (h : Fin 8) (i : Fin 1024) (d : Fin 128) : EReal :=
  ∑ e : Dev nD, ∑ j : Fin 256, Ideal.exp (sK m c h i e (rowRes r j)) * kvA m true e (ix4 0 (rowRes r j) (hd c h) d)
def denK (c : Dev nD) (r : Fin 4) (h : Fin 8) (i : Fin 1024) : EReal :=
  ∑ e : Dev nD, ∑ j : Fin 256, Ideal.exp (sK m c h i e (rowRes r j))

theorem blkA_apply (c : Dev nD) (r : Fin 4) (h : Fin 8) (y : Fin 256) (d : Fin 128) :
    (blkA m c r h (ix2 y d) : EReal)
      = ∑ s : Fin 3, ∑ j : Fin 256, Ideal.exp (sK m c h (rowRes r y) (src c (slot s)) (rowRes r j)) * kvA m true (src c (slot s)) (ix4 0 (rowRes r j) (hd c h) d) := by
  unfold blkA
  rw [pv12_apply, sum_768]
  refine Finset.sum_congr rfl fun s _ => Finset.sum_congr rfl fun j _ => ?_
  rw [e12_apply, kv12_apply]
theorem sumA_apply (c : Dev nD) (r : Fin 4) (h : Fin 8) (y : Fin 256) :
    (sumA m c r h (ix2 y 0) : EReal) = ∑ s : Fin 3, ∑ j : Fin 256, Ideal.exp (sK m c h (rowRes r y) (src c (slot s)) (rowRes r j)) := by
  unfold sumA
  rw [sum12_apply, sum_768]
  refine Finset.sum_congr rfl fun s _ => Finset.sum_congr rfl fun j _ => ?_
  rw [e12_apply]
theorem sumB_apply (c : Dev nD) (r : Fin 4) (h : Fin 8) (y : Fin 256) :
    (sumB m c r h (ix2 y 0) : EReal) = ∑ j : Fin 256, Ideal.exp (sK m c h (rowRes r y) (src c 1) (rowRes r j)) := by
  unfold sumB
  rw [sum4_apply]
  exact Finset.sum_congr rfl fun j _ => e4_apply m c r h y j

/-- A block read back. -/
theorem ctx_read (g : Fin 4 → Fin 8 → FVec Ideal S256x128 .f32) (r : Fin 4) (h : Fin 8) :
    (xvM.view.readAt (Elt Ideal) (ctxR r h).toLoadRect (ofBlk g) : FVec Ideal S256x128 .f32) = g r h :=
  (ofBlk_read g r h).symm.trans (shapeCast_self _ _)
theorem ls_read (g : Fin 4 → FVec Ideal S256x8 .f32) (r : Fin 4) :
    shapeCast S256x8 (lsM.view.readAt (Elt Ideal) (lsR r).toLoadRect (ofLs g)) shapeCasts_S1x256x8_S256x8 = g r := by
  have e : lsM.view.readAt (Elt Ideal) (lsR r).toLoadRect (ofLs g) = shapeCast S1x256x8 (g r) shapeCasts_S256x8_S1x256x8 := (ofLs_read g r).symm
  rw [e]
  exact shapeCast_shapeCast _ _ _

theorem blkB_apply (c : Dev nD) (r : Fin 4) (h : Fin 8) (y : Fin 256) (d : Fin 128) :
    (blkB m c r h (ix2 y d) : EReal) = numK m c r h (rowRes r y) d := by
  have e0 : blkB m c r h = addf (blkA m c r h) (pv4 (ew4 (qv m c r h) (kv4 m false c r h)) (kv4 m true c r h)) := by
    unfold blkB
    exact congrArg (fun z => addf z _) (ctx_read (blkA m c) r h)
  have e1 : (blkB m c r h (ix2 y d) : EReal) = (blkA m c r h (ix2 y d) : EReal) + (pv4 (ew4 (qv m c r h) (kv4 m false c r h)) (kv4 m true c r h) (ix2 y d) : EReal) := by
    rw [e0]; rfl
  rw [e1, blkA_apply, pv4_apply, numK, ← sum_src c]
  refine congrArg (_ + ·) (Finset.sum_congr rfl fun j _ => ?_)
  rw [e4_apply, kv4_apply]
theorem lsBlkB_apply (c : Dev nD) (r : Fin 4) (y : Fin 256) (h : Fin 8) :
    (lsBlkB m c r (ix2 y h) : EReal) = denK m c r h (rowRes r y) := by
  have e0 : lsBlkB m c r = addf (lsBlkA m c r)
      (cols (sumB m c r 0) (sumB m c r 1) (sumB m c r 2) (sumB m c r 3) (sumB m c r 4) (sumB m c r 5) (sumB m c r 6) (sumB m c r 7)) := by
    unfold lsBlkB
    exact congrArg (fun z => addf z _) (ls_read (lsBlkA m c) r)
  have e1 : (lsBlkB m c r (ix2 y h) : EReal) = (sumA m c r h (ix2 y 0) : EReal) + (sumB m c r h (ix2 y 0) : EReal) := by
    rw [e0, ← cols_apply (sumA m c r), ← cols_apply (sumB m c r)]; rfl
  rw [e1, sumA_apply, sumB_apply, denK, ← sum_src c]

/-! ## The shares and the result -/

/-- Device `c`'s share at row `y` of row block `r`. -/
def shareK (c : Dev nD) (r : Fin 4) (i : Fin 1024) (n : Fin 1024) : EReal :=
  ∑ t : Fin 1024, Ideal.div (numK m c r (headOf t) i (inHead t)) (denK m c r (headOf t) i) * woA m c (ix2 t n)

theorem poBlk_apply (c : Dev nD) (r : Fin 4) (y : Fin 256) (n : Fin 1024) : (poBlk m c r (ix2 y n) : EReal) = shareK m c r (rowRes r y) n := by
  have e0 : poBlk m c r = oProj (ctx (blkB m c r 0) (blkB m c r 1) (blkB m c r 2) (blkB m c r 3) (blkB m c r 4) (blkB m c r 5) (blkB m c r 6) (blkB m c r 7)
      (lsBlkB m c r)) (woA m c) := by
    unfold poBlk
    have e : ∀ h, ctxV m c r h = blkB m c r h := fun h => ctx_read (blkB m c) r h
    have e' : shapeCast S256x8 (lsM.view.readAt (Elt Ideal) (lsR r).toLoadRect (lsB m c)) shapeCasts_S1x256x8_S256x8 = lsBlkB m c r := ls_read (lsBlkB m c) r
    rw [e', e, e, e, e, e, e, e, e]
  rw [e0, oProj_apply, shareK]
  refine Finset.sum_congr rfl fun t _ => congrArg (· * _) ?_
  rw [ctx_apply (blkB m c r), blkB_apply, lsBlkB_apply]

theorem prV_apply (c : Dev nD) (d : Fin 3) (p n : Fin 1024) :
    (prV m c d (ix2 p n) : EReal) = shareK m (src c ⟨d.val, by omega⟩) (rowOf p) (rowRes (rowOf p) (inRow p)) n := by
  rw [← poBlk_apply]
  unfold prV
  refine (shapeCast_apply _ _ (ix2 p n) (ix3 (rowOf p) (inRow p) n) ?_).trans ?_
  · rw [Shape.rowMajor_val_three, Shape.rowMajor_val_two]
    show (p.val / 256 * 256 + p.val % 256) * 1024 + n.val = p.val * 1024 + n.val
    omega
  have e0 : (prM.view.readAt (Elt Ideal) (Rect.unit (s := S3x4x256x1024) ![d.val, 0, 0, 0] S1x4x256x1024.size (inb_pall d)).toLoadRect (prA m c)
      (ix4 0 (rowOf p) (inRow p) n) : EReal) = prA m c (ix4 d (rowOf p) (inRow p) n) :=
    congrArg (prA m c) (unit_emb _ _ _ _ _ fun k => match k with
      | ⟨0, _⟩ => by show d.val + 0 = d.val; omega
      | ⟨1, _⟩ => by show 0 + p.val / 256 = p.val / 256; omega
      | ⟨2, _⟩ => by show 0 + p.val % 256 = p.val % 256; omega
      | ⟨3, _⟩ => by show 0 + n.val = n.val; omega)
  exact (shapeCast_1abc_abc_apply _ _ (rowOf p) (inRow p) n).trans e0

theorem poA_apply (c : Dev nD) (p n : Fin 1024) : (poA m c (ix2 p n) : EReal) = shareK m c (rowOf p) (rowRes (rowOf p) (inRow p)) n :=
  poBlk_apply m c (rowOf p) (inRow p) n

/-- The row block of row `i` of the result. -/
abbrev resOf (i : Fin 1024) : Fin 4 := ⟨i.val % 256 / 64, by omega⟩

theorem resC_apply (c : Dev nD) (i n : Fin 1024) : (resC m c (ix3 0 i n) : EReal) = ∑ d : Dev nD, shareK m d (resOf i) i n := by
  have er : rowOf (rowPerm i) = resOf i := Fin.ext (by show (256 * (i.val % 256 / 64) + 64 * (i.val / 256) + i.val % 64) / 256 = i.val % 256 / 64; omega)
  have ei : rowRes (resOf i) (inRow (rowPerm i)) = i := Fin.ext (by
    show 64 * (i.val % 256 / 64) + 256 * ((256 * (i.val % 256 / 64) + 64 * (i.val / 256) + i.val % 64) % 256 / 64)
      + (256 * (i.val % 256 / 64) + 64 * (i.val / 256) + i.val % 64) % 256 % 64 = i.val
    omega)
  have e0 : (resC m c (ix3 0 i n) : EReal) = (poA m c (ix2 (rowPerm i) n) : EReal) + (prV m c 0 (ix2 (rowPerm i) n) : EReal)
      + (prV m c 1 (ix2 (rowPerm i) n) : EReal) + (prV m c 2 (ix2 (rowPerm i) n) : EReal) := rfl
  rw [e0, poA_apply, prV_apply, prV_apply, prV_apply, er, ei, ← sum_src c]
  have e3 : ∀ f : Fin 3 → EReal, ∑ s, f s = f 0 + f 1 + f 2 := Fin.sum_univ_three
  rw [e3]
  have es : src c (slot 0) = c := src_self c
  rw [es]
  show shareK m c (resOf i) i n + shareK m (src c 0) (resOf i) i n + shareK m (src c 1) (resOf i) i n + shareK m (src c 2) (resOf i) i n
    = shareK m c (resOf i) i n + shareK m (src c 0) (resOf i) i n + shareK m (src c 2) (resOf i) i n + shareK m (src c 1) (resOf i) i n
  ac_rfl

end Cert.KProg

end
-- ==== Proof.RefTerm.lean ====
/- The reference's result, its steps named one by one as in the problem's text. -/
module

public import proofs.«01_k».proof.Proof.Gen.ReferenceIdeal.Run

@[expose] public section

noncomputable section

namespace Cert.KRef

open Cert.ReferenceIdeal Cert.ReferenceIdeal.Gen
open Idealize.ShloMosaic Idealize.ShloMosaic.TcCoe Idealize.SL.Sem

variable {F : FTy → Type} [FloatOps F]

/-! ## The mask -/

/-- Each word over 64, rounded down. -/
def quot64 (S : Shape) (h : S_.BroadcastsInDim S ![]) (v : IVec S 32) : IVec S 32 :=
  select (andi (cmpi .ne (signi v) (broadcastInDim S ![] h (signi (id (constantI S_ 32 64#32)))))
    (cmpi .ne (Host.remsi v (broadcastInDim S ![] h (id (constantI S_ 32 64#32)))) (broadcastInDim S ![] h (constantI S_ 32 0#32))))
    (subi (Host.divsi v (broadcastInDim S ![] h (id (constantI S_ 32 64#32)))) (broadcastInDim S ![] h (constantI S_ 32 1#32)))
    (Host.divsi v (broadcastInDim S ![] h (id (constantI S_ 32 64#32))))

/-- The divisor 4, as the remainder's code guards it against zero. -/
def four : IVec S_ 32 := select (cmpi .eq (id (constantI S_ 32 4#32)) (constantI S_ 32 0#32)) (constantI S_ 32 1#32) (id (constantI S_ 32 4#32))

/-- Each word's remainder by 4, of the divisor's sign. -/
def rem4 (S : Shape) (h : S_.BroadcastsInDim S ![]) (v : IVec S 32) : IVec S 32 :=
  select (andi (cmpi .ne (cmpi .slt (Host.remsi v (broadcastInDim S ![] h four)) (broadcastInDim S ![] h (constantI S_ 32 0#32)))
      (broadcastInDim S ![] h (cmpi .slt four (constantI S_ 32 0#32))))
    (cmpi .ne (Host.remsi v (broadcastInDim S ![] h four)) (broadcastInDim S ![] h (constantI S_ 32 0#32))))
    (addi (Host.remsi v (broadcastInDim S ![] h four)) (broadcastInDim S ![] h four))
    (Host.remsi v (broadcastInDim S ![] h four))

/-- The query's block, down the rows. -/
def qb : IVec S1024x1 32 := broadcastInDim S1024x1 ![0] bcast_S1024_S1024x1_0 (quot64 S1024 bcast_S_S1024 (iotaInDim S1024 32 0))
/-- The key's block, along the columns. -/
def kb : IVec S1x4096 32 := broadcastInDim S1x4096 ![1] bcast_S4096_S1x4096_1 (quot64 S4096 bcast_S_S4096 (iotaInDim S4096 32 0))

def mask : IVec S1024x4096 1 :=
  ori (cmpi .eq (broadcastInDim S1024x4096 ![0, 1] bcast_S1024x1_S1024x4096_0_1 qb) (broadcastInDim S1024x4096 ![0, 1] bcast_S1x4096_S1024x4096_0_1 kb))
    (cmpi .eq (broadcastInDim S1024x4096 ![0, 1] bcast_S1x4096_S1024x4096_0_1 (rem4 S1x4096 bcast_S_S1x4096 kb))
      (broadcastInDim S1024x4096 ![0, 1] bcast_S1024x1_S1024x4096_0_1 (rem4 S1024x1 bcast_S_S1024x1 qb)))

/-- Whether a row of the mask has an entry at all. -/
def keepRow : IVec S1024 1 := Host.reduce IntOp.ori mask (constantI S_ 1 0#1) reducesTo_S1024x4096_S1024_d1 h_S_

/-! ## The attention -/

/-- The queries, by head. -/
def qR (x : FVec F S1x1024x1024 .f32) (wq : FVec F S1024x4096 .f32) : FVec F S1x1024x32x128 .f32 :=
  shapeCast S1x1024x32x128 (Host.dotGeneral dot_S1x1024x1024_S1024x4096_S1x1024x4096_2_0_01_1_n_n none x wq) shapeCasts_S1x1024x4096_S1x1024x32x128

/-- The scaled scores. -/
def scR (q : FVec F S1x1024x32x128 .f32) (k : FVec F S1x4096x32x128 .f32) : FVec F S1x32x1024x4096 .f32 :=
  mulf (Host.dotGeneral dot_S1x1024x32x128_S1x4096x32x128_S1x32x1024x4096_3_3_1_1_02_02 none q k)
    (broadcastInDim S1x32x1024x4096 ![] bcast_S_S1x32x1024x4096 (constant S_ .f32 0x3DB504F3#32))

/-- The scores under the mask. -/
def msR (s : FVec F S1x32x1024x4096 .f32) : FVec F S1x32x1024x4096 .f32 :=
  select (broadcastInDim S1x32x1024x4096 ![0, 1, 2, 3] bcast_S1x1x1024x4096_S1x32x1024x4096_0_1_2_3
    (broadcastInDim S1x1x1024x4096 ![2, 3] bcast_S1024x4096_S1x1x1024x4096_2_3 mask)) s
    (broadcastInDim S1x32x1024x4096 ![] bcast_S_S1x32x1024x4096 (id (constant S_ .f32 0xFF800000#32)))

/-- A value of each row, along the row. -/
def alongR (v : FVec F S1x32x1024x1 .f32) : FVec F S1x32x1024x4096 .f32 :=
  broadcastInDim S1x32x1024x4096 ![0, 1, 2, 3] bcast_S1x32x1024x1_S1x32x1024x4096_0_1_2_3 v
def colR (v : FVec F S1x32x1024 .f32) : FVec F S1x32x1024x1 .f32 :=
  broadcastInDim S1x32x1024x1 ![0, 1, 2] bcast_S1x32x1024_S1x32x1024x1_0_1_2 v

/-- The greatest masked score of each row. -/
def mxR (s : FVec F S1x32x1024x4096 .f32) : FVec F S1x32x1024 .f32 :=
  Host.reduce FloatOps.maximumf s (constant S_ .f32 0xFF800000#32) reducesTo_S1x32x1024x4096_S1x32x1024_d3 h_S_

/-- The exponentials of the masked scores, shifted by their greatest. -/
def exR (s : FVec F S1x32x1024x4096 .f32) : FVec F S1x32x1024x4096 .f32 := Host.exp (subf s (alongR (colR (mxR s))))

/-- Their row sums, 1 on a row without entries. -/
def smR (e : FVec F S1x32x1024x4096 .f32) : FVec F S1x32x1024x1 .f32 :=
  select (broadcastInDim S1x32x1024x1 ![0, 1, 2, 3] bcast_S1x1x1024x1_S1x32x1024x1_0_1_2_3
    (broadcastInDim S1x1x1024x1 ![2] bcast_S1024_S1x1x1024x1_2 keepRow))
    (colR (Host.reduceAdd e (constant S_ .f32 0x00000000#32) reducesTo_S1x32x1024x4096_S1x32x1024_d3 h_S_))
    (broadcastInDim S1x32x1024x1 ![] bcast_S_S1x32x1024x1 (id (constant S_ .f32 0x3F800000#32)))

/-- The weights. -/
def wtR (e : FVec F S1x32x1024x4096 .f32) : FVec F S1x32x1024x4096 .f32 :=
  select (broadcastInDim S1x32x1024x4096 ![0, 1, 2, 3] bcast_S1x1x1024x1_S1x32x1024x4096_0_1_2_3
    (broadcastInDim S1x1x1024x1 ![2] bcast_S1024_S1x1x1024x1_2 keepRow))
    (Host.divf e (alongR (smR e)))
    (broadcastInDim S1x32x1024x4096 ![] bcast_S_S1x32x1024x4096 (id (constant S_ .f32 0x00000000#32)))

/-- The weighted values, heads side by side. -/
def cxR (w : FVec F S1x32x1024x4096 .f32) (v : FVec F S1x4096x32x128 .f32) : FVec F S1x1024x4096 .f32 :=
  shapeCast S1x1024x4096 (transpose S1x1024x32x128 [0, 3, 1, 2]
    (Host.dotGeneral dot_S1x4096x32x128_S1x32x1024x4096_S1x32x128x1024_1_3_3_2_02_01 none v w : FVec F S1x32x128x1024 .f32)
    transposes_S1x32x128x1024_S1x1024x32x128_0_3_1_2) shapeCasts_S1x1024x32x128_S1x1024x4096

def outR (x : FVec F S1x1024x1024 .f32) (wq : FVec F S1024x4096 .f32) (k v : FVec F S1x4096x32x128 .f32) (wo : FVec F S4096x1024 .f32) :
    FVec F S1x1024x1024 .f32 :=
  Host.dotGeneral dot_S1x1024x4096_S4096x1024_S1x1024x1024_2_0_01_1_n_n none (cxR (wtR (exR (msR (scR (qR x wq) k)))) v) wo

set_option maxRecDepth 8192 in
/-- What the reference's run leaves is this function of its arguments. -/
theorem res_eq (m : (ℓ : Loc nD τ sig) → Buf (Elt F) ℓ) (c : Dev nD) :
    Cert.ReferenceIdeal.Value.res_main_v39 m c = outR (m ((c : Thread nD τ).loc main_arg0)) (m ((c : Thread nD τ).loc main_arg1))
      (m ((c : Thread nD τ).loc main_arg2)) (m ((c : Thread nD τ).loc main_arg3)) (m ((c : Thread nD τ).loc main_arg4)) := by
  unfold Cert.ReferenceIdeal.Value.res_main_v39 outR cxR wtR smR exR mxR colR alongR msR scR qR keepRow mask kb qb rem4 four quot64
  rfl

end Cert.KRef

end
-- ==== Proof.RefMask.lean ====
/- The reference's mask: a query sees the keys whose block of 64 stands at its own block's place among four. -/
module

public import proofs.«01_k».proof.Proof.RefTerm
public import Idealize.ShloMosaic.Lib.ValueIdxCore
public import Idealize.ShloMosaic.Lib.Pipeline.Value
public import Idealize.ShloMosaic.PureOps.Reduce
public import Idealize.ShloMosaic.PureOps.Ideal.Laws

@[expose] public section

noncomputable section

namespace Cert.KRef

open Cert.ReferenceIdeal Cert.ReferenceIdeal.Gen
open Idealize.ShloMosaic Idealize.ShloMosaic.TcCoe Idealize.ShloMosaic.ValueIdx

theorem bcast_scalar : S_.BroadcastsInDim S_ ![] := by decide

/-- One word over 64. -/
def q64 (w : BitVec 32) : BitVec 32 := quot64 S_ bcast_scalar (fun _ => w) ix0
/-- One word's remainder by 4. -/
def r4 (w : BitVec 32) : BitVec 32 := rem4 S_ bcast_scalar (fun _ => w) ix0

theorem quot64_apply (S : Shape) (h : S_.BroadcastsInDim S ![]) (v : IVec S 32) (j : S.Idx) : quot64 S h v j = q64 (v j) := rfl
theorem rem4_apply (S : Shape) (h : S_.BroadcastsInDim S ![]) (v : IVec S 32) (j : S.Idx) : rem4 S h v j = r4 (v j) := rfl

theorem q64_eq : ∀ i : Fin 4096, q64 (BitVec.ofNat 32 i.val) = BitVec.ofNat 32 (i.val / 64) := by decide +kernel
theorem r4_eq : ∀ i : Fin 64, r4 (BitVec.ofNat 32 i.val) = BitVec.ofNat 32 (i.val % 4) := by decide +kernel

theorem qb_apply (i : Fin 1024) : qb (ix2 i 0) = BitVec.ofNat 32 (i.val / 64) := by
  have e := broadcastInDim_apply ![0] bcast_S1024_S1024x1_0 (quot64 S1024 bcast_S_S1024 (iotaInDim S1024 32 0)) (ix2 i 0) (ix1 i)
    (fun a => by match a with | ⟨0, _⟩ => rfl)
  exact e.trans (q64_eq ⟨i.val, by omega⟩)
theorem kb_apply (j : Fin 4096) : kb (ix2 0 j) = BitVec.ofNat 32 (j.val / 64) := by
  have e := broadcastInDim_apply ![1] bcast_S4096_S1x4096_1 (quot64 S4096 bcast_S_S4096 (iotaInDim S4096 32 0)) (ix2 0 j) (ix1 j)
    (fun a => by match a with | ⟨0, _⟩ => rfl)
  exact e.trans (q64_eq j)

/-- A column's entry of each row, and a row's entry of each column. -/
theorem down_apply (v : IVec S1024x1 32) (i : Fin 1024) (j : Fin 4096) :
    broadcastInDim S1024x4096 ![0, 1] bcast_S1024x1_S1024x4096_0_1 v (ix2 i j) = v (ix2 i 0) :=
  broadcastInDim_apply ![0, 1] bcast_S1024x1_S1024x4096_0_1 v (ix2 i j) (ix2 i 0) (fun a => by match a with | ⟨0, _⟩ => rfl | ⟨1, _⟩ => rfl)
theorem across_apply (v : IVec S1x4096 32) (i : Fin 1024) (j : Fin 4096) :
    broadcastInDim S1024x4096 ![0, 1] bcast_S1x4096_S1024x4096_0_1 v (ix2 i j) = v (ix2 0 j) :=
  broadcastInDim_apply ![0, 1] bcast_S1x4096_S1024x4096_0_1 v (ix2 i j) (ix2 0 j) (fun a => by match a with | ⟨0, _⟩ => rfl | ⟨1, _⟩ => rfl)

/-- Query `i` sees key `j`. -/
def Sees (i : Fin 1024) (j : Fin 4096) : Prop := j.val / 64 % 4 = i.val / 64 % 4
instance (i : Fin 1024) : DecidablePred (Sees i) := fun j => inferInstanceAs (Decidable (j.val / 64 % 4 = i.val / 64 % 4))

theorem or_eq_words : ∀ a b : Fin 64, (IntOp.ori (IntOp.cmpi .eq (BitVec.ofNat 32 a.val) (BitVec.ofNat 32 b.val))
      (IntOp.cmpi .eq (BitVec.ofNat 32 (b.val % 4)) (BitVec.ofNat 32 (a.val % 4))) : BitVec 1)
    = if b.val % 4 = a.val % 4 then 1#1 else 0#1 := by decide +kernel

theorem mask_apply (i : Fin 1024) (j : Fin 4096) : mask (ix2 i j) = if Sees i j then 1#1 else 0#1 := by
  have e : mask (ix2 i j) = IntOp.ori (IntOp.cmpi .eq (qb (ix2 i 0)) (kb (ix2 0 j)))
      (IntOp.cmpi .eq (rem4 S1x4096 bcast_S_S1x4096 kb (ix2 0 j)) (rem4 S1024x1 bcast_S_S1024x1 qb (ix2 i 0))) := by
    rw [← down_apply qb i j, ← across_apply kb i j, ← across_apply (rem4 S1x4096 bcast_S_S1x4096 kb) i j,
      ← down_apply (rem4 S1024x1 bcast_S_S1024x1 qb) i j]; rfl
  have hi := i.isLt
  have hj := j.isLt
  have ei := r4_eq ⟨i.val / 64, by omega⟩
  have ej := r4_eq ⟨j.val / 64, by omega⟩
  rw [e, rem4_apply, rem4_apply, qb_apply, kb_apply, ei, ej]
  exact or_eq_words ⟨i.val / 64, by omega⟩ ⟨j.val / 64, by omega⟩

instance {w : ℕ} : Std.Commutative (IntOp.ori (w := w)) := ⟨fun a b => BitVec.or_comm a b⟩
instance {w : ℕ} : Std.Associative (IntOp.ori (w := w)) := ⟨fun a b c => BitVec.or_assoc a b c⟩

/-- Words or-ed together are 1 when one of them is. -/
theorem fold_ori_one {J : Type} (t : Finset J) (f : J → BitVec 1) (h : ∃ j ∈ t, f j = 1#1) : t.fold IntOp.ori 0#1 f = 1#1 := by
  classical
  have or1 : ∀ a : BitVec 1, IntOp.ori a 1#1 = 1#1 := by decide
  have or1' : ∀ a : BitVec 1, IntOp.ori 1#1 a = 1#1 := by decide
  induction t using Finset.induction_on with
  | empty => obtain ⟨j, hj, _⟩ := h; simp at hj
  | insert a t ha ih =>
    rw [Finset.fold_insert ha]
    obtain ⟨j, hj, e⟩ := h
    rcases Finset.mem_insert.mp hj with rfl | hj
    · rw [e, or1']
    · rw [ih ⟨j, hj, e⟩, or1]

/-- The row's reduction: the row's index with a column inserted. -/
theorem reduces_row : S1024x4096.Reduces [1] S1024 := by decide
theorem lift_row (i : Fin 1024) (j : Fin 4096) : reduces_row.lift (ix1 i) j = ix2 i j := by
  funext a
  match a with
  | ⟨0, _⟩ => rfl
  | ⟨1, _⟩ => rfl

/-- Every row of the mask has an entry. -/
theorem keepRow_apply (i : Fin 1024) : keepRow (ix1 i) = 1#1 := by
  unfold keepRow
  rw [Host.reduce_eq_fold_single IntOp.ori mask (constantI S_ 1 0#1) reducesTo_S1024x4096_S1024_d1 reduces_row h_S_ (ix1 i)]
  refine fold_ori_one _ _ ⟨(⟨i.val, by have := i.isLt; show i.val < 4096; omega⟩ : Fin 4096), Finset.mem_univ _, ?_⟩
  show mask (reduces_row.lift (ix1 i) _) = 1#1
  rw [lift_row, mask_apply]
  exact if_pos rfl

end Cert.KRef

end
-- ==== Proof.RefValue.lean ====
/- The reference's result read at an index, at the exact values. -/
module

public import proofs.«01_k».proof.Proof.RefMask
public import proofs.«01_k».proof.Proof.Soft
public import Idealize.ShloMosaic.Lib.IdealHost
public import Idealize.ShloMosaic.Lib.ValueLayout

@[expose] public section

noncomputable section

namespace Cert.KRef

open Cert.ReferenceIdeal Cert.ReferenceIdeal.Gen
open Idealize.ShloMosaic Idealize.ShloMosaic.TcCoe Idealize.ShloMosaic.ValueIdx

/-! ## The four products -/

theorem dot_q (A : FVec Ideal S1x1024x1024 .f32) (B : FVec Ideal S1024x4096 .f32) (i : Fin 1024) (n : Fin 4096) :
    Host.dotGeneral dot_S1x1024x1024_S1024x4096_S1x1024x4096_2_0_01_1_n_n none A B (ix3 0 i n) = ∑ k : Fin 1024, A (ix3 0 i k) * B (ix2 k n) := by
  show FloatOps.dotGeneral _ none _ A B _ = _
  rw [Ideal.dotGeneral_apply, ← Equiv.sum_comp (contrEquiv1 dot_S1x1024x1024_S1024x4096_S1x1024x4096_2_0_01_1_n_n 1024 rfl rfl).symm]
  refine Finset.sum_congr rfl fun k _ => ?_
  have hk := contrEquiv1_symm_val dot_S1x1024x1024_S1024x4096_S1x1024x4096_2_0_01_1_n_n 1024 rfl rfl k
  congr 1
  · refine congrArg A (funext fun a => Fin.ext ?_)
    match a with
    | ⟨0, _⟩ => rfl
    | ⟨1, _⟩ => rfl
    | ⟨2, _⟩ => exact hk
  · refine congrArg B (funext fun a => Fin.ext ?_)
    match a with
    | ⟨0, _⟩ => exact hk
    | ⟨1, _⟩ => rfl

theorem dot_out (A : FVec Ideal S1x1024x4096 .f32) (B : FVec Ideal S4096x1024 .f32) (i : Fin 1024) (n : Fin 1024) :
    Host.dotGeneral dot_S1x1024x4096_S4096x1024_S1x1024x1024_2_0_01_1_n_n none A B (ix3 0 i n) = ∑ k : Fin 4096, A (ix3 0 i k) * B (ix2 k n) := by
  show FloatOps.dotGeneral _ none _ A B _ = _
  rw [Ideal.dotGeneral_apply, ← Equiv.sum_comp (contrEquiv1 dot_S1x1024x4096_S4096x1024_S1x1024x1024_2_0_01_1_n_n 4096 rfl rfl).symm]
  refine Finset.sum_congr rfl fun k _ => ?_
  have hk := contrEquiv1_symm_val dot_S1x1024x4096_S4096x1024_S1x1024x1024_2_0_01_1_n_n 4096 rfl rfl k
  congr 1
  · refine congrArg A (funext fun a => Fin.ext ?_)
    match a with
    | ⟨0, _⟩ => rfl
    | ⟨1, _⟩ => rfl
    | ⟨2, _⟩ => exact hk
  · refine congrArg B (funext fun a => Fin.ext ?_)
    match a with
    | ⟨0, _⟩ => exact hk
    | ⟨1, _⟩ => rfl

theorem dot_score (A : FVec Ideal S1x1024x32x128 .f32) (B : FVec Ideal S1x4096x32x128 .f32) (H : Fin 32) (i : Fin 1024) (J : Fin 4096) :
    Host.dotGeneral dot_S1x1024x32x128_S1x4096x32x128_S1x32x1024x4096_3_3_1_1_02_02 none A B (ix4 0 H i J)
      = ∑ d : Fin 128, A (ix4 0 i H d) * B (ix4 0 J H d) := by
  show FloatOps.dotGeneral _ none _ A B _ = _
  rw [Ideal.dotGeneral_apply, ← Equiv.sum_comp (contrEquiv1 dot_S1x1024x32x128_S1x4096x32x128_S1x32x1024x4096_3_3_1_1_02_02 128 rfl rfl).symm]
  refine Finset.sum_congr rfl fun k _ => ?_
  have hk := contrEquiv1_symm_val dot_S1x1024x32x128_S1x4096x32x128_S1x32x1024x4096_3_3_1_1_02_02 128 rfl rfl k
  congr 1
  · refine congrArg A (funext fun a => Fin.ext ?_)
    match a with
    | ⟨0, _⟩ => rfl
    | ⟨1, _⟩ => rfl
    | ⟨2, _⟩ => rfl
    | ⟨3, _⟩ => exact hk
  · refine congrArg B (funext fun a => Fin.ext ?_)
    match a with
    | ⟨0, _⟩ => rfl
    | ⟨1, _⟩ => rfl
    | ⟨2, _⟩ => rfl
    | ⟨3, _⟩ => exact hk

theorem dot_ctx (A : FVec Ideal S1x4096x32x128 .f32) (B : FVec Ideal S1x32x1024x4096 .f32) (H : Fin 32) (d : Fin 128) (i : Fin 1024) :
    Host.dotGeneral dot_S1x4096x32x128_S1x32x1024x4096_S1x32x128x1024_1_3_3_2_02_01 none A B (ix4 0 H d i)
      = ∑ J : Fin 4096, A (ix4 0 J H d) * B (ix4 0 H i J) := by
  show FloatOps.dotGeneral _ none _ A B _ = _
  rw [Ideal.dotGeneral_apply, ← Equiv.sum_comp (contrEquiv1 dot_S1x4096x32x128_S1x32x1024x4096_S1x32x128x1024_1_3_3_2_02_01 4096 rfl rfl).symm]
  refine Finset.sum_congr rfl fun k _ => ?_
  have hk := contrEquiv1_symm_val dot_S1x4096x32x128_S1x32x1024x4096_S1x32x128x1024_1_3_3_2_02_01 4096 rfl rfl k
  congr 1
  · refine congrArg A (funext fun a => Fin.ext ?_)
    match a with
    | ⟨0, _⟩ => rfl
    | ⟨1, _⟩ => exact hk
    | ⟨2, _⟩ => rfl
    | ⟨3, _⟩ => rfl
  · refine congrArg B (funext fun a => Fin.ext ?_)
    match a with
    | ⟨0, _⟩ => rfl
    | ⟨1, _⟩ => rfl
    | ⟨2, _⟩ => rfl
    | ⟨3, _⟩ => exact hk

/-! ## The scores -/

/-- The factor of the scores. -/
def scale : EReal := Ideal.ofBits .f32 0x3DB504F3#32

/-- Column `d` of head `H`. -/
abbrev col (H : Fin 32) (d : Fin 128) : Fin 4096 := ⟨128 * H.val + d.val, by omega⟩

variable (x : FVec Ideal S1x1024x1024 .f32) (wq : FVec Ideal S1024x4096 .f32) (k v : FVec Ideal S1x4096x32x128 .f32) (wo : FVec Ideal S4096x1024 .f32)

/-- The score of query `i` and key `J` for head `H`. -/
def score (H : Fin 32) (i : Fin 1024) (J : Fin 4096) : EReal :=
  (∑ d : Fin 128, (∑ n : Fin 1024, x (ix3 0 i n) * wq (ix2 n (col H d))) * k (ix4 0 J H d)) * scale

theorem qR_apply (i : Fin 1024) (H : Fin 32) (d : Fin 128) : qR x wq (ix4 0 i H d) = ∑ n : Fin 1024, x (ix3 0 i n) * wq (ix2 n (col H d)) := by
  rw [← dot_q]
  refine shapeCast_apply _ _ _ _ ?_
  rw [Shape.rowMajor_val_three, Shape.rowMajor_val_four]
  show (0 * 1024 + i.val) * 4096 + (128 * H.val + d.val) = ((0 * 1024 + i.val) * 32 + H.val) * 128 + d.val
  omega

theorem scR_apply (H : Fin 32) (i : Fin 1024) (J : Fin 4096) : scR (qR x wq) k (ix4 0 H i J) = score x wq k H i J := by
  have e : scR (qR x wq) k (ix4 0 H i J)
      = Host.dotGeneral dot_S1x1024x32x128_S1x4096x32x128_S1x32x1024x4096_3_3_1_1_02_02 none (qR x wq) k (ix4 0 H i J) * scale := rfl
  rw [e, dot_score, score]
  simp only [qR_apply]

/-! ## The masked rows -/

theorem maskB_apply (H : Fin 32) (i : Fin 1024) (J : Fin 4096) :
    broadcastInDim S1x32x1024x4096 ![0, 1, 2, 3] bcast_S1x1x1024x4096_S1x32x1024x4096_0_1_2_3
      (broadcastInDim S1x1x1024x4096 ![2, 3] bcast_S1024x4096_S1x1x1024x4096_2_3 mask) (ix4 0 H i J) = mask (ix2 i J) := by
  rw [broadcastInDim_apply _ _ _ (ix4 0 H i J) (ix4 0 0 i J) (fun a => by match a with | ⟨0, _⟩ => rfl | ⟨1, _⟩ => rfl | ⟨2, _⟩ => rfl | ⟨3, _⟩ => rfl),
    broadcastInDim_apply _ _ _ (ix4 0 0 i J) (ix2 i J) (fun a => by match a with | ⟨0, _⟩ => rfl | ⟨1, _⟩ => rfl)]

theorem neg_inf : Ideal.ofBits .f32 0xFF800000#32 = ⊥ := by simp [Ideal.ofBits, Ideal.ieee]

theorem msR_apply (s : FVec Ideal S1x32x1024x4096 .f32) (H : Fin 32) (i : Fin 1024) (J : Fin 4096) :
    msR s (ix4 0 H i J) = Soft.masked (Sees i) (fun J => s (ix4 0 H i J)) J := by
  have e : msR s (ix4 0 H i J) = if (broadcastInDim S1x32x1024x4096 ![0, 1, 2, 3] bcast_S1x1x1024x4096_S1x32x1024x4096_0_1_2_3
      (broadcastInDim S1x1x1024x4096 ![2, 3] bcast_S1024x4096_S1x1x1024x4096_2_3 mask) (ix4 0 H i J)) = 1#1 then s (ix4 0 H i J)
      else Ideal.ofBits .f32 0xFF800000#32 := rfl
  rw [e, maskB_apply, mask_apply, neg_inf, Soft.masked]
  by_cases h : Sees i J
  · rw [if_pos h, if_pos h, if_pos rfl]
  · rw [if_neg h, if_neg h, if_neg (by decide)]

theorem reduces_last : S1x32x1024x4096.Reduces [3] S1x32x1024 := by decide
theorem lift_last (H : Fin 32) (i : Fin 1024) (J : Fin 4096) : reduces_last.lift (ix3 0 H i) J = ix4 0 H i J := by
  funext a
  match a with
  | ⟨0, _⟩ => rfl
  | ⟨1, _⟩ => rfl
  | ⟨2, _⟩ => rfl
  | ⟨3, _⟩ => rfl

theorem mxR_apply (s : FVec Ideal S1x32x1024x4096 .f32) (H : Fin 32) (i : Fin 1024) :
    mxR s (ix3 0 H i) = Finset.univ.fold max ⊥ fun J : Fin 4096 => s (ix4 0 H i J) := by
  unfold mxR
  have e := Host.reduce_eq_fold_single (max : EReal → EReal → EReal) s (constant (F := Ideal) S_ .f32 0xFF800000#32) reducesTo_S1x32x1024x4096_S1x32x1024_d3
    reduces_last h_S_ (ix3 0 H i)
  refine Eq.trans e ?_
  have e0 : (constant (F := Ideal) S_ .f32 0xFF800000#32) (Shape.Idx.first h_S_) = (⊥ : EReal) := neg_inf
  rw [e0]
  have e1 : s ∘ reduces_last.lift (ix3 0 H i) = fun J : Fin 4096 => s (ix4 0 H i J) := funext fun J => congrArg s (lift_last H i J)
  rw [e1]
  rfl

theorem alongR_apply (u : FVec Ideal S1x32x1024x1 .f32) (H : Fin 32) (i : Fin 1024) (J : Fin 4096) : alongR u (ix4 0 H i J) = u (ix4 0 H i 0) :=
  broadcastInDim_apply _ _ _ (ix4 0 H i J) (ix4 0 H i 0) (fun a => by match a with | ⟨0, _⟩ => rfl | ⟨1, _⟩ => rfl | ⟨2, _⟩ => rfl | ⟨3, _⟩ => rfl)
theorem colR_apply (u : FVec Ideal S1x32x1024 .f32) (H : Fin 32) (i : Fin 1024) : colR u (ix4 0 H i 0) = u (ix3 0 H i) :=
  broadcastInDim_apply _ _ _ (ix4 0 H i 0) (ix3 0 H i) (fun a => by match a with | ⟨0, _⟩ => rfl | ⟨1, _⟩ => rfl | ⟨2, _⟩ => rfl)

theorem exR_apply (s : FVec Ideal S1x32x1024x4096 .f32) (H : Fin 32) (i : Fin 1024) (J : Fin 4096) :
    exR s (ix4 0 H i J) = Ideal.exp (s (ix4 0 H i J) - Finset.univ.fold max ⊥ fun J : Fin 4096 => s (ix4 0 H i J)) := by
  have e : exR s (ix4 0 H i J) = Ideal.exp (s (ix4 0 H i J) - alongR (colR (mxR s)) (ix4 0 H i J)) := rfl
  rw [e, alongR_apply, colR_apply, mxR_apply]

theorem keepCol_apply (H : Fin 32) (i : Fin 1024) :
    broadcastInDim S1x32x1024x1 ![0, 1, 2, 3] bcast_S1x1x1024x1_S1x32x1024x1_0_1_2_3
      (broadcastInDim S1x1x1024x1 ![2] bcast_S1024_S1x1x1024x1_2 keepRow) (ix4 0 H i 0) = 1#1 := by
  rw [broadcastInDim_apply _ _ _ (ix4 0 H i 0) (ix4 0 0 i 0) (fun a => by match a with | ⟨0, _⟩ => rfl | ⟨1, _⟩ => rfl | ⟨2, _⟩ => rfl | ⟨3, _⟩ => rfl),
    broadcastInDim_apply _ _ _ (ix4 0 0 i 0) (ix1 i) (fun a => by match a with | ⟨0, _⟩ => rfl), keepRow_apply]
theorem keepAll_apply (H : Fin 32) (i : Fin 1024) (J : Fin 4096) :
    broadcastInDim S1x32x1024x4096 ![0, 1, 2, 3] bcast_S1x1x1024x1_S1x32x1024x4096_0_1_2_3
      (broadcastInDim S1x1x1024x1 ![2] bcast_S1024_S1x1x1024x1_2 keepRow) (ix4 0 H i J) = 1#1 := by
  rw [broadcastInDim_apply _ _ _ (ix4 0 H i J) (ix4 0 0 i 0) (fun a => by match a with | ⟨0, _⟩ => rfl | ⟨1, _⟩ => rfl | ⟨2, _⟩ => rfl | ⟨3, _⟩ => rfl),
    broadcastInDim_apply _ _ _ (ix4 0 0 i 0) (ix1 i) (fun a => by match a with | ⟨0, _⟩ => rfl), keepRow_apply]

theorem smR_apply (e : FVec Ideal S1x32x1024x4096 .f32) (H : Fin 32) (i : Fin 1024) : smR e (ix4 0 H i 0) = ∑ J : Fin 4096, e (ix4 0 H i J) := by
  have e0 : smR e (ix4 0 H i 0) = if (broadcastInDim S1x32x1024x1 ![0, 1, 2, 3] bcast_S1x1x1024x1_S1x32x1024x1_0_1_2_3
      (broadcastInDim S1x1x1024x1 ![2] bcast_S1024_S1x1x1024x1_2 keepRow) (ix4 0 H i 0)) = 1#1 then
      colR (Host.reduceAdd e (constant S_ .f32 0x00000000#32) reducesTo_S1x32x1024x4096_S1x32x1024_d3 h_S_) (ix4 0 H i 0)
      else Ideal.ofBits .f32 0x3F800000#32 := rfl
  rw [e0, keepCol_apply, if_pos rfl, colR_apply]
  have e1 := Ideal.hostReduceAdd_single reducesTo_S1x32x1024x4096_S1x32x1024_d3 reduces_last e (Ideal.ofBits .f32 0x00000000#32) (ix3 0 H i)
  refine Eq.trans e1 ?_
  rw [Ideal.ofBits_zero_f32, zero_add]
  exact Finset.sum_congr rfl fun J _ => congrArg e (lift_last H i J)

theorem wtR_apply (e : FVec Ideal S1x32x1024x4096 .f32) (H : Fin 32) (i : Fin 1024) (J : Fin 4096) :
    wtR e (ix4 0 H i J) = Ideal.div (e (ix4 0 H i J)) (∑ J : Fin 4096, e (ix4 0 H i J)) := by
  have e0 : wtR e (ix4 0 H i J) = if (broadcastInDim S1x32x1024x4096 ![0, 1, 2, 3] bcast_S1x1x1024x1_S1x32x1024x4096_0_1_2_3
      (broadcastInDim S1x1x1024x1 ![2] bcast_S1024_S1x1x1024x1_2 keepRow) (ix4 0 H i J)) = 1#1 then
      Host.divf e (alongR (smR e)) (ix4 0 H i J)
      else broadcastInDim S1x32x1024x4096 ![] bcast_S_S1x32x1024x4096 (id (constant (F := Ideal) S_ .f32 0x00000000#32)) (ix4 0 H i J) := rfl
  rw [e0, keepAll_apply, if_pos rfl]
  have e1 : Host.divf e (alongR (smR e)) (ix4 0 H i J) = Ideal.div (e (ix4 0 H i J)) (alongR (smR e) (ix4 0 H i J)) := hostDivf_apply _ _ _
  rw [e1, alongR_apply, smR_apply]

/-! ## The result -/

theorem cxR_apply (w : FVec Ideal S1x32x1024x4096 .f32) (H : Fin 32) (d : Fin 128) (i : Fin 1024) :
    cxR w v (ix3 0 i (col H d)) = ∑ J : Fin 4096, v (ix4 0 J H d) * w (ix4 0 H i J) := by
  unfold cxR
  rw [shapeCast_apply _ _ (ix3 0 i (col H d)) (ix4 0 i H d) (by
      rw [Shape.rowMajor_val_three, Shape.rowMajor_val_four]
      show ((0 * 1024 + i.val) * 32 + H.val) * 128 + d.val = (0 * 1024 + i.val) * 4096 + (128 * H.val + d.val)
      omega),
    transpose_apply _ _ _ (ix4 0 i H d) (ix4 0 H d i) (fun b => by match b with | ⟨0, _⟩ => rfl | ⟨1, _⟩ => rfl | ⟨2, _⟩ => rfl | ⟨3, _⟩ => rfl), dot_ctx]

/-- The weighted values of head `H`, over the keys query `i` sees. -/
def ctxE (H : Fin 32) (d : Fin 128) (i : Fin 1024) : EReal :=
  Ideal.div (∑ J with Sees i J, Ideal.exp (score x wq k H i J) * v (ix4 0 J H d)) (∑ J with Sees i J, Ideal.exp (score x wq k H i J))

theorem ctx_apply (hs : ∀ H i J, Soft.IsReal (score x wq k H i J)) (H : Fin 32) (d : Fin 128) (i : Fin 1024) :
    cxR (wtR (exR (msR (scR (qR x wq) k)))) v (ix3 0 i (col H d)) = ctxE x wq k v H d i := by
  rw [cxR_apply, ctxE, ← Soft.weights (Sees i) (fun J => score x wq k H i J) (fun J => v (ix4 0 J H d)) (hs H i)
    ⟨⟨i.val, by have := i.isLt; omega⟩, rfl⟩]
  refine Finset.sum_congr rfl fun J _ => ?_
  simp only [wtR_apply, exR_apply, msR_apply, scR_apply]

/-- The result at row `i` and column `n`. -/
theorem outR_apply (hs : ∀ H i J, Soft.IsReal (score x wq k H i J)) (i n : Fin 1024) :
    outR x wq k v wo (ix3 0 i n)
      = ∑ T : Fin 4096, ctxE x wq k v ⟨T.val / 128, by omega⟩ ⟨T.val % 128, by omega⟩ i * wo (ix2 T n) := by
  unfold outR
  rw [dot_out]
  refine Finset.sum_congr rfl fun T _ => ?_
  rw [← ctx_apply x wq k v hs]
  refine congrArg (· * _) (congrArg _ (congrArg (ix3 0 i) (Fin.ext ?_)))
  show T.val = 128 * (T.val / 128) + T.val % 128
  omega

end Cert.KRef

end
-- ==== Proof.Match.lean ====
/- The kernel's result and the reference's are equal: the devices' blocks are one array's, the keys of one row block are the
   keys the mask lets a query see, and the two ways to weigh the values agree. -/
module

public import proofs.«01_k».proof.Proof.KerValue
public import proofs.«01_k».proof.Proof.RefValue
public import Idealize.ShloMosaic.Lib.Layout

@[expose] public section

noncomputable section

namespace Cert.Match

open Cert.KernelIdeal Cert.KProg
open Idealize.ShloMosaic Idealize.ShloMosaic.TcCoe Idealize.SL.Sem Idealize.ShloMosaic.ValueIdx

/-- Place `t` of device `c`'s block of a 4096-long axis. -/
abbrev at4 (c : Dev nD) (t : Fin 1024) : Fin 4096 := ⟨1024 * c.val + t.val, by have := c.isLt; have : nD = 4 := rfl; omega⟩

/-- A sum over 4096 device by device. -/
theorem sum_4096 (f : Fin 4096 → EReal) : ∑ T, f T = ∑ c : Dev nD, ∑ t : Fin 1024, f (at4 c t) := by
  rw [← Equiv.sum_comp (finProdFinEquiv (m := 4) (n := 1024)) f, Fintype.sum_prod_type]
  refine Finset.sum_congr rfl fun c _ => Finset.sum_congr rfl fun t _ => congrArg f (Fin.ext ?_)
  show t.val + 1024 * c.val = 1024 * c.val + t.val
  omega

/-- A sum over the keys a query sees, device by device: each device's rows of the query's row block. -/
theorem sum_sees (i : Fin 1024) (f : Fin 4096 → EReal) :
    ∑ J with KRef.Sees i J, f J = ∑ c : Dev nD, ∑ y : Fin 256, f (at4 c (rowRes (resOf i) y)) := by
  rw [← Fintype.sum_prod_type' fun (c : Dev nD) (y : Fin 256) => f (at4 c (rowRes (resOf i) y))]
  have hi := i.isLt
  refine Finset.sum_nbij' (fun J : Fin 4096 => ((⟨J.val / 1024, by have : nD = 4 := rfl; omega⟩ : Dev nD), (⟨64 * (J.val % 1024 / 256) + J.val % 64, by omega⟩ : Fin 256)))
    (fun p => at4 p.1 (rowRes (resOf i) p.2)) ?_ ?_ ?_ ?_ ?_
  · intro J _; exact Finset.mem_univ _
  · rintro ⟨c, y⟩ _
    have hc : c.val < 4 := c.isLt
    have hy := y.isLt
    rw [Finset.mem_filter]
    refine ⟨Finset.mem_univ _, ?_⟩
    show (1024 * c.val + (64 * (i.val % 256 / 64) + 256 * (y.val / 64) + y.val % 64)) / 64 % 4 = i.val / 64 % 4
    omega
  · intro J hJ
    have hs : J.val / 64 % 4 = i.val / 64 % 4 := (Finset.mem_filter.mp hJ).2
    have hJ := J.isLt
    apply Fin.ext
    show 1024 * (J.val / 1024) + (64 * (i.val % 256 / 64) + 256 * ((64 * (J.val % 1024 / 256) + J.val % 64) / 64) + (64 * (J.val % 1024 / 256) + J.val % 64) % 64) = J.val
    omega
  · rintro ⟨c, y⟩ _
    have hc : c.val < 4 := c.isLt
    have hy := y.isLt
    refine Prod.ext (Fin.ext ?_) (Fin.ext ?_)
    · show (1024 * c.val + (64 * (i.val % 256 / 64) + 256 * (y.val / 64) + y.val % 64)) / 1024 = c.val
      omega
    · show 64 * ((1024 * c.val + (64 * (i.val % 256 / 64) + 256 * (y.val / 64) + y.val % 64)) % 1024 / 256)
        + (1024 * c.val + (64 * (i.val % 256 / 64) + 256 * (y.val / 64) + y.val % 64)) % 64 = y.val
      omega
  · intro J hJ
    have hs : J.val / 64 % 4 = i.val / 64 % 4 := (Finset.mem_filter.mp hJ).2
    have hJ := J.isLt
    refine congrArg f (Fin.ext ?_)
    show J.val = 1024 * (J.val / 1024) + (64 * (i.val % 256 / 64) + 256 * ((64 * (J.val % 1024 / 256) + J.val % 64) / 64) + (64 * (J.val % 1024 / 256) + J.val % 64) % 64)
    omega

variable (m : (ℓ : Loc nD τ sig) → Buf (Elt Ideal) ℓ)
variable (X : FVec Ideal ⟨3, ![1, 1024, 1024]⟩ .f32) (WQ : FVec Ideal ⟨2, ![1024, 4096]⟩ .f32) (KK VV : FVec Ideal ⟨4, ![1, 4096, 32, 128]⟩ .f32)
  (WO : FVec Ideal ⟨2, ![4096, 1024]⟩ .f32)

/-- Each device holds its block of the whole arrays. -/
structure Blocks : Prop where
  x : ∀ c i n, xA m c (ix2 i n) = X (ix3 0 i n)
  wq : ∀ c n t, wqA m c (ix2 n t) = WQ (ix2 n (at4 c t))
  k : ∀ c j H d, kvA m false c (ix4 0 j H d) = KK (ix4 0 (at4 c j) H d)
  v : ∀ c j H d, kvA m true c (ix4 0 j H d) = VV (ix4 0 (at4 c j) H d)
  wo : ∀ c t n, woA m c (ix2 t n) = WO (ix2 (at4 c t) n)

variable {m X WQ KK VV WO}

theorem score_eq (h : Blocks m X WQ KK VV WO) (c : Dev nD) (g : Fin 8) (i : Fin 1024) (e : Dev nD) (j : Fin 1024) :
    sK m c g i e j = KRef.score X WQ KK (hd c g) i (at4 e j) := by
  have ec : ∀ d : Fin 128, at4 c (colK g d) = KRef.col (hd c g) d := fun d =>
    Fin.ext (by show 1024 * c.val + (128 * g.val + d.val) = 128 * (8 * c.val + g.val) + d.val; omega)
  unfold sK KRef.score
  simp only [h.x, h.wq, h.k, ec]
  rfl

theorem ctx_eq (h : Blocks m X WQ KK VV WO) (c : Dev nD) (g : Fin 8) (i : Fin 1024) (d : Fin 128) :
    Ideal.div (numK m c (resOf i) g i d) (denK m c (resOf i) g i) = KRef.ctxE X WQ KK VV (hd c g) d i := by
  unfold numK denK KRef.ctxE
  rw [sum_sees, sum_sees]
  simp only [score_eq h, h.v]

/-- The two results, element by element. -/
theorem result_eq (h : Blocks m X WQ KK VV WO) (hs : ∀ H i J, Soft.IsReal (KRef.score X WQ KK H i J)) (c : Dev nD) :
    resC m c = KRef.outR X WQ KK VV WO := by
  funext j
  obtain ⟨u, i, n, rfl⟩ : ∃ (u : Fin 1) (i n : Fin 1024), j = ix3 u i n := ⟨_, _, _, eq_ix3 j⟩
  obtain rfl : u = 0 := Subsingleton.elim _ _
  rw [KRef.outR_apply X WQ KK VV WO hs, sum_4096]
  refine (resC_apply m c i n).trans ?_
  refine Finset.sum_congr rfl fun e _ => Finset.sum_congr rfl fun t _ => ?_
  rw [ctx_eq h, h.wo]
  have he : e.val < 4 := e.isLt
  have e1 : (⟨(at4 e t).val / 128, by omega⟩ : Fin 32) = hd e (headOf t) :=
    Fin.ext (by show (1024 * e.val + t.val) / 128 = 8 * e.val + t.val / 128; omega)
  have e2 : (⟨(at4 e t).val % 128, by omega⟩ : Fin 128) = inHead t :=
    Fin.ext (by show (1024 * e.val + t.val) % 128 = t.val % 128; omega)
  rw [e1, e2]

theorem scale_real : Soft.IsReal KRef.scale := by
  unfold KRef.scale
  simp only [Ideal.ofBits, Ideal.ieee]
  exact ⟨_, rfl⟩

/-- Real inputs, query weights and keys have real scores. -/
theorem score_real (hx : ∀ i, Soft.IsReal (X i)) (hq : ∀ i, Soft.IsReal (WQ i)) (hk : ∀ i, Soft.IsReal (KK i)) (H : Fin 32) (i : Fin 1024) (J : Fin 4096) :
    Soft.IsReal (KRef.score X WQ KK H i J) :=
  .mul (.sum fun _ => .mul (.sum fun _ => .mul (hx _) (hq _)) (hk _)) scale_real

end Cert.Match

end
-- ==== Proof.Finite.lean ====
/- The precondition read at an index: the input, the query weights and the keys are real numbers. -/
module

public import proofs.«01_k».proof.Defs
public import proofs.«01_k».proof.Proof.Soft
public import Idealize.ShloMosaic.Lib.ValueIdxCore
public import Idealize.ShloMosaic.PureOps.Reduce
public import Idealize.ShloMosaic.PureOps.Ideal

@[expose] public section

noncomputable section

namespace Cert.Finite

open Cert Cert.Pre_scores_finite_KernelIdeal
open Idealize.ShloMosaic Idealize.ShloMosaic.ValueIdx

instance {w : ℕ} : Std.Commutative (IntOp.andi (w := w)) := ⟨fun a b => BitVec.and_comm a b⟩
instance {w : ℕ} : Std.Associative (IntOp.andi (w := w)) := ⟨fun a b c => BitVec.and_assoc a b c⟩

theorem and_one : ∀ a b : BitVec 1, IntOp.andi a b = 1#1 → a = 1#1 ∧ b = 1#1 := by decide

/-- Words and-ed together are 1 only when each is. -/
theorem fold_andi_one {J : Type} (t : Finset J) (f : J → BitVec 1) (h : t.fold IntOp.andi 1#1 f = 1#1) : ∀ j ∈ t, f j = 1#1 := by
  classical
  induction t using Finset.induction_on with
  | empty => simp
  | insert a t ha ih =>
    rw [Finset.fold_insert ha] at h
    obtain ⟨h1, h2⟩ := and_one _ _ h
    intro j hj
    rcases Finset.mem_insert.mp hj with rfl | hj
    · exact h1
    · exact ih h2 j hj

theorem inf_word : Ideal.ofBits .f32 0x7F800000#32 = ⊤ := by simp [Ideal.ofBits, Ideal.ieee]

theorem real_of_cmp (x : EReal) (h : Ideal.cmp .olt (max x (-x)) (Ideal.ofBits .f32 0x7F800000#32) = 1#1) : Soft.IsReal x := by
  rw [inf_word] at h
  refine Soft.isReal_of_abs_lt ?_
  by_contra hn
  simp [Ideal.cmp, hn] at h

/-- An array all of whose absolute values lie below infinity holds real numbers. -/
theorem real_of_reduce {s : Shape} {axes : List (Fin s.rank)} (a : FVec Ideal s .f32) (hb : S_.BroadcastsInDim s ![]) (hr : s.ReducesTo axes S_) (hu : 0 < S_.numel)
    (h : Host.reduce IntOp.andi (cmpf .olt (Host.absf a) (broadcastInDim s ![] hb (constant S_ .f32 0x7F800000#32))) (constantI S_ 1 1#1) hr hu ix0 = 1#1)
    (i : s.Idx) : Soft.IsReal (a i) := by
  rw [Host.reduce_eq_fold] at h
  have e := fold_andi_one _ _ h i (by
    rw [Finset.mem_filter]
    exact ⟨Finset.mem_univ _, funext fun k => k.elim0⟩)
  exact real_of_cmp (a i) e

variable [Facts]

theorem reals (x : FVec Ideal S1x1024x1024 .f32) (wq : FVec Ideal S1024x1024 .f32) (k v : FVec Ideal S1x1024x32x128 .f32) (wo : FVec Ideal S1024x1024 .f32)
    (h : fn (F := Ideal) x wq k v wo = fun _ => 1#1) :
    (∀ i, Soft.IsReal (x i)) ∧ (∀ i, Soft.IsReal (wq i)) ∧ (∀ i, Soft.IsReal (k i)) := by
  have h0 := congrFun h ix0
  obtain ⟨h1, h2⟩ := and_one _ _ h0
  obtain ⟨h3, h4⟩ := and_one _ _ h1
  exact ⟨real_of_reduce x _ _ _ h3, real_of_reduce wq _ _ _ h4, real_of_reduce k _ _ _ h2⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Match
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.SL.Sem Cert.Kernel

/-- The kernel, over its float words: it ends, its arguments unchanged and every semaphore at zero. The two programs have one text, so the run is the other program's. -/
theorem frame_kernel : Cert.quiescent_Kernel := fun m ρ _ =>
  (θ_run Cert.KernelIdeal.defs _ _).mono (fun _ h => ⟨fun c => (h.1 c).2, h.2⟩) (Cert.KProg.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.KProg.run_main (F := Ideal) m ρ)

/-- The reference ends, its arguments unchanged; it has no semaphores. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

instance pre_kernel : Cert.Pre_scores_finite_KernelIdeal.Facts := ⟨by decide, by decide, by decide, by decide, by decide, by decide, by decide⟩
instance pre_reference : Cert.Pre_scores_finite_ReferenceIdeal.Facts := ⟨by decide, by decide, by decide, by decide, by decide, by decide, by decide⟩

open Cert.KernelIdeal Cert.KProg Cert.Match in
/-- Where the results' memories agree by the layout, each device holds its block of the reference's arrays. -/
theorem blocks (m : (ℓ : Loc Cert.KernelIdeal.nD Cert.KernelIdeal.τ Cert.KernelIdeal.sig) → Buf (Elt Ideal) ℓ)
    (X : FVec Ideal ⟨3, ![1, 1024, 1024]⟩ .f32) (WQ : FVec Ideal ⟨2, ![1024, 4096]⟩ .f32) (KK VV : FVec Ideal ⟨4, ![1, 4096, 32, 128]⟩ .f32)
    (WO : FVec Ideal ⟨2, ![4096, 1024]⟩ .f32)
    (h : ∀ c : Dev Cert.KernelIdeal.nD,
      m ((c.tc : Thread Cert.KernelIdeal.nD Cert.KernelIdeal.τ).loc Cert.KernelIdeal.main_arg0) = X
      ∧ m ((c.tc : Thread Cert.KernelIdeal.nD Cert.KernelIdeal.τ).loc Cert.KernelIdeal.main_arg1) = Layout.block ⟨2, ![1024, 1024]⟩ ⟨2, ![1024, 4096]⟩ 1 4 c WQ
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c KK
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c VV
      ∧ m ((c.tc : Thread Cert.KernelIdeal.nD Cert.KernelIdeal.τ).loc Cert.KernelIdeal.main_arg4) = Layout.block ⟨2, ![1024, 1024]⟩ ⟨2, ![4096, 1024]⟩ 0 4 c WO) :
    Blocks m X WQ KK VV WO where
  x c i n := congrFun (h c).1 (ix3 0 i n)
  wq c n t := (congrFun (h c).2.1 (ix2 n t)).trans (congrArg WQ (funext fun a => Fin.ext (match a with
    | ⟨0, _⟩ => rfl
    | ⟨1, _⟩ => by show c.val * 1024 + t.val = 1024 * c.val + t.val; omega)))
  k c j H d := (congrFun (h c).2.2.1 (ix4 0 j H d)).trans (congrArg KK (funext fun a => Fin.ext (match a with
    | ⟨0, _⟩ => rfl
    | ⟨1, _⟩ => by show c.val * 1024 + j.val = 1024 * c.val + j.val; omega
    | ⟨2, _⟩ => rfl
    | ⟨3, _⟩ => rfl)))
  v c j H d := (congrFun (h c).2.2.2.1 (ix4 0 j H d)).trans (congrArg VV (funext fun a => Fin.ext (match a with
    | ⟨0, _⟩ => rfl
    | ⟨1, _⟩ => by show c.val * 1024 + j.val = 1024 * c.val + j.val; omega
    | ⟨2, _⟩ => rfl
    | ⟨3, _⟩ => rfl)))
  wo c t n := (congrFun (h c).2.2.2.2 (ix2 t n)).trans (congrArg WO (funext fun a => Fin.ext (match a with
    | ⟨0, _⟩ => by show c.val * 1024 + t.val = 1024 * c.val + t.val; omega
    | ⟨1, _⟩ => rfl)))

/-- A place of a 4096-long axis is a place of some device's block. -/
theorem at4_surj (T : Fin 4096) : ∃ (c : Dev Cert.KernelIdeal.nD) (t : Fin 1024), Cert.Match.at4 c t = T :=
  ⟨⟨T.val / 1024, by have : Cert.KernelIdeal.nD = 4 := rfl; omega⟩, ⟨T.val % 1024, by omega⟩,
    Fin.ext (by show 1024 * (T.val / 1024) + T.val % 1024 = T.val; omega)⟩

open Cert.KernelIdeal Cert.KProg Cert.Match in
/-- Over the extended reals, with finite inputs, query weights and keys, every device ends with the reference's result. -/
theorem value : Cert.algebraic_KernelIdeal_ReferenceIdeal_pre_scores_finite_KernelIdeal := fun m g m' g' hp hb => by
  have B := blocks m _ _ _ _ _ hb
  have R := fun c => Cert.Finite.reals _ _ _ _ _ (hp c)
  have hs := score_real
    (X := m' (((0 : Dev Cert.ReferenceIdeal.nD).tc : Thread Cert.ReferenceIdeal.nD Cert.ReferenceIdeal.τ).loc Cert.ReferenceIdeal.main_arg0))
    (WQ := m' (((0 : Dev Cert.ReferenceIdeal.nD).tc : Thread Cert.ReferenceIdeal.nD Cert.ReferenceIdeal.τ).loc Cert.ReferenceIdeal.main_arg1))
    (KK := m' (((0 : Dev Cert.ReferenceIdeal.nD).tc : Thread Cert.ReferenceIdeal.nD Cert.ReferenceIdeal.τ).loc Cert.ReferenceIdeal.main_arg2))
    (fun i => by
      obtain ⟨u, a, b, rfl⟩ : ∃ (u : Fin 1) (a b : Fin 1024), i = ix3 u a b := ⟨_, _, _, eq_ix3 i⟩
      obtain rfl : u = 0 := Subsingleton.elim _ _
      rw [← B.x 0 a b]; exact (R 0).1 _)
    (fun i => by
      obtain ⟨a, b, rfl⟩ : ∃ (a : Fin 1024) (b : Fin 4096), i = ix2 a b := ⟨_, _, eq_ix2 i⟩
      obtain ⟨c, t, rfl⟩ := at4_surj b
      rw [← B.wq c a t]; exact (R c).2.1 _)
    (fun i => by
      obtain ⟨u, b, H, d, rfl⟩ : ∃ (u : Fin 1) (b : Fin 4096) (H : Fin 32) (d : Fin 128), i = ix4 u b H d := ⟨_, _, _, _, eq_ix4 i⟩
      obtain rfl : u = 0 := Subsingleton.elim _ _
      obtain ⟨c, t, rfl⟩ := at4_surj b
      rw [← B.k c t H d]; exact (R c).2.2 _)
  refine ⟨_, (θ_run Cert.KernelIdeal.defs _ _).mono (fun _ h c => ⟨(h.1 c).1.trans (result_eq B hs c), (h.1 c).2⟩) (run_main (F := Ideal) m g),
    (θ_run Cert.ReferenceIdeal.defs _ _).mono (fun _ h => ⟨(h 0).1.trans (Cert.KRef.res_eq m' 0), (h 0).2⟩) (Cert.ReferenceIdeal.Value.run (F := Ideal) m' g')⟩

theorem claim : Cert.Claim := ⟨Cert.Kernel.Gen.facts, Cert.KernelIdeal.Gen.facts, Cert.ReferenceIdeal.Gen.facts, pre_kernel, pre_reference,
  frame_kernel, frame_ideal, fun m ρ _ => frame_ideal m ρ trivial, frame_reference, fun m ρ _ => frame_reference m ρ trivial, trivial, value⟩

end Cert.Proof

end
